-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_FfnDownX (m : (ℓ : Loc Cert.FfnDownX.nD Cert.FfnDownX.τ Cert.FfnDownX.sig) → Buf (Elt Bits) ℓ) : Prop :=
  True

def Pre_FfnDownXIdeal (m : (ℓ : Loc Cert.FfnDownXIdeal.nD Cert.FfnDownXIdeal.τ Cert.FfnDownXIdeal.sig) → Buf (Elt Ideal) ℓ) : Prop :=
  True

def Pre_FfnDownXRefIdeal (m : (ℓ : Loc Cert.FfnDownXRefIdeal.nD Cert.FfnDownXRefIdeal.τ Cert.FfnDownXRefIdeal.sig) → Buf (Elt Ideal) ℓ) : Prop :=
  True

def Pre_FfnUpX (m : (ℓ : Loc Cert.FfnUpX.nD Cert.FfnUpX.τ Cert.FfnUpX.sig) → Buf (Elt Bits) ℓ) : Prop :=
  True

def Pre_FfnUpXIdeal (m : (ℓ : Loc Cert.FfnUpXIdeal.nD Cert.FfnUpXIdeal.τ Cert.FfnUpXIdeal.sig) → Buf (Elt Ideal) ℓ) : Prop :=
  True

def Pre_FfnUpXRefIdeal (m : (ℓ : Loc Cert.FfnUpXRefIdeal.nD Cert.FfnUpXRefIdeal.τ Cert.FfnUpXRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_AttX (m : (ℓ : Loc Cert.AttX.nD Cert.AttX.τ Cert.AttX.sig) → Buf (Elt Bits) ℓ) : Prop :=
  True

def Pre_AttXIdeal (m : (ℓ : Loc Cert.AttXIdeal.nD Cert.AttXIdeal.τ Cert.AttXIdeal.sig) → Buf (Elt Ideal) ℓ) : Prop :=
  True

def Pre_AttXRefIdeal (m : (ℓ : Loc Cert.AttXRefIdeal.nD Cert.AttXRefIdeal.τ Cert.AttXRefIdeal.sig) → Buf (Elt Ideal) ℓ) : Prop :=
  True

def Pre_SsmX (m : (ℓ : Loc Cert.SsmX.nD Cert.SsmX.τ Cert.SsmX.sig) → Buf (Elt Bits) ℓ) : Prop :=
  True

def Pre_SsmXIdeal (m : (ℓ : Loc Cert.SsmXIdeal.nD Cert.SsmXIdeal.τ Cert.SsmXIdeal.sig) → Buf (Elt Ideal) ℓ) : Prop :=
  True

def Pre_SsmXRefIdeal (m : (ℓ : Loc Cert.SsmXRefIdeal.nD Cert.SsmXRefIdeal.τ Cert.SsmXRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_FfnDownW (m : (ℓ : Loc Cert.FfnDownW.nD Cert.FfnDownW.τ Cert.FfnDownW.sig) → Buf (Elt Bits) ℓ) : Prop :=
  True

def Pre_FfnDownWIdeal (m : (ℓ : Loc Cert.FfnDownWIdeal.nD Cert.FfnDownWIdeal.τ Cert.FfnDownWIdeal.sig) → Buf (Elt Ideal) ℓ) : Prop :=
  True

def Pre_FfnDownWRefIdeal (m : (ℓ : Loc Cert.FfnDownWRefIdeal.nD Cert.FfnDownWRefIdeal.τ Cert.FfnDownWRefIdeal.sig) → Buf (Elt Ideal) ℓ) : Prop :=
  True

def Pre_FfnUpW (m : (ℓ : Loc Cert.FfnUpW.nD Cert.FfnUpW.τ Cert.FfnUpW.sig) → Buf (Elt Bits) ℓ) : Prop :=
  True

def Pre_FfnUpWIdeal (m : (ℓ : Loc Cert.FfnUpWIdeal.nD Cert.FfnUpWIdeal.τ Cert.FfnUpWIdeal.sig) → Buf (Elt Ideal) ℓ) : Prop :=
  True

def Pre_FfnUpWRefIdeal (m : (ℓ : Loc Cert.FfnUpWRefIdeal.nD Cert.FfnUpWRefIdeal.τ Cert.FfnUpWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_AttW (m : (ℓ : Loc Cert.AttW.nD Cert.AttW.τ Cert.AttW.sig) → Buf (Elt Bits) ℓ) : Prop :=
  True

def Pre_AttWIdeal (m : (ℓ : Loc Cert.AttWIdeal.nD Cert.AttWIdeal.τ Cert.AttWIdeal.sig) → Buf (Elt Ideal) ℓ) : Prop :=
  True

def Pre_AttWRefIdeal (m : (ℓ : Loc Cert.AttWRefIdeal.nD Cert.AttWRefIdeal.τ Cert.AttWRefIdeal.sig) → Buf (Elt Ideal) ℓ) : Prop :=
  True

def Pre_SsmW (m : (ℓ : Loc Cert.SsmW.nD Cert.SsmW.τ Cert.SsmW.sig) → Buf (Elt Bits) ℓ) : Prop :=
  True

def Pre_SsmWIdeal (m : (ℓ : Loc Cert.SsmWIdeal.nD Cert.SsmWIdeal.τ Cert.SsmWIdeal.sig) → Buf (Elt Ideal) ℓ) : Prop :=
  True

def Pre_SsmWRefIdeal (m : (ℓ : Loc Cert.SsmWRefIdeal.nD Cert.SsmWRefIdeal.τ Cert.SsmWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnDownX [hFfnDownX : Cert.FfnDownX.Facts] : Prop :=
  ∀ (m : (ℓ : Loc Cert.FfnDownX.nD Cert.FfnDownX.τ Cert.FfnDownX.sig) → Buf (Elt Bits) ℓ) (g : Dev Cert.FfnDownX.nD → PrngReg), Pre_FfnDownX m →
    θ_run (Cert.FfnDownX.defs (F := Bits)) (onTc (τ := Cert.FfnDownX.τ) (Cert.FfnDownX.main (F := Bits))) ⟨m, fun _ => 0, g⟩ (fun r => (∀ c : Dev Cert.FfnDownX.nD,
      r.2.mem ((c.tc : Thread Cert.FfnDownX.nD Cert.FfnDownX.τ).loc Cert.FfnDownX.main_arg0) = m ((c.tc : Thread Cert.FfnDownX.nD Cert.FfnDownX.τ).loc Cert.FfnDownX.main_arg0)
      ∧ r.2.mem ((c.tc : Thread Cert.FfnDownX.nD Cert.FfnDownX.τ).loc Cert.FfnDownX.main_arg1) = m ((c.tc : Thread Cert.FfnDownX.nD Cert.FfnDownX.τ).loc Cert.FfnDownX.main_arg1)
      ∧ r.2.mem ((c.tc : Thread Cert.FfnDownX.nD Cert.FfnDownX.τ).loc Cert.FfnDownX.main_arg2) = m ((c.tc : Thread Cert.FfnDownX.nD Cert.FfnDownX.τ).loc Cert.FfnDownX.main_arg2))
      ∧ r.2.sem = fun _ => 0)

def quiescent_FfnDownXIdeal [hFfnDownXIdeal : Cert.FfnDownXIdeal.Facts] : Prop :=
  ∀ (m : (ℓ : Loc Cert.FfnDownXIdeal.nD Cert.FfnDownXIdeal.τ Cert.FfnDownXIdeal.sig) → Buf (Elt Ideal) ℓ) (g : Dev Cert.FfnDownXIdeal.nD → PrngReg), Pre_FfnDownXIdeal m →
    θ_run (Cert.FfnDownXIdeal.defs (F := Ideal)) (onTc (τ := Cert.FfnDownXIdeal.τ) (Cert.FfnDownXIdeal.main (F := Ideal))) ⟨m, fun _ => 0, g⟩ (fun r => (∀ c : Dev Cert.FfnDownXIdeal.nD,
      r.2.mem ((c.tc : Thread Cert.FfnDownXIdeal.nD Cert.FfnDownXIdeal.τ).loc Cert.FfnDownXIdeal.main_arg0) = m ((c.tc : Thread Cert.FfnDownXIdeal.nD Cert.FfnDownXIdeal.τ).loc Cert.FfnDownXIdeal.main_arg0)
      ∧ r.2.mem ((c.tc : Thread Cert.FfnDownXIdeal.nD Cert.FfnDownXIdeal.τ).loc Cert.FfnDownXIdeal.main_arg1) = m ((c.tc : Thread Cert.FfnDownXIdeal.nD Cert.FfnDownXIdeal.τ).loc Cert.FfnDownXIdeal.main_arg1)
      ∧ r.2.mem ((c.tc : Thread Cert.FfnDownXIdeal.nD Cert.FfnDownXIdeal.τ).loc Cert.FfnDownXIdeal.main_arg2) = m ((c.tc : Thread Cert.FfnDownXIdeal.nD Cert.FfnDownXIdeal.τ).loc Cert.FfnDownXIdeal.main_arg2))
      ∧ r.2.sem = fun _ => 0)

def quiescent_FfnDownXRefIdeal [hFfnDownXRefIdeal : Cert.FfnDownXRefIdeal.Facts] : Prop :=
  ∀ (m : (ℓ : Loc Cert.FfnDownXRefIdeal.nD Cert.FfnDownXRefIdeal.τ Cert.FfnDownXRefIdeal.sig) → Buf (Elt Ideal) ℓ) (g : Dev Cert.FfnDownXRefIdeal.nD → PrngReg), Pre_FfnDownXRefIdeal m →
    θ_run (Cert.FfnDownXRefIdeal.defs (F := Ideal)) (onTc (τ := Cert.FfnDownXRefIdeal.τ) (Cert.FfnDownXRefIdeal.main (F := Ideal))) ⟨m, fun _ => 0, g⟩ (fun r => (∀ c : Dev Cert.FfnDownXRefIdeal.nD,
      r.2.mem ((c.tc : Thread Cert.FfnDownXRefIdeal.nD Cert.FfnDownXRefIdeal.τ).loc Cert.FfnDownXRefIdeal.main_arg0) = m ((c.tc : Thread Cert.FfnDownXRefIdeal.nD Cert.FfnDownXRefIdeal.τ).loc Cert.FfnDownXRefIdeal.main_arg0)
      ∧ r.2.mem ((c.tc : Thread Cert.FfnDownXRefIdeal.nD Cert.FfnDownXRefIdeal.τ).loc Cert.FfnDownXRefIdeal.main_arg1) = m ((c.tc : Thread Cert.FfnDownXRefIdeal.nD Cert.FfnDownXRefIdeal.τ).loc Cert.FfnDownXRefIdeal.main_arg1)
      ∧ r.2.mem ((c.tc : Thread Cert.FfnDownXRefIdeal.nD Cert.FfnDownXRefIdeal.τ).loc Cert.FfnDownXRefIdeal.main_arg2) = m ((c.tc : Thread Cert.FfnDownXRefIdeal.nD Cert.FfnDownXRefIdeal.τ).loc Cert.FfnDownXRefIdeal.main_arg2))
      ∧ r.2.sem = fun _ => 0)

def quiescent_FfnUpX [hFfnUpX : Cert.FfnUpX.Facts] : Prop :=
  ∀ (m : (ℓ : Loc Cert.FfnUpX.nD Cert.FfnUpX.τ Cert.FfnUpX.sig) → Buf (Elt Bits) ℓ) (g : Dev Cert.FfnUpX.nD → PrngReg), Pre_FfnUpX m →
    θ_run (Cert.FfnUpX.defs (F := Bits)) (onTc (τ := Cert.FfnUpX.τ) (Cert.FfnUpX.main (F := Bits))) ⟨m, fun _ => 0, g⟩ (fun r => (∀ c : Dev Cert.FfnUpX.nD,
      r.2.mem ((c.tc : Thread Cert.FfnUpX.nD Cert.FfnUpX.τ).loc Cert.FfnUpX.main_arg0) = m ((c.tc : Thread Cert.FfnUpX.nD Cert.FfnUpX.τ).loc Cert.FfnUpX.main_arg0)
      ∧ r.2.mem ((c.tc : Thread Cert.FfnUpX.nD Cert.FfnUpX.τ).loc Cert.FfnUpX.main_arg1) = m ((c.tc : Thread Cert.FfnUpX.nD Cert.FfnUpX.τ).loc Cert.FfnUpX.main_arg1))
      ∧ r.2.sem = fun _ => 0)

def quiescent_FfnUpXIdeal [hFfnUpXIdeal : Cert.FfnUpXIdeal.Facts] : Prop :=
  ∀ (m : (ℓ : Loc Cert.FfnUpXIdeal.nD Cert.FfnUpXIdeal.τ Cert.FfnUpXIdeal.sig) → Buf (Elt Ideal) ℓ) (g : Dev Cert.FfnUpXIdeal.nD → PrngReg), Pre_FfnUpXIdeal m →
    θ_run (Cert.FfnUpXIdeal.defs (F := Ideal)) (onTc (τ := Cert.FfnUpXIdeal.τ) (Cert.FfnUpXIdeal.main (F := Ideal))) ⟨m, fun _ => 0, g⟩ (fun r => (∀ c : Dev Cert.FfnUpXIdeal.nD,
      r.2.mem ((c.tc : Thread Cert.FfnUpXIdeal.nD Cert.FfnUpXIdeal.τ).loc Cert.FfnUpXIdeal.main_arg0) = m ((c.tc : Thread Cert.FfnUpXIdeal.nD Cert.FfnUpXIdeal.τ).loc Cert.FfnUpXIdeal.main_arg0)
      ∧ r.2.mem ((c.tc : Thread Cert.FfnUpXIdeal.nD Cert.FfnUpXIdeal.τ).loc Cert.FfnUpXIdeal.main_arg1) = m ((c.tc : Thread Cert.FfnUpXIdeal.nD Cert.FfnUpXIdeal.τ).loc Cert.FfnUpXIdeal.main_arg1))
      ∧ r.2.sem = fun _ => 0)

def quiescent_FfnUpXRefIdeal [hFfnUpXRefIdeal : Cert.FfnUpXRefIdeal.Facts] : Prop :=
  ∀ (m : (ℓ : Loc Cert.FfnUpXRefIdeal.nD Cert.FfnUpXRefIdeal.τ Cert.FfnUpXRefIdeal.sig) → Buf (Elt Ideal) ℓ) (g : Dev Cert.FfnUpXRefIdeal.nD → PrngReg), Pre_FfnUpXRefIdeal m →
    θ_run (Cert.FfnUpXRefIdeal.defs (F := Ideal)) (onTc (τ := Cert.FfnUpXRefIdeal.τ) (Cert.FfnUpXRefIdeal.main (F := Ideal))) ⟨m, fun _ => 0, g⟩ (fun r => (∀ c : Dev Cert.FfnUpXRefIdeal.nD,
      r.2.mem ((c.tc : Thread Cert.FfnUpXRefIdeal.nD Cert.FfnUpXRefIdeal.τ).loc Cert.FfnUpXRefIdeal.main_arg0) = m ((c.tc : Thread Cert.FfnUpXRefIdeal.nD Cert.FfnUpXRefIdeal.τ).loc Cert.FfnUpXRefIdeal.main_arg0)
      ∧ r.2.mem ((c.tc : Thread Cert.FfnUpXRefIdeal.nD Cert.FfnUpXRefIdeal.τ).loc Cert.FfnUpXRefIdeal.main_arg1) = m ((c.tc : Thread Cert.FfnUpXRefIdeal.nD Cert.FfnUpXRefIdeal.τ).loc Cert.FfnUpXRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_AttX [hAttX : Cert.AttX.Facts] : Prop :=
  ∀ (m : (ℓ : Loc Cert.AttX.nD Cert.AttX.τ Cert.AttX.sig) → Buf (Elt Bits) ℓ) (g : Dev Cert.AttX.nD → PrngReg), Pre_AttX m →
    θ_run (Cert.AttX.defs (F := Bits)) (onTc (τ := Cert.AttX.τ) (Cert.AttX.main (F := Bits))) ⟨m, fun _ => 0, g⟩ (fun r => (∀ c : Dev Cert.AttX.nD,
      r.2.mem ((c.tc : Thread Cert.AttX.nD Cert.AttX.τ).loc Cert.AttX.main_arg0) = m ((c.tc : Thread Cert.AttX.nD Cert.AttX.τ).loc Cert.AttX.main_arg0)
      ∧ r.2.mem ((c.tc : Thread Cert.AttX.nD Cert.AttX.τ).loc Cert.AttX.main_arg1) = m ((c.tc : Thread Cert.AttX.nD Cert.AttX.τ).loc Cert.AttX.main_arg1))
      ∧ r.2.sem = fun _ => 0)

def quiescent_AttXIdeal [hAttXIdeal : Cert.AttXIdeal.Facts] : Prop :=
  ∀ (m : (ℓ : Loc Cert.AttXIdeal.nD Cert.AttXIdeal.τ Cert.AttXIdeal.sig) → Buf (Elt Ideal) ℓ) (g : Dev Cert.AttXIdeal.nD → PrngReg), Pre_AttXIdeal m →
    θ_run (Cert.AttXIdeal.defs (F := Ideal)) (onTc (τ := Cert.AttXIdeal.τ) (Cert.AttXIdeal.main (F := Ideal))) ⟨m, fun _ => 0, g⟩ (fun r => (∀ c : Dev Cert.AttXIdeal.nD,
      r.2.mem ((c.tc : Thread Cert.AttXIdeal.nD Cert.AttXIdeal.τ).loc Cert.AttXIdeal.main_arg0) = m ((c.tc : Thread Cert.AttXIdeal.nD Cert.AttXIdeal.τ).loc Cert.AttXIdeal.main_arg0)
      ∧ r.2.mem ((c.tc : Thread Cert.AttXIdeal.nD Cert.AttXIdeal.τ).loc Cert.AttXIdeal.main_arg1) = m ((c.tc : Thread Cert.AttXIdeal.nD Cert.AttXIdeal.τ).loc Cert.AttXIdeal.main_arg1))
      ∧ r.2.sem = fun _ => 0)

def quiescent_AttXRefIdeal [hAttXRefIdeal : Cert.AttXRefIdeal.Facts] : Prop :=
  ∀ (m : (ℓ : Loc Cert.AttXRefIdeal.nD Cert.AttXRefIdeal.τ Cert.AttXRefIdeal.sig) → Buf (Elt Ideal) ℓ) (g : Dev Cert.AttXRefIdeal.nD → PrngReg), Pre_AttXRefIdeal m →
    θ_run (Cert.AttXRefIdeal.defs (F := Ideal)) (onTc (τ := Cert.AttXRefIdeal.τ) (Cert.AttXRefIdeal.main (F := Ideal))) ⟨m, fun _ => 0, g⟩ (fun r => (∀ c : Dev Cert.AttXRefIdeal.nD,
      r.2.mem ((c.tc : Thread Cert.AttXRefIdeal.nD Cert.AttXRefIdeal.τ).loc Cert.AttXRefIdeal.main_arg0) = m ((c.tc : Thread Cert.AttXRefIdeal.nD Cert.AttXRefIdeal.τ).loc Cert.AttXRefIdeal.main_arg0)
      ∧ r.2.mem ((c.tc : Thread Cert.AttXRefIdeal.nD Cert.AttXRefIdeal.τ).loc Cert.AttXRefIdeal.main_arg1) = m ((c.tc : Thread Cert.AttXRefIdeal.nD Cert.AttXRefIdeal.τ).loc Cert.AttXRefIdeal.main_arg1))
      ∧ r.2.sem = fun _ => 0)

def quiescent_SsmX [hSsmX : Cert.SsmX.Facts] : Prop :=
  ∀ (m : (ℓ : Loc Cert.SsmX.nD Cert.SsmX.τ Cert.SsmX.sig) → Buf (Elt Bits) ℓ) (g : Dev Cert.SsmX.nD → PrngReg), Pre_SsmX m →
    θ_run (Cert.SsmX.defs (F := Bits)) (onTc (τ := Cert.SsmX.τ) (Cert.SsmX.main (F := Bits))) ⟨m, fun _ => 0, g⟩ (fun r => (∀ c : Dev Cert.SsmX.nD,
      r.2.mem ((c.tc : Thread Cert.SsmX.nD Cert.SsmX.τ).loc Cert.SsmX.main_arg0) = m ((c.tc : Thread Cert.SsmX.nD Cert.SsmX.τ).loc Cert.SsmX.main_arg0)
      ∧ r.2.mem ((c.tc : Thread Cert.SsmX.nD Cert.SsmX.τ).loc Cert.SsmX.main_arg1) = m ((c.tc : Thread Cert.SsmX.nD Cert.SsmX.τ).loc Cert.SsmX.main_arg1))
      ∧ r.2.sem = fun _ => 0)

def quiescent_SsmXIdeal [hSsmXIdeal : Cert.SsmXIdeal.Facts] : Prop :=
  ∀ (m : (ℓ : Loc Cert.SsmXIdeal.nD Cert.SsmXIdeal.τ Cert.SsmXIdeal.sig) → Buf (Elt Ideal) ℓ) (g : Dev Cert.SsmXIdeal.nD → PrngReg), Pre_SsmXIdeal m →
    θ_run (Cert.SsmXIdeal.defs (F := Ideal)) (onTc (τ := Cert.SsmXIdeal.τ) (Cert.SsmXIdeal.main (F := Ideal))) ⟨m, fun _ => 0, g⟩ (fun r => (∀ c : Dev Cert.SsmXIdeal.nD,
      r.2.mem ((c.tc : Thread Cert.SsmXIdeal.nD Cert.SsmXIdeal.τ).loc Cert.SsmXIdeal.main_arg0) = m ((c.tc : Thread Cert.SsmXIdeal.nD Cert.SsmXIdeal.τ).loc Cert.SsmXIdeal.main_arg0)
      ∧ r.2.mem ((c.tc : Thread Cert.SsmXIdeal.nD Cert.SsmXIdeal.τ).loc Cert.SsmXIdeal.main_arg1) = m ((c.tc : Thread Cert.SsmXIdeal.nD Cert.SsmXIdeal.τ).loc Cert.SsmXIdeal.main_arg1))
      ∧ r.2.sem = fun _ => 0)

def quiescent_SsmXRefIdeal [hSsmXRefIdeal : Cert.SsmXRefIdeal.Facts] : Prop :=
  ∀ (m : (ℓ : Loc Cert.SsmXRefIdeal.nD Cert.SsmXRefIdeal.τ Cert.SsmXRefIdeal.sig) → Buf (Elt Ideal) ℓ) (g : Dev Cert.SsmXRefIdeal.nD → PrngReg), Pre_SsmXRefIdeal m →
    θ_run (Cert.SsmXRefIdeal.defs (F := Ideal)) (onTc (τ := Cert.SsmXRefIdeal.τ) (Cert.SsmXRefIdeal.main (F := Ideal))) ⟨m, fun _ => 0, g⟩ (fun r => (∀ c : Dev Cert.SsmXRefIdeal.nD,
      r.2.mem ((c.tc : Thread Cert.SsmXRefIdeal.nD Cert.SsmXRefIdeal.τ).loc Cert.SsmXRefIdeal.main_arg0) = m ((c.tc : Thread Cert.SsmXRefIdeal.nD Cert.SsmXRefIdeal.τ).loc Cert.SsmXRefIdeal.main_arg0)
      ∧ r.2.mem ((c.tc : Thread Cert.SsmXRefIdeal.nD Cert.SsmXRefIdeal.τ).loc Cert.SsmXRefIdeal.main_arg1) = m ((c.tc : Thread Cert.SsmXRefIdeal.nD Cert.SsmXRefIdeal.τ).loc Cert.SsmXRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_FfnDownW [hFfnDownW : Cert.FfnDownW.Facts] : Prop :=
  ∀ (m : (ℓ : Loc Cert.FfnDownW.nD Cert.FfnDownW.τ Cert.FfnDownW.sig) → Buf (Elt Bits) ℓ) (g : Dev Cert.FfnDownW.nD → PrngReg), Pre_FfnDownW m →
    θ_run (Cert.FfnDownW.defs (F := Bits)) (onTc (τ := Cert.FfnDownW.τ) (Cert.FfnDownW.main (F := Bits))) ⟨m, fun _ => 0, g⟩ (fun r => (∀ c : Dev Cert.FfnDownW.nD,
      r.2.mem ((c.tc : Thread Cert.FfnDownW.nD Cert.FfnDownW.τ).loc Cert.FfnDownW.main_arg0) = m ((c.tc : Thread Cert.FfnDownW.nD Cert.FfnDownW.τ).loc Cert.FfnDownW.main_arg0)
      ∧ r.2.mem ((c.tc : Thread Cert.FfnDownW.nD Cert.FfnDownW.τ).loc Cert.FfnDownW.main_arg1) = m ((c.tc : Thread Cert.FfnDownW.nD Cert.FfnDownW.τ).loc Cert.FfnDownW.main_arg1))
      ∧ r.2.sem = fun _ => 0)

def quiescent_FfnDownWIdeal [hFfnDownWIdeal : Cert.FfnDownWIdeal.Facts] : Prop :=
  ∀ (m : (ℓ : Loc Cert.FfnDownWIdeal.nD Cert.FfnDownWIdeal.τ Cert.FfnDownWIdeal.sig) → Buf (Elt Ideal) ℓ) (g : Dev Cert.FfnDownWIdeal.nD → PrngReg), Pre_FfnDownWIdeal m →
    θ_run (Cert.FfnDownWIdeal.defs (F := Ideal)) (onTc (τ := Cert.FfnDownWIdeal.τ) (Cert.FfnDownWIdeal.main (F := Ideal))) ⟨m, fun _ => 0, g⟩ (fun r => (∀ c : Dev Cert.FfnDownWIdeal.nD,
      r.2.mem ((c.tc : Thread Cert.FfnDownWIdeal.nD Cert.FfnDownWIdeal.τ).loc Cert.FfnDownWIdeal.main_arg0) = m ((c.tc : Thread Cert.FfnDownWIdeal.nD Cert.FfnDownWIdeal.τ).loc Cert.FfnDownWIdeal.main_arg0)
      ∧ r.2.mem ((c.tc : Thread Cert.FfnDownWIdeal.nD Cert.FfnDownWIdeal.τ).loc Cert.FfnDownWIdeal.main_arg1) = m ((c.tc : Thread Cert.FfnDownWIdeal.nD Cert.FfnDownWIdeal.τ).loc Cert.FfnDownWIdeal.main_arg1))
      ∧ r.2.sem = fun _ => 0)

def quiescent_FfnDownWRefIdeal [hFfnDownWRefIdeal : Cert.FfnDownWRefIdeal.Facts] : Prop :=
  ∀ (m : (ℓ : Loc Cert.FfnDownWRefIdeal.nD Cert.FfnDownWRefIdeal.τ Cert.FfnDownWRefIdeal.sig) → Buf (Elt Ideal) ℓ) (g : Dev Cert.FfnDownWRefIdeal.nD → PrngReg), Pre_FfnDownWRefIdeal m →
    θ_run (Cert.FfnDownWRefIdeal.defs (F := Ideal)) (onTc (τ := Cert.FfnDownWRefIdeal.τ) (Cert.FfnDownWRefIdeal.main (F := Ideal))) ⟨m, fun _ => 0, g⟩ (fun r => (∀ c : Dev Cert.FfnDownWRefIdeal.nD,
      r.2.mem ((c.tc : Thread Cert.FfnDownWRefIdeal.nD Cert.FfnDownWRefIdeal.τ).loc Cert.FfnDownWRefIdeal.main_arg0) = m ((c.tc : Thread Cert.FfnDownWRefIdeal.nD Cert.FfnDownWRefIdeal.τ).loc Cert.FfnDownWRefIdeal.main_arg0)
      ∧ r.2.mem ((c.tc : Thread Cert.FfnDownWRefIdeal.nD Cert.FfnDownWRefIdeal.τ).loc Cert.FfnDownWRefIdeal.main_arg1) = m ((c.tc : Thread Cert.FfnDownWRefIdeal.nD Cert.FfnDownWRefIdeal.τ).loc Cert.FfnDownWRefIdeal.main_arg1))
      ∧ r.2.sem = fun _ => 0)

def quiescent_FfnUpW [hFfnUpW : Cert.FfnUpW.Facts] : Prop :=
  ∀ (m : (ℓ : Loc Cert.FfnUpW.nD Cert.FfnUpW.τ Cert.FfnUpW.sig) → Buf (Elt Bits) ℓ) (g : Dev Cert.FfnUpW.nD → PrngReg), Pre_FfnUpW m →
    θ_run (Cert.FfnUpW.defs (F := Bits)) (onTc (τ := Cert.FfnUpW.τ) (Cert.FfnUpW.main (F := Bits))) ⟨m, fun _ => 0, g⟩ (fun r => (∀ c : Dev Cert.FfnUpW.nD,
      r.2.mem ((c.tc : Thread Cert.FfnUpW.nD Cert.FfnUpW.τ).loc Cert.FfnUpW.main_arg0) = m ((c.tc : Thread Cert.FfnUpW.nD Cert.FfnUpW.τ).loc Cert.FfnUpW.main_arg0)
      ∧ r.2.mem ((c.tc : Thread Cert.FfnUpW.nD Cert.FfnUpW.τ).loc Cert.FfnUpW.main_arg1) = m ((c.tc : Thread Cert.FfnUpW.nD Cert.FfnUpW.τ).loc Cert.FfnUpW.main_arg1))
      ∧ r.2.sem = fun _ => 0)

def quiescent_FfnUpWIdeal [hFfnUpWIdeal : Cert.FfnUpWIdeal.Facts] : Prop :=
  ∀ (m : (ℓ : Loc Cert.FfnUpWIdeal.nD Cert.FfnUpWIdeal.τ Cert.FfnUpWIdeal.sig) → Buf (Elt Ideal) ℓ) (g : Dev Cert.FfnUpWIdeal.nD → PrngReg), Pre_FfnUpWIdeal m →
    θ_run (Cert.FfnUpWIdeal.defs (F := Ideal)) (onTc (τ := Cert.FfnUpWIdeal.τ) (Cert.FfnUpWIdeal.main (F := Ideal))) ⟨m, fun _ => 0, g⟩ (fun r => (∀ c : Dev Cert.FfnUpWIdeal.nD,
      r.2.mem ((c.tc : Thread Cert.FfnUpWIdeal.nD Cert.FfnUpWIdeal.τ).loc Cert.FfnUpWIdeal.main_arg0) = m ((c.tc : Thread Cert.FfnUpWIdeal.nD Cert.FfnUpWIdeal.τ).loc Cert.FfnUpWIdeal.main_arg0)
      ∧ r.2.mem ((c.tc : Thread Cert.FfnUpWIdeal.nD Cert.FfnUpWIdeal.τ).loc Cert.FfnUpWIdeal.main_arg1) = m ((c.tc : Thread Cert.FfnUpWIdeal.nD Cert.FfnUpWIdeal.τ).loc Cert.FfnUpWIdeal.main_arg1))
      ∧ r.2.sem = fun _ => 0)

def quiescent_FfnUpWRefIdeal [hFfnUpWRefIdeal : Cert.FfnUpWRefIdeal.Facts] : Prop :=
  ∀ (m : (ℓ : Loc Cert.FfnUpWRefIdeal.nD Cert.FfnUpWRefIdeal.τ Cert.FfnUpWRefIdeal.sig) → Buf (Elt Ideal) ℓ) (g : Dev Cert.FfnUpWRefIdeal.nD → PrngReg), Pre_FfnUpWRefIdeal m →
    θ_run (Cert.FfnUpWRefIdeal.defs (F := Ideal)) (onTc (τ := Cert.FfnUpWRefIdeal.τ) (Cert.FfnUpWRefIdeal.main (F := Ideal))) ⟨m, fun _ => 0, g⟩ (fun r => (∀ c : Dev Cert.FfnUpWRefIdeal.nD,
      r.2.mem ((c.tc : Thread Cert.FfnUpWRefIdeal.nD Cert.FfnUpWRefIdeal.τ).loc Cert.FfnUpWRefIdeal.main_arg0) = m ((c.tc : Thread Cert.FfnUpWRefIdeal.nD Cert.FfnUpWRefIdeal.τ).loc Cert.FfnUpWRefIdeal.main_arg0)
      ∧ r.2.mem ((c.tc : Thread Cert.FfnUpWRefIdeal.nD Cert.FfnUpWRefIdeal.τ).loc Cert.FfnUpWRefIdeal.main_arg1) = m ((c.tc : Thread Cert.FfnUpWRefIdeal.nD Cert.FfnUpWRefIdeal.τ).loc Cert.FfnUpWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_AttW [hAttW : Cert.AttW.Facts] : Prop :=
  ∀ (m : (ℓ : Loc Cert.AttW.nD Cert.AttW.τ Cert.AttW.sig) → Buf (Elt Bits) ℓ) (g : Dev Cert.AttW.nD → PrngReg), Pre_AttW m →
    θ_run (Cert.AttW.defs (F := Bits)) (onTc (τ := Cert.AttW.τ) (Cert.AttW.main (F := Bits))) ⟨m, fun _ => 0, g⟩ (fun r => (∀ c : Dev Cert.AttW.nD,
      r.2.mem ((c.tc : Thread Cert.AttW.nD Cert.AttW.τ).loc Cert.AttW.main_arg0) = m ((c.tc : Thread Cert.AttW.nD Cert.AttW.τ).loc Cert.AttW.main_arg0)
      ∧ r.2.mem ((c.tc : Thread Cert.AttW.nD Cert.AttW.τ).loc Cert.AttW.main_arg1) = m ((c.tc : Thread Cert.AttW.nD Cert.AttW.τ).loc Cert.AttW.main_arg1))
      ∧ r.2.sem = fun _ => 0)

def quiescent_AttWIdeal [hAttWIdeal : Cert.AttWIdeal.Facts] : Prop :=
  ∀ (m : (ℓ : Loc Cert.AttWIdeal.nD Cert.AttWIdeal.τ Cert.AttWIdeal.sig) → Buf (Elt Ideal) ℓ) (g : Dev Cert.AttWIdeal.nD → PrngReg), Pre_AttWIdeal m →
    θ_run (Cert.AttWIdeal.defs (F := Ideal)) (onTc (τ := Cert.AttWIdeal.τ) (Cert.AttWIdeal.main (F := Ideal))) ⟨m, fun _ => 0, g⟩ (fun r => (∀ c : Dev Cert.AttWIdeal.nD,
      r.2.mem ((c.tc : Thread Cert.AttWIdeal.nD Cert.AttWIdeal.τ).loc Cert.AttWIdeal.main_arg0) = m ((c.tc : Thread Cert.AttWIdeal.nD Cert.AttWIdeal.τ).loc Cert.AttWIdeal.main_arg0)
      ∧ r.2.mem ((c.tc : Thread Cert.AttWIdeal.nD Cert.AttWIdeal.τ).loc Cert.AttWIdeal.main_arg1) = m ((c.tc : Thread Cert.AttWIdeal.nD Cert.AttWIdeal.τ).loc Cert.AttWIdeal.main_arg1))
      ∧ r.2.sem = fun _ => 0)

def quiescent_AttWRefIdeal [hAttWRefIdeal : Cert.AttWRefIdeal.Facts] : Prop :=
  ∀ (m : (ℓ : Loc Cert.AttWRefIdeal.nD Cert.AttWRefIdeal.τ Cert.AttWRefIdeal.sig) → Buf (Elt Ideal) ℓ) (g : Dev Cert.AttWRefIdeal.nD → PrngReg), Pre_AttWRefIdeal m →
    θ_run (Cert.AttWRefIdeal.defs (F := Ideal)) (onTc (τ := Cert.AttWRefIdeal.τ) (Cert.AttWRefIdeal.main (F := Ideal))) ⟨m, fun _ => 0, g⟩ (fun r => (∀ c : Dev Cert.AttWRefIdeal.nD,
      r.2.mem ((c.tc : Thread Cert.AttWRefIdeal.nD Cert.AttWRefIdeal.τ).loc Cert.AttWRefIdeal.main_arg0) = m ((c.tc : Thread Cert.AttWRefIdeal.nD Cert.AttWRefIdeal.τ).loc Cert.AttWRefIdeal.main_arg0)
      ∧ r.2.mem ((c.tc : Thread Cert.AttWRefIdeal.nD Cert.AttWRefIdeal.τ).loc Cert.AttWRefIdeal.main_arg1) = m ((c.tc : Thread Cert.AttWRefIdeal.nD Cert.AttWRefIdeal.τ).loc Cert.AttWRefIdeal.main_arg1))
      ∧ r.2.sem = fun _ => 0)

def quiescent_SsmW [hSsmW : Cert.SsmW.Facts] : Prop :=
  ∀ (m : (ℓ : Loc Cert.SsmW.nD Cert.SsmW.τ Cert.SsmW.sig) → Buf (Elt Bits) ℓ) (g : Dev Cert.SsmW.nD → PrngReg), Pre_SsmW m →
    θ_run (Cert.SsmW.defs (F := Bits)) (onTc (τ := Cert.SsmW.τ) (Cert.SsmW.main (F := Bits))) ⟨m, fun _ => 0, g⟩ (fun r => (∀ c : Dev Cert.SsmW.nD,
      r.2.mem ((c.tc : Thread Cert.SsmW.nD Cert.SsmW.τ).loc Cert.SsmW.main_arg0) = m ((c.tc : Thread Cert.SsmW.nD Cert.SsmW.τ).loc Cert.SsmW.main_arg0)
      ∧ r.2.mem ((c.tc : Thread Cert.SsmW.nD Cert.SsmW.τ).loc Cert.SsmW.main_arg1) = m ((c.tc : Thread Cert.SsmW.nD Cert.SsmW.τ).loc Cert.SsmW.main_arg1))
      ∧ r.2.sem = fun _ => 0)

def quiescent_SsmWIdeal [hSsmWIdeal : Cert.SsmWIdeal.Facts] : Prop :=
  ∀ (m : (ℓ : Loc Cert.SsmWIdeal.nD Cert.SsmWIdeal.τ Cert.SsmWIdeal.sig) → Buf (Elt Ideal) ℓ) (g : Dev Cert.SsmWIdeal.nD → PrngReg), Pre_SsmWIdeal m →
    θ_run (Cert.SsmWIdeal.defs (F := Ideal)) (onTc (τ := Cert.SsmWIdeal.τ) (Cert.SsmWIdeal.main (F := Ideal))) ⟨m, fun _ => 0, g⟩ (fun r => (∀ c : Dev Cert.SsmWIdeal.nD,
      r.2.mem ((c.tc : Thread Cert.SsmWIdeal.nD Cert.SsmWIdeal.τ).loc Cert.SsmWIdeal.main_arg0) = m ((c.tc : Thread Cert.SsmWIdeal.nD Cert.SsmWIdeal.τ).loc Cert.SsmWIdeal.main_arg0)
      ∧ r.2.mem ((c.tc : Thread Cert.SsmWIdeal.nD Cert.SsmWIdeal.τ).loc Cert.SsmWIdeal.main_arg1) = m ((c.tc : Thread Cert.SsmWIdeal.nD Cert.SsmWIdeal.τ).loc Cert.SsmWIdeal.main_arg1))
      ∧ r.2.sem = fun _ => 0)

def quiescent_SsmWRefIdeal [hSsmWRefIdeal : Cert.SsmWRefIdeal.Facts] : Prop :=
  ∀ (m : (ℓ : Loc Cert.SsmWRefIdeal.nD Cert.SsmWRefIdeal.τ Cert.SsmWRefIdeal.sig) → Buf (Elt Ideal) ℓ) (g : Dev Cert.SsmWRefIdeal.nD → PrngReg), Pre_SsmWRefIdeal m →
    θ_run (Cert.SsmWRefIdeal.defs (F := Ideal)) (onTc (τ := Cert.SsmWRefIdeal.τ) (Cert.SsmWRefIdeal.main (F := Ideal))) ⟨m, fun _ => 0, g⟩ (fun r => (∀ c : Dev Cert.SsmWRefIdeal.nD,
      r.2.mem ((c.tc : Thread Cert.SsmWRefIdeal.nD Cert.SsmWRefIdeal.τ).loc Cert.SsmWRefIdeal.main_arg0) = m ((c.tc : Thread Cert.SsmWRefIdeal.nD Cert.SsmWRefIdeal.τ).loc Cert.SsmWRefIdeal.main_arg0)
      ∧ r.2.mem ((c.tc : Thread Cert.SsmWRefIdeal.nD Cert.SsmWRefIdeal.τ).loc Cert.SsmWRefIdeal.main_arg1) = m ((c.tc : Thread Cert.SsmWRefIdeal.nD Cert.SsmWRefIdeal.τ).loc Cert.SsmWRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v99_0)) (v1 : (c : Dev Cert.KernelIdeal.nD) → Buf (Elt Ideal) ((c.tc : Thread Cert.KernelIdeal.nD Cert.KernelIdeal.τ).loc Cert.KernelIdeal.main_v99_1)) (v2 : (c : Dev Cert.KernelIdeal.nD) → Buf (Elt Ideal) ((c.tc : Thread Cert.KernelIdeal.nD Cert.KernelIdeal.τ).loc Cert.KernelIdeal.main_v99_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_0) = v0 c
          ∧ r.2.mem ((c.tc : Thread Cert.KernelIdeal.nD Cert.KernelIdeal.τ).loc Cert.KernelIdeal.main_v99_1) = v1 c
          ∧ r.2.mem ((c.tc : Thread Cert.KernelIdeal.nD Cert.KernelIdeal.τ).loc Cert.KernelIdeal.main_v99_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnDownX_FfnDownXIdeal : Prop :=
  True

def algebraic_FfnDownXIdeal_FfnDownXRefIdeal [hFfnDownXIdeal : Cert.FfnDownXIdeal.Facts] [hFfnDownXRefIdeal : Cert.FfnDownXRefIdeal.Facts] : Prop :=
  ∀ (m : (ℓ : Loc Cert.FfnDownXIdeal.nD Cert.FfnDownXIdeal.τ Cert.FfnDownXIdeal.sig) → Buf (Elt Ideal) ℓ) (g : Dev Cert.FfnDownXIdeal.nD → PrngReg)
    (m' : (ℓ : Loc Cert.FfnDownXRefIdeal.nD Cert.FfnDownXRefIdeal.τ Cert.FfnDownXRefIdeal.sig) → Buf (Elt Ideal) ℓ) (g' : Dev Cert.FfnDownXRefIdeal.nD → PrngReg), Pre_FfnDownXIdeal m →
    (∀ c : Dev Cert.FfnDownXIdeal.nD,
      m' ((c.tc : Thread Cert.FfnDownXRefIdeal.nD Cert.FfnDownXRefIdeal.τ).loc Cert.FfnDownXRefIdeal.main_arg0) = m ((c.tc : Thread Cert.FfnDownXIdeal.nD Cert.FfnDownXIdeal.τ).loc Cert.FfnDownXIdeal.main_arg0)
      ∧ m' ((c.tc : Thread Cert.FfnDownXRefIdeal.nD Cert.FfnDownXRefIdeal.τ).loc Cert.FfnDownXRefIdeal.main_arg1) = m ((c.tc : Thread Cert.FfnDownXIdeal.nD Cert.FfnDownXIdeal.τ).loc Cert.FfnDownXIdeal.main_arg1)
      ∧ m' ((c.tc : Thread Cert.FfnDownXRefIdeal.nD Cert.FfnDownXRefIdeal.τ).loc Cert.FfnDownXRefIdeal.main_arg2) = m ((c.tc : Thread Cert.FfnDownXIdeal.nD Cert.FfnDownXIdeal.τ).loc Cert.FfnDownXIdeal.main_arg2)) →
    ∃ (v0 : (c : Dev Cert.FfnDownXIdeal.nD) → Buf (Elt Ideal) ((c.tc : Thread Cert.FfnDownXIdeal.nD Cert.FfnDownXIdeal.τ).loc Cert.FfnDownXIdeal.main_v0)),
      θ_run (Cert.FfnDownXIdeal.defs (F := Ideal)) (onTc (τ := Cert.FfnDownXIdeal.τ) (Cert.FfnDownXIdeal.main (F := Ideal))) ⟨m, fun _ => 0, g⟩ (fun r => ∀ c : Dev Cert.FfnDownXIdeal.nD,
          r.2.mem ((c.tc : Thread Cert.FfnDownXIdeal.nD Cert.FfnDownXIdeal.τ).loc Cert.FfnDownXIdeal.main_v0) = v0 c
          ∧ r.2.mem ((c.tc : Thread Cert.FfnDownXIdeal.nD Cert.FfnDownXIdeal.τ).loc Cert.FfnDownXIdeal.main_arg0) = m ((c.tc : Thread Cert.FfnDownXIdeal.nD Cert.FfnDownXIdeal.τ).loc Cert.FfnDownXIdeal.main_arg0)
          ∧ r.2.mem ((c.tc : Thread Cert.FfnDownXIdeal.nD Cert.FfnDownXIdeal.τ).loc Cert.FfnDownXIdeal.main_arg1) = m ((c.tc : Thread Cert.FfnDownXIdeal.nD Cert.FfnDownXIdeal.τ).loc Cert.FfnDownXIdeal.main_arg1)
          ∧ r.2.mem ((c.tc : Thread Cert.FfnDownXIdeal.nD Cert.FfnDownXIdeal.τ).loc Cert.FfnDownXIdeal.main_arg2) = m ((c.tc : Thread Cert.FfnDownXIdeal.nD Cert.FfnDownXIdeal.τ).loc Cert.FfnDownXIdeal.main_arg2))
      ∧ θ_run (Cert.FfnDownXRefIdeal.defs (F := Ideal)) (onTc (τ := Cert.FfnDownXRefIdeal.τ) (Cert.FfnDownXRefIdeal.main (F := Ideal))) ⟨m', fun _ => 0, g'⟩ (fun r => ∀ c : Dev Cert.FfnDownXRefIdeal.nD,
          r.2.mem ((c.tc : Thread Cert.FfnDownXRefIdeal.nD Cert.FfnDownXRefIdeal.τ).loc Cert.FfnDownXRefIdeal.main_v15) = v0 c
          ∧ r.2.mem ((c.tc : Thread Cert.FfnDownXRefIdeal.nD Cert.FfnDownXRefIdeal.τ).loc Cert.FfnDownXRefIdeal.main_arg0) = m' ((c.tc : Thread Cert.FfnDownXRefIdeal.nD Cert.FfnDownXRefIdeal.τ).loc Cert.FfnDownXRefIdeal.main_arg0)
          ∧ r.2.mem ((c.tc : Thread Cert.FfnDownXRefIdeal.nD Cert.FfnDownXRefIdeal.τ).loc Cert.FfnDownXRefIdeal.main_arg1) = m' ((c.tc : Thread Cert.FfnDownXRefIdeal.nD Cert.FfnDownXRefIdeal.τ).loc Cert.FfnDownXRefIdeal.main_arg1)
          ∧ r.2.mem ((c.tc : Thread Cert.FfnDownXRefIdeal.nD Cert.FfnDownXRefIdeal.τ).loc Cert.FfnDownXRefIdeal.main_arg2) = m' ((c.tc : Thread Cert.FfnDownXRefIdeal.nD Cert.FfnDownXRefIdeal.τ).loc Cert.FfnDownXRefIdeal.main_arg2))

def preserves_FfnUpX_FfnUpXIdeal : Prop :=
  True

def algebraic_FfnUpXIdeal_FfnUpXRefIdeal [hFfnUpXIdeal : Cert.FfnUpXIdeal.Facts] [hFfnUpXRefIdeal : Cert.FfnUpXRefIdeal.Facts] : Prop :=
  ∀ (m : (ℓ : Loc Cert.FfnUpXIdeal.nD Cert.FfnUpXIdeal.τ Cert.FfnUpXIdeal.sig) → Buf (Elt Ideal) ℓ) (g : Dev Cert.FfnUpXIdeal.nD → PrngReg)
    (m' : (ℓ : Loc Cert.FfnUpXRefIdeal.nD Cert.FfnUpXRefIdeal.τ Cert.FfnUpXRefIdeal.sig) → Buf (Elt Ideal) ℓ) (g' : Dev Cert.FfnUpXRefIdeal.nD → PrngReg), Pre_FfnUpXIdeal m →
    (∀ c : Dev Cert.FfnUpXIdeal.nD,
      m' ((c.tc : Thread Cert.FfnUpXRefIdeal.nD Cert.FfnUpXRefIdeal.τ).loc Cert.FfnUpXRefIdeal.main_arg0) = m ((c.tc : Thread Cert.FfnUpXIdeal.nD Cert.FfnUpXIdeal.τ).loc Cert.FfnUpXIdeal.main_arg0)
      ∧ m' ((c.tc : Thread Cert.FfnUpXRefIdeal.nD Cert.FfnUpXRefIdeal.τ).loc Cert.FfnUpXRefIdeal.main_arg1) = m ((c.tc : Thread Cert.FfnUpXIdeal.nD Cert.FfnUpXIdeal.τ).loc Cert.FfnUpXIdeal.main_arg1)) →
    ∃ (v0 : (c : Dev Cert.FfnUpXIdeal.nD) → Buf (Elt Ideal) ((c.tc : Thread Cert.FfnUpXIdeal.nD Cert.FfnUpXIdeal.τ).loc Cert.FfnUpXIdeal.main_v0)),
      θ_run (Cert.FfnUpXIdeal.defs (F := Ideal)) (onTc (τ := Cert.FfnUpXIdeal.τ) (Cert.FfnUpXIdeal.main (F := Ideal))) ⟨m, fun _ => 0, g⟩ (fun r => ∀ c : Dev Cert.FfnUpXIdeal.nD,
          r.2.mem ((c.tc : Thread Cert.FfnUpXIdeal.nD Cert.FfnUpXIdeal.τ).loc Cert.FfnUpXIdeal.main_v0) = v0 c
          ∧ r.2.mem ((c.tc : Thread Cert.FfnUpXIdeal.nD Cert.FfnUpXIdeal.τ).loc Cert.FfnUpXIdeal.main_arg0) = m ((c.tc : Thread Cert.FfnUpXIdeal.nD Cert.FfnUpXIdeal.τ).loc Cert.FfnUpXIdeal.main_arg0)
          ∧ r.2.mem ((c.tc : Thread Cert.FfnUpXIdeal.nD Cert.FfnUpXIdeal.τ).loc Cert.FfnUpXIdeal.main_arg1) = m ((c.tc : Thread Cert.FfnUpXIdeal.nD Cert.FfnUpXIdeal.τ).loc Cert.FfnUpXIdeal.main_arg1))
      ∧ θ_run (Cert.FfnUpXRefIdeal.defs (F := Ideal)) (onTc (τ := Cert.FfnUpXRefIdeal.τ) (Cert.FfnUpXRefIdeal.main (F := Ideal))) ⟨m', fun _ => 0, g'⟩ (fun r => ∀ c : Dev Cert.FfnUpXRefIdeal.nD,
          r.2.mem ((c.tc : Thread Cert.FfnUpXRefIdeal.nD Cert.FfnUpXRefIdeal.τ).loc Cert.FfnUpXRefIdeal.main_v2) = v0 c
          ∧ r.2.mem ((c.tc : Thread Cert.FfnUpXRefIdeal.nD Cert.FfnUpXRefIdeal.τ).loc Cert.FfnUpXRefIdeal.main_arg0) = m' ((c.tc : Thread Cert.FfnUpXRefIdeal.nD Cert.FfnUpXRefIdeal.τ).loc Cert.FfnUpXRefIdeal.main_arg0)
          ∧ r.2.mem ((c.tc : Thread Cert.FfnUpXRefIdeal.nD Cert.FfnUpXRefIdeal.τ).loc Cert.FfnUpXRefIdeal.main_arg1) = m' ((c.tc : Thread Cert.FfnUpXRefIdeal.nD Cert.FfnUpXRefIdeal.τ).loc Cert.FfnUpXRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_AttX_AttXIdeal : Prop :=
  True

def algebraic_AttXIdeal_AttXRefIdeal [hAttXIdeal : Cert.AttXIdeal.Facts] [hAttXRefIdeal : Cert.AttXRefIdeal.Facts] : Prop :=
  ∀ (m : (ℓ : Loc Cert.AttXIdeal.nD Cert.AttXIdeal.τ Cert.AttXIdeal.sig) → Buf (Elt Ideal) ℓ) (g : Dev Cert.AttXIdeal.nD → PrngReg)
    (m' : (ℓ : Loc Cert.AttXRefIdeal.nD Cert.AttXRefIdeal.τ Cert.AttXRefIdeal.sig) → Buf (Elt Ideal) ℓ) (g' : Dev Cert.AttXRefIdeal.nD → PrngReg), Pre_AttXIdeal m →
    (∀ c : Dev Cert.AttXIdeal.nD,
      m' ((c.tc : Thread Cert.AttXRefIdeal.nD Cert.AttXRefIdeal.τ).loc Cert.AttXRefIdeal.main_arg0) = m ((c.tc : Thread Cert.AttXIdeal.nD Cert.AttXIdeal.τ).loc Cert.AttXIdeal.main_arg0)
      ∧ m' ((c.tc : Thread Cert.AttXRefIdeal.nD Cert.AttXRefIdeal.τ).loc Cert.AttXRefIdeal.main_arg1) = m ((c.tc : Thread Cert.AttXIdeal.nD Cert.AttXIdeal.τ).loc Cert.AttXIdeal.main_arg1)) →
    ∃ (v0 : (c : Dev Cert.AttXIdeal.nD) → Buf (Elt Ideal) ((c.tc : Thread Cert.AttXIdeal.nD Cert.AttXIdeal.τ).loc Cert.AttXIdeal.main_v0)),
      θ_run (Cert.AttXIdeal.defs (F := Ideal)) (onTc (τ := Cert.AttXIdeal.τ) (Cert.AttXIdeal.main (F := Ideal))) ⟨m, fun _ => 0, g⟩ (fun r => ∀ c : Dev Cert.AttXIdeal.nD,
          r.2.mem ((c.tc : Thread Cert.AttXIdeal.nD Cert.AttXIdeal.τ).loc Cert.AttXIdeal.main_v0) = v0 c
          ∧ r.2.mem ((c.tc : Thread Cert.AttXIdeal.nD Cert.AttXIdeal.τ).loc Cert.AttXIdeal.main_arg0) = m ((c.tc : Thread Cert.AttXIdeal.nD Cert.AttXIdeal.τ).loc Cert.AttXIdeal.main_arg0)
          ∧ r.2.mem ((c.tc : Thread Cert.AttXIdeal.nD Cert.AttXIdeal.τ).loc Cert.AttXIdeal.main_arg1) = m ((c.tc : Thread Cert.AttXIdeal.nD Cert.AttXIdeal.τ).loc Cert.AttXIdeal.main_arg1))
      ∧ θ_run (Cert.AttXRefIdeal.defs (F := Ideal)) (onTc (τ := Cert.AttXRefIdeal.τ) (Cert.AttXRefIdeal.main (F := Ideal))) ⟨m', fun _ => 0, g'⟩ (fun r => ∀ c : Dev Cert.AttXRefIdeal.nD,
          r.2.mem ((c.tc : Thread Cert.AttXRefIdeal.nD Cert.AttXRefIdeal.τ).loc Cert.AttXRefIdeal.main_v2) = v0 c
          ∧ r.2.mem ((c.tc : Thread Cert.AttXRefIdeal.nD Cert.AttXRefIdeal.τ).loc Cert.AttXRefIdeal.main_arg0) = m' ((c.tc : Thread Cert.AttXRefIdeal.nD Cert.AttXRefIdeal.τ).loc Cert.AttXRefIdeal.main_arg0)
          ∧ r.2.mem ((c.tc : Thread Cert.AttXRefIdeal.nD Cert.AttXRefIdeal.τ).loc Cert.AttXRefIdeal.main_arg1) = m' ((c.tc : Thread Cert.AttXRefIdeal.nD Cert.AttXRefIdeal.τ).loc Cert.AttXRefIdeal.main_arg1))

def preserves_SsmX_SsmXIdeal : Prop :=
  True

def algebraic_SsmXIdeal_SsmXRefIdeal [hSsmXIdeal : Cert.SsmXIdeal.Facts] [hSsmXRefIdeal : Cert.SsmXRefIdeal.Facts] : Prop :=
  ∀ (m : (ℓ : Loc Cert.SsmXIdeal.nD Cert.SsmXIdeal.τ Cert.SsmXIdeal.sig) → Buf (Elt Ideal) ℓ) (g : Dev Cert.SsmXIdeal.nD → PrngReg)
    (m' : (ℓ : Loc Cert.SsmXRefIdeal.nD Cert.SsmXRefIdeal.τ Cert.SsmXRefIdeal.sig) → Buf (Elt Ideal) ℓ) (g' : Dev Cert.SsmXRefIdeal.nD → PrngReg), Pre_SsmXIdeal m →
    (∀ c : Dev Cert.SsmXIdeal.nD,
      m' ((c.tc : Thread Cert.SsmXRefIdeal.nD Cert.SsmXRefIdeal.τ).loc Cert.SsmXRefIdeal.main_arg0) = m ((c.tc : Thread Cert.SsmXIdeal.nD Cert.SsmXIdeal.τ).loc Cert.SsmXIdeal.main_arg0)
      ∧ m' ((c.tc : Thread Cert.SsmXRefIdeal.nD Cert.SsmXRefIdeal.τ).loc Cert.SsmXRefIdeal.main_arg1) = m ((c.tc : Thread Cert.SsmXIdeal.nD Cert.SsmXIdeal.τ).loc Cert.SsmXIdeal.main_arg1)) →
    ∃ (v0 : (c : Dev Cert.SsmXIdeal.nD) → Buf (Elt Ideal) ((c.tc : Thread Cert.SsmXIdeal.nD Cert.SsmXIdeal.τ).loc Cert.SsmXIdeal.main_v0)),
      θ_run (Cert.SsmXIdeal.defs (F := Ideal)) (onTc (τ := Cert.SsmXIdeal.τ) (Cert.SsmXIdeal.main (F := Ideal))) ⟨m, fun _ => 0, g⟩ (fun r => ∀ c : Dev Cert.SsmXIdeal.nD,
          r.2.mem ((c.tc : Thread Cert.SsmXIdeal.nD Cert.SsmXIdeal.τ).loc Cert.SsmXIdeal.main_v0) = v0 c
          ∧ r.2.mem ((c.tc : Thread Cert.SsmXIdeal.nD Cert.SsmXIdeal.τ).loc Cert.SsmXIdeal.main_arg0) = m ((c.tc : Thread Cert.SsmXIdeal.nD Cert.SsmXIdeal.τ).loc Cert.SsmXIdeal.main_arg0)
          ∧ r.2.mem ((c.tc : Thread Cert.SsmXIdeal.nD Cert.SsmXIdeal.τ).loc Cert.SsmXIdeal.main_arg1) = m ((c.tc : Thread Cert.SsmXIdeal.nD Cert.SsmXIdeal.τ).loc Cert.SsmXIdeal.main_arg1))
      ∧ θ_run (Cert.SsmXRefIdeal.defs (F := Ideal)) (onTc (τ := Cert.SsmXRefIdeal.τ) (Cert.SsmXRefIdeal.main (F := Ideal))) ⟨m', fun _ => 0, g'⟩ (fun r => ∀ c : Dev Cert.SsmXRefIdeal.nD,
          r.2.mem ((c.tc : Thread Cert.SsmXRefIdeal.nD Cert.SsmXRefIdeal.τ).loc Cert.SsmXRefIdeal.main_v3) = v0 c
          ∧ r.2.mem ((c.tc : Thread Cert.SsmXRefIdeal.nD Cert.SsmXRefIdeal.τ).loc Cert.SsmXRefIdeal.main_arg0) = m' ((c.tc : Thread Cert.SsmXRefIdeal.nD Cert.SsmXRefIdeal.τ).loc Cert.SsmXRefIdeal.main_arg0)
          ∧ r.2.mem ((c.tc : Thread Cert.SsmXRefIdeal.nD Cert.SsmXRefIdeal.τ).loc Cert.SsmXRefIdeal.main_arg1) = m' ((c.tc : Thread Cert.SsmXRefIdeal.nD Cert.SsmXRefIdeal.τ).loc Cert.SsmXRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v2) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_FfnDownW_FfnDownWIdeal : Prop :=
  True

def algebraic_FfnDownWIdeal_FfnDownWRefIdeal [hFfnDownWIdeal : Cert.FfnDownWIdeal.Facts] [hFfnDownWRefIdeal : Cert.FfnDownWRefIdeal.Facts] : Prop :=
  ∀ (m : (ℓ : Loc Cert.FfnDownWIdeal.nD Cert.FfnDownWIdeal.τ Cert.FfnDownWIdeal.sig) → Buf (Elt Ideal) ℓ) (g : Dev Cert.FfnDownWIdeal.nD → PrngReg)
    (m' : (ℓ : Loc Cert.FfnDownWRefIdeal.nD Cert.FfnDownWRefIdeal.τ Cert.FfnDownWRefIdeal.sig) → Buf (Elt Ideal) ℓ) (g' : Dev Cert.FfnDownWRefIdeal.nD → PrngReg), Pre_FfnDownWIdeal m →
    (∀ c : Dev Cert.FfnDownWIdeal.nD,
      m' ((c.tc : Thread Cert.FfnDownWRefIdeal.nD Cert.FfnDownWRefIdeal.τ).loc Cert.FfnDownWRefIdeal.main_arg0) = m ((c.tc : Thread Cert.FfnDownWIdeal.nD Cert.FfnDownWIdeal.τ).loc Cert.FfnDownWIdeal.main_arg0)
      ∧ m' ((c.tc : Thread Cert.FfnDownWRefIdeal.nD Cert.FfnDownWRefIdeal.τ).loc Cert.FfnDownWRefIdeal.main_arg1) = m ((c.tc : Thread Cert.FfnDownWIdeal.nD Cert.FfnDownWIdeal.τ).loc Cert.FfnDownWIdeal.main_arg1)) →
    ∃ (v0 : (c : Dev Cert.FfnDownWIdeal.nD) → Buf (Elt Ideal) ((c.tc : Thread Cert.FfnDownWIdeal.nD Cert.FfnDownWIdeal.τ).loc Cert.FfnDownWIdeal.main_v0)),
      θ_run (Cert.FfnDownWIdeal.defs (F := Ideal)) (onTc (τ := Cert.FfnDownWIdeal.τ) (Cert.FfnDownWIdeal.main (F := Ideal))) ⟨m, fun _ => 0, g⟩ (fun r => ∀ c : Dev Cert.FfnDownWIdeal.nD,
          r.2.mem ((c.tc : Thread Cert.FfnDownWIdeal.nD Cert.FfnDownWIdeal.τ).loc Cert.FfnDownWIdeal.main_v0) = v0 c
          ∧ r.2.mem ((c.tc : Thread Cert.FfnDownWIdeal.nD Cert.FfnDownWIdeal.τ).loc Cert.FfnDownWIdeal.main_arg0) = m ((c.tc : Thread Cert.FfnDownWIdeal.nD Cert.FfnDownWIdeal.τ).loc Cert.FfnDownWIdeal.main_arg0)
          ∧ r.2.mem ((c.tc : Thread Cert.FfnDownWIdeal.nD Cert.FfnDownWIdeal.τ).loc Cert.FfnDownWIdeal.main_arg1) = m ((c.tc : Thread Cert.FfnDownWIdeal.nD Cert.FfnDownWIdeal.τ).loc Cert.FfnDownWIdeal.main_arg1))
      ∧ θ_run (Cert.FfnDownWRefIdeal.defs (F := Ideal)) (onTc (τ := Cert.FfnDownWRefIdeal.τ) (Cert.FfnDownWRefIdeal.main (F := Ideal))) ⟨m', fun _ => 0, g'⟩ (fun r => ∀ c : Dev Cert.FfnDownWRefIdeal.nD,
          r.2.mem ((c.tc : Thread Cert.FfnDownWRefIdeal.nD Cert.FfnDownWRefIdeal.τ).loc Cert.FfnDownWRefIdeal.main_v4) = v0 c
          ∧ r.2.mem ((c.tc : Thread Cert.FfnDownWRefIdeal.nD Cert.FfnDownWRefIdeal.τ).loc Cert.FfnDownWRefIdeal.main_arg0) = m' ((c.tc : Thread Cert.FfnDownWRefIdeal.nD Cert.FfnDownWRefIdeal.τ).loc Cert.FfnDownWRefIdeal.main_arg0)
          ∧ r.2.mem ((c.tc : Thread Cert.FfnDownWRefIdeal.nD Cert.FfnDownWRefIdeal.τ).loc Cert.FfnDownWRefIdeal.main_arg1) = m' ((c.tc : Thread Cert.FfnDownWRefIdeal.nD Cert.FfnDownWRefIdeal.τ).loc Cert.FfnDownWRefIdeal.main_arg1))

def preserves_FfnUpW_FfnUpWIdeal : Prop :=
  True

def algebraic_FfnUpWIdeal_FfnUpWRefIdeal [hFfnUpWIdeal : Cert.FfnUpWIdeal.Facts] [hFfnUpWRefIdeal : Cert.FfnUpWRefIdeal.Facts] : Prop :=
  ∀ (m : (ℓ : Loc Cert.FfnUpWIdeal.nD Cert.FfnUpWIdeal.τ Cert.FfnUpWIdeal.sig) → Buf (Elt Ideal) ℓ) (g : Dev Cert.FfnUpWIdeal.nD → PrngReg)
    (m' : (ℓ : Loc Cert.FfnUpWRefIdeal.nD Cert.FfnUpWRefIdeal.τ Cert.FfnUpWRefIdeal.sig) → Buf (Elt Ideal) ℓ) (g' : Dev Cert.FfnUpWRefIdeal.nD → PrngReg), Pre_FfnUpWIdeal m →
    (∀ c : Dev Cert.FfnUpWIdeal.nD,
      m' ((c.tc : Thread Cert.FfnUpWRefIdeal.nD Cert.FfnUpWRefIdeal.τ).loc Cert.FfnUpWRefIdeal.main_arg0) = m ((c.tc : Thread Cert.FfnUpWIdeal.nD Cert.FfnUpWIdeal.τ).loc Cert.FfnUpWIdeal.main_arg0)
      ∧ m' ((c.tc : Thread Cert.FfnUpWRefIdeal.nD Cert.FfnUpWRefIdeal.τ).loc Cert.FfnUpWRefIdeal.main_arg1) = m ((c.tc : Thread Cert.FfnUpWIdeal.nD Cert.FfnUpWIdeal.τ).loc Cert.FfnUpWIdeal.main_arg1)) →
    ∃ (v0 : (c : Dev Cert.FfnUpWIdeal.nD) → Buf (Elt Ideal) ((c.tc : Thread Cert.FfnUpWIdeal.nD Cert.FfnUpWIdeal.τ).loc Cert.FfnUpWIdeal.main_v0)),
      θ_run (Cert.FfnUpWIdeal.defs (F := Ideal)) (onTc (τ := Cert.FfnUpWIdeal.τ) (Cert.FfnUpWIdeal.main (F := Ideal))) ⟨m, fun _ => 0, g⟩ (fun r => ∀ c : Dev Cert.FfnUpWIdeal.nD,
          r.2.mem ((c.tc : Thread Cert.FfnUpWIdeal.nD Cert.FfnUpWIdeal.τ).loc Cert.FfnUpWIdeal.main_v0) = v0 c
          ∧ r.2.mem ((c.tc : Thread Cert.FfnUpWIdeal.nD Cert.FfnUpWIdeal.τ).loc Cert.FfnUpWIdeal.main_arg0) = m ((c.tc : Thread Cert.FfnUpWIdeal.nD Cert.FfnUpWIdeal.τ).loc Cert.FfnUpWIdeal.main_arg0)
          ∧ r.2.mem ((c.tc : Thread Cert.FfnUpWIdeal.nD Cert.FfnUpWIdeal.τ).loc Cert.FfnUpWIdeal.main_arg1) = m ((c.tc : Thread Cert.FfnUpWIdeal.nD Cert.FfnUpWIdeal.τ).loc Cert.FfnUpWIdeal.main_arg1))
      ∧ θ_run (Cert.FfnUpWRefIdeal.defs (F := Ideal)) (onTc (τ := Cert.FfnUpWRefIdeal.τ) (Cert.FfnUpWRefIdeal.main (F := Ideal))) ⟨m', fun _ => 0, g'⟩ (fun r => ∀ c : Dev Cert.FfnUpWRefIdeal.nD,
          r.2.mem ((c.tc : Thread Cert.FfnUpWRefIdeal.nD Cert.FfnUpWRefIdeal.τ).loc Cert.FfnUpWRefIdeal.main_v6) = v0 c
          ∧ r.2.mem ((c.tc : Thread Cert.FfnUpWRefIdeal.nD Cert.FfnUpWRefIdeal.τ).loc Cert.FfnUpWRefIdeal.main_arg0) = m' ((c.tc : Thread Cert.FfnUpWRefIdeal.nD Cert.FfnUpWRefIdeal.τ).loc Cert.FfnUpWRefIdeal.main_arg0)
          ∧ r.2.mem ((c.tc : Thread Cert.FfnUpWRefIdeal.nD Cert.FfnUpWRefIdeal.τ).loc Cert.FfnUpWRefIdeal.main_arg1) = m' ((c.tc : Thread Cert.FfnUpWRefIdeal.nD Cert.FfnUpWRefIdeal.τ).loc Cert.FfnUpWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_AttW_AttWIdeal : Prop :=
  True

def algebraic_AttWIdeal_AttWRefIdeal [hAttWIdeal : Cert.AttWIdeal.Facts] [hAttWRefIdeal : Cert.AttWRefIdeal.Facts] : Prop :=
  ∀ (m : (ℓ : Loc Cert.AttWIdeal.nD Cert.AttWIdeal.τ Cert.AttWIdeal.sig) → Buf (Elt Ideal) ℓ) (g : Dev Cert.AttWIdeal.nD → PrngReg)
    (m' : (ℓ : Loc Cert.AttWRefIdeal.nD Cert.AttWRefIdeal.τ Cert.AttWRefIdeal.sig) → Buf (Elt Ideal) ℓ) (g' : Dev Cert.AttWRefIdeal.nD → PrngReg), Pre_AttWIdeal m →
    (∀ c : Dev Cert.AttWIdeal.nD,
      m' ((c.tc : Thread Cert.AttWRefIdeal.nD Cert.AttWRefIdeal.τ).loc Cert.AttWRefIdeal.main_arg0) = m ((c.tc : Thread Cert.AttWIdeal.nD Cert.AttWIdeal.τ).loc Cert.AttWIdeal.main_arg0)
      ∧ m' ((c.tc : Thread Cert.AttWRefIdeal.nD Cert.AttWRefIdeal.τ).loc Cert.AttWRefIdeal.main_arg1) = m ((c.tc : Thread Cert.AttWIdeal.nD Cert.AttWIdeal.τ).loc Cert.AttWIdeal.main_arg1)) →
    ∃ (v0 : (c : Dev Cert.AttWIdeal.nD) → Buf (Elt Ideal) ((c.tc : Thread Cert.AttWIdeal.nD Cert.AttWIdeal.τ).loc Cert.AttWIdeal.main_v0)),
      θ_run (Cert.AttWIdeal.defs (F := Ideal)) (onTc (τ := Cert.AttWIdeal.τ) (Cert.AttWIdeal.main (F := Ideal))) ⟨m, fun _ => 0, g⟩ (fun r => ∀ c : Dev Cert.AttWIdeal.nD,
          r.2.mem ((c.tc : Thread Cert.AttWIdeal.nD Cert.AttWIdeal.τ).loc Cert.AttWIdeal.main_v0) = v0 c
          ∧ r.2.mem ((c.tc : Thread Cert.AttWIdeal.nD Cert.AttWIdeal.τ).loc Cert.AttWIdeal.main_arg0) = m ((c.tc : Thread Cert.AttWIdeal.nD Cert.AttWIdeal.τ).loc Cert.AttWIdeal.main_arg0)
          ∧ r.2.mem ((c.tc : Thread Cert.AttWIdeal.nD Cert.AttWIdeal.τ).loc Cert.AttWIdeal.main_arg1) = m ((c.tc : Thread Cert.AttWIdeal.nD Cert.AttWIdeal.τ).loc Cert.AttWIdeal.main_arg1))
      ∧ θ_run (Cert.AttWRefIdeal.defs (F := Ideal)) (onTc (τ := Cert.AttWRefIdeal.τ) (Cert.AttWRefIdeal.main (F := Ideal))) ⟨m', fun _ => 0, g'⟩ (fun r => ∀ c : Dev Cert.AttWRefIdeal.nD,
          r.2.mem ((c.tc : Thread Cert.AttWRefIdeal.nD Cert.AttWRefIdeal.τ).loc Cert.AttWRefIdeal.main_v4) = v0 c
          ∧ r.2.mem ((c.tc : Thread Cert.AttWRefIdeal.nD Cert.AttWRefIdeal.τ).loc Cert.AttWRefIdeal.main_arg0) = m' ((c.tc : Thread Cert.AttWRefIdeal.nD Cert.AttWRefIdeal.τ).loc Cert.AttWRefIdeal.main_arg0)
          ∧ r.2.mem ((c.tc : Thread Cert.AttWRefIdeal.nD Cert.AttWRefIdeal.τ).loc Cert.AttWRefIdeal.main_arg1) = m' ((c.tc : Thread Cert.AttWRefIdeal.nD Cert.AttWRefIdeal.τ).loc Cert.AttWRefIdeal.main_arg1))

def preserves_SsmW_SsmWIdeal : Prop :=
  True

def algebraic_SsmWIdeal_SsmWRefIdeal [hSsmWIdeal : Cert.SsmWIdeal.Facts] [hSsmWRefIdeal : Cert.SsmWRefIdeal.Facts] : Prop :=
  ∀ (m : (ℓ : Loc Cert.SsmWIdeal.nD Cert.SsmWIdeal.τ Cert.SsmWIdeal.sig) → Buf (Elt Ideal) ℓ) (g : Dev Cert.SsmWIdeal.nD → PrngReg)
    (m' : (ℓ : Loc Cert.SsmWRefIdeal.nD Cert.SsmWRefIdeal.τ Cert.SsmWRefIdeal.sig) → Buf (Elt Ideal) ℓ) (g' : Dev Cert.SsmWRefIdeal.nD → PrngReg), Pre_SsmWIdeal m →
    (∀ c : Dev Cert.SsmWIdeal.nD,
      m' ((c.tc : Thread Cert.SsmWRefIdeal.nD Cert.SsmWRefIdeal.τ).loc Cert.SsmWRefIdeal.main_arg0) = m ((c.tc : Thread Cert.SsmWIdeal.nD Cert.SsmWIdeal.τ).loc Cert.SsmWIdeal.main_arg0)
      ∧ m' ((c.tc : Thread Cert.SsmWRefIdeal.nD Cert.SsmWRefIdeal.τ).loc Cert.SsmWRefIdeal.main_arg1) = m ((c.tc : Thread Cert.SsmWIdeal.nD Cert.SsmWIdeal.τ).loc Cert.SsmWIdeal.main_arg1)) →
    ∃ (v0 : (c : Dev Cert.SsmWIdeal.nD) → Buf (Elt Ideal) ((c.tc : Thread Cert.SsmWIdeal.nD Cert.SsmWIdeal.τ).loc Cert.SsmWIdeal.main_v0)),
      θ_run (Cert.SsmWIdeal.defs (F := Ideal)) (onTc (τ := Cert.SsmWIdeal.τ) (Cert.SsmWIdeal.main (F := Ideal))) ⟨m, fun _ => 0, g⟩ (fun r => ∀ c : Dev Cert.SsmWIdeal.nD,
          r.2.mem ((c.tc : Thread Cert.SsmWIdeal.nD Cert.SsmWIdeal.τ).loc Cert.SsmWIdeal.main_v0) = v0 c
          ∧ r.2.mem ((c.tc : Thread Cert.SsmWIdeal.nD Cert.SsmWIdeal.τ).loc Cert.SsmWIdeal.main_arg0) = m ((c.tc : Thread Cert.SsmWIdeal.nD Cert.SsmWIdeal.τ).loc Cert.SsmWIdeal.main_arg0)
          ∧ r.2.mem ((c.tc : Thread Cert.SsmWIdeal.nD Cert.SsmWIdeal.τ).loc Cert.SsmWIdeal.main_arg1) = m ((c.tc : Thread Cert.SsmWIdeal.nD Cert.SsmWIdeal.τ).loc Cert.SsmWIdeal.main_arg1))
      ∧ θ_run (Cert.SsmWRefIdeal.defs (F := Ideal)) (onTc (τ := Cert.SsmWRefIdeal.τ) (Cert.SsmWRefIdeal.main (F := Ideal))) ⟨m', fun _ => 0, g'⟩ (fun r => ∀ c : Dev Cert.SsmWRefIdeal.nD,
          r.2.mem ((c.tc : Thread Cert.SsmWRefIdeal.nD Cert.SsmWRefIdeal.τ).loc Cert.SsmWRefIdeal.main_v4) = v0 c
          ∧ r.2.mem ((c.tc : Thread Cert.SsmWRefIdeal.nD Cert.SsmWRefIdeal.τ).loc Cert.SsmWRefIdeal.main_arg0) = m' ((c.tc : Thread Cert.SsmWRefIdeal.nD Cert.SsmWRefIdeal.τ).loc Cert.SsmWRefIdeal.main_arg0)
          ∧ r.2.mem ((c.tc : Thread Cert.SsmWRefIdeal.nD Cert.SsmWRefIdeal.τ).loc Cert.SsmWRefIdeal.main_arg1) = m' ((c.tc : Thread Cert.SsmWRefIdeal.nD Cert.SsmWRefIdeal.τ).loc Cert.SsmWRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v4) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v4) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)) →
    ∃ (v0 : (c : Dev Cert.InQIdeal.nD) → Buf (Elt Ideal) ((c.tc : Thread Cert.InQIdeal.nD Cert.InQIdeal.τ).loc Cert.InQIdeal.main_v1_0)) (v1 : (c : Dev Cert.InQIdeal.nD) → Buf (Elt Ideal) ((c.tc : Thread Cert.InQIdeal.nD Cert.InQIdeal.τ).loc Cert.InQIdeal.main_v1_1)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v1_0) = v0 c
          ∧ r.2.mem ((c.tc : Thread Cert.InQIdeal.nD Cert.InQIdeal.τ).loc Cert.InQIdeal.main_v1_1) = v1 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v3) = v0 c
          ∧ r.2.mem ((c.tc : Thread Cert.InQRefIdeal.nD Cert.InQRefIdeal.τ).loc Cert.InQRefIdeal.main_v4) = v1 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1))

def preserves_Att_AttIdeal : Prop :=
  True

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v0)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v3) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)) →
    ∃ (v0 : (c : Dev Cert.SsmIdeal.nD) → Buf (Elt Ideal) ((c.tc : Thread Cert.SsmIdeal.nD Cert.SsmIdeal.τ).loc Cert.SsmIdeal.main_v0)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v0) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v3) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_v6) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def Claim : Prop :=
  ∃ (hKernel : Cert.Kernel.Facts) (hKernelIdeal : Cert.KernelIdeal.Facts) (hReferenceIdeal : Cert.ReferenceIdeal.Facts) (hFfnDownX : Cert.FfnDownX.Facts) (hFfnDownXIdeal : Cert.FfnDownXIdeal.Facts) (hFfnDownXRefIdeal : Cert.FfnDownXRefIdeal.Facts) (hFfnUpX : Cert.FfnUpX.Facts) (hFfnUpXIdeal : Cert.FfnUpXIdeal.Facts) (hFfnUpXRefIdeal : Cert.FfnUpXRefIdeal.Facts) (hOutX : Cert.OutX.Facts) (hOutXIdeal : Cert.OutXIdeal.Facts) (hOutXRefIdeal : Cert.OutXRefIdeal.Facts) (hAttX : Cert.AttX.Facts) (hAttXIdeal : Cert.AttXIdeal.Facts) (hAttXRefIdeal : Cert.AttXRefIdeal.Facts) (hSsmX : Cert.SsmX.Facts) (hSsmXIdeal : Cert.SsmXIdeal.Facts) (hSsmXRefIdeal : Cert.SsmXRefIdeal.Facts) (hInX : Cert.InX.Facts) (hInXIdeal : Cert.InXIdeal.Facts) (hInXRefIdeal : Cert.InXRefIdeal.Facts) (hFfnDownW : Cert.FfnDownW.Facts) (hFfnDownWIdeal : Cert.FfnDownWIdeal.Facts) (hFfnDownWRefIdeal : Cert.FfnDownWRefIdeal.Facts) (hFfnUpW : Cert.FfnUpW.Facts) (hFfnUpWIdeal : Cert.FfnUpWIdeal.Facts) (hFfnUpWRefIdeal : Cert.FfnUpWRefIdeal.Facts) (hOutW : Cert.OutW.Facts) (hOutWIdeal : Cert.OutWIdeal.Facts) (hOutWRefIdeal : Cert.OutWRefIdeal.Facts) (hAttW : Cert.AttW.Facts) (hAttWIdeal : Cert.AttWIdeal.Facts) (hAttWRefIdeal : Cert.AttWRefIdeal.Facts) (hSsmW : Cert.SsmW.Facts) (hSsmWIdeal : Cert.SsmWIdeal.Facts) (hSsmWRefIdeal : Cert.SsmWRefIdeal.Facts) (hInW : Cert.InW.Facts) (hInWIdeal : Cert.InWIdeal.Facts) (hInWRefIdeal : Cert.InWRefIdeal.Facts) (hInZ : Cert.InZ.Facts) (hInZIdeal : Cert.InZIdeal.Facts) (hInZRefIdeal : Cert.InZRefIdeal.Facts) (hInQ : Cert.InQ.Facts) (hInQIdeal : Cert.InQIdeal.Facts) (hInQRefIdeal : Cert.InQRefIdeal.Facts) (hAtt : Cert.Att.Facts) (hAttIdeal : Cert.AttIdeal.Facts) (hAttRefIdeal : Cert.AttRefIdeal.Facts) (hSsm : Cert.Ssm.Facts) (hSsmIdeal : Cert.SsmIdeal.Facts) (hSsmRefIdeal : Cert.SsmRefIdeal.Facts) (hOut : Cert.Out.Facts) (hOutIdeal : Cert.OutIdeal.Facts) (hOutRefIdeal : Cert.OutRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_FfnDownX (hFfnDownX := hFfnDownX)
    ∧ quiescent_FfnDownXIdeal (hFfnDownXIdeal := hFfnDownXIdeal)
    ∧ quiescent_FfnDownXRefIdeal (hFfnDownXRefIdeal := hFfnDownXRefIdeal)
    ∧ quiescent_FfnUpX (hFfnUpX := hFfnUpX)
    ∧ quiescent_FfnUpXIdeal (hFfnUpXIdeal := hFfnUpXIdeal)
    ∧ quiescent_FfnUpXRefIdeal (hFfnUpXRefIdeal := hFfnUpXRefIdeal)
    ∧ quiescent_OutX (hOutX := hOutX)
    ∧ quiescent_OutXIdeal (hOutXIdeal := hOutXIdeal)
    ∧ quiescent_OutXRefIdeal (hOutXRefIdeal := hOutXRefIdeal)
    ∧ quiescent_AttX (hAttX := hAttX)
    ∧ quiescent_AttXIdeal (hAttXIdeal := hAttXIdeal)
    ∧ quiescent_AttXRefIdeal (hAttXRefIdeal := hAttXRefIdeal)
    ∧ quiescent_SsmX (hSsmX := hSsmX)
    ∧ quiescent_SsmXIdeal (hSsmXIdeal := hSsmXIdeal)
    ∧ quiescent_SsmXRefIdeal (hSsmXRefIdeal := hSsmXRefIdeal)
    ∧ quiescent_InX (hInX := hInX)
    ∧ quiescent_InXIdeal (hInXIdeal := hInXIdeal)
    ∧ quiescent_InXRefIdeal (hInXRefIdeal := hInXRefIdeal)
    ∧ quiescent_FfnDownW (hFfnDownW := hFfnDownW)
    ∧ quiescent_FfnDownWIdeal (hFfnDownWIdeal := hFfnDownWIdeal)
    ∧ quiescent_FfnDownWRefIdeal (hFfnDownWRefIdeal := hFfnDownWRefIdeal)
    ∧ quiescent_FfnUpW (hFfnUpW := hFfnUpW)
    ∧ quiescent_FfnUpWIdeal (hFfnUpWIdeal := hFfnUpWIdeal)
    ∧ quiescent_FfnUpWRefIdeal (hFfnUpWRefIdeal := hFfnUpWRefIdeal)
    ∧ quiescent_OutW (hOutW := hOutW)
    ∧ quiescent_OutWIdeal (hOutWIdeal := hOutWIdeal)
    ∧ quiescent_OutWRefIdeal (hOutWRefIdeal := hOutWRefIdeal)
    ∧ quiescent_AttW (hAttW := hAttW)
    ∧ quiescent_AttWIdeal (hAttWIdeal := hAttWIdeal)
    ∧ quiescent_AttWRefIdeal (hAttWRefIdeal := hAttWRefIdeal)
    ∧ quiescent_SsmW (hSsmW := hSsmW)
    ∧ quiescent_SsmWIdeal (hSsmWIdeal := hSsmWIdeal)
    ∧ quiescent_SsmWRefIdeal (hSsmWRefIdeal := hSsmWRefIdeal)
    ∧ quiescent_InW (hInW := hInW)
    ∧ quiescent_InWIdeal (hInWIdeal := hInWIdeal)
    ∧ quiescent_InWRefIdeal (hInWRefIdeal := hInWRefIdeal)
    ∧ quiescent_InZ (hInZ := hInZ)
    ∧ quiescent_InZIdeal (hInZIdeal := hInZIdeal)
    ∧ quiescent_InZRefIdeal (hInZRefIdeal := hInZRefIdeal)
    ∧ quiescent_InQ (hInQ := hInQ)
    ∧ quiescent_InQIdeal (hInQIdeal := hInQIdeal)
    ∧ quiescent_InQRefIdeal (hInQRefIdeal := hInQRefIdeal)
    ∧ quiescent_Att (hAtt := hAtt)
    ∧ quiescent_AttIdeal (hAttIdeal := hAttIdeal)
    ∧ quiescent_AttRefIdeal (hAttRefIdeal := hAttRefIdeal)
    ∧ quiescent_Ssm (hSsm := hSsm)
    ∧ quiescent_SsmIdeal (hSsmIdeal := hSsmIdeal)
    ∧ quiescent_SsmRefIdeal (hSsmRefIdeal := hSsmRefIdeal)
    ∧ quiescent_Out (hOut := hOut)
    ∧ quiescent_OutIdeal (hOutIdeal := hOutIdeal)
    ∧ quiescent_OutRefIdeal (hOutRefIdeal := hOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_FfnDownX_FfnDownXIdeal
    ∧ algebraic_FfnDownXIdeal_FfnDownXRefIdeal (hFfnDownXIdeal := hFfnDownXIdeal) (hFfnDownXRefIdeal := hFfnDownXRefIdeal)
    ∧ preserves_FfnUpX_FfnUpXIdeal
    ∧ algebraic_FfnUpXIdeal_FfnUpXRefIdeal (hFfnUpXIdeal := hFfnUpXIdeal) (hFfnUpXRefIdeal := hFfnUpXRefIdeal)
    ∧ preserves_OutX_OutXIdeal
    ∧ algebraic_OutXIdeal_OutXRefIdeal (hOutXIdeal := hOutXIdeal) (hOutXRefIdeal := hOutXRefIdeal)
    ∧ preserves_AttX_AttXIdeal
    ∧ algebraic_AttXIdeal_AttXRefIdeal (hAttXIdeal := hAttXIdeal) (hAttXRefIdeal := hAttXRefIdeal)
    ∧ preserves_SsmX_SsmXIdeal
    ∧ algebraic_SsmXIdeal_SsmXRefIdeal (hSsmXIdeal := hSsmXIdeal) (hSsmXRefIdeal := hSsmXRefIdeal)
    ∧ preserves_InX_InXIdeal
    ∧ algebraic_InXIdeal_InXRefIdeal (hInXIdeal := hInXIdeal) (hInXRefIdeal := hInXRefIdeal)
    ∧ preserves_FfnDownW_FfnDownWIdeal
    ∧ algebraic_FfnDownWIdeal_FfnDownWRefIdeal (hFfnDownWIdeal := hFfnDownWIdeal) (hFfnDownWRefIdeal := hFfnDownWRefIdeal)
    ∧ preserves_FfnUpW_FfnUpWIdeal
    ∧ algebraic_FfnUpWIdeal_FfnUpWRefIdeal (hFfnUpWIdeal := hFfnUpWIdeal) (hFfnUpWRefIdeal := hFfnUpWRefIdeal)
    ∧ preserves_OutW_OutWIdeal
    ∧ algebraic_OutWIdeal_OutWRefIdeal (hOutWIdeal := hOutWIdeal) (hOutWRefIdeal := hOutWRefIdeal)
    ∧ preserves_AttW_AttWIdeal
    ∧ algebraic_AttWIdeal_AttWRefIdeal (hAttWIdeal := hAttWIdeal) (hAttWRefIdeal := hAttWRefIdeal)
    ∧ preserves_SsmW_SsmWIdeal
    ∧ algebraic_SsmWIdeal_SsmWRefIdeal (hSsmWIdeal := hSsmWIdeal) (hSsmWRefIdeal := hSsmWRefIdeal)
    ∧ preserves_InW_InWIdeal
    ∧ algebraic_InWIdeal_InWRefIdeal (hInWIdeal := hInWIdeal) (hInWRefIdeal := hInWRefIdeal)
    ∧ preserves_InZ_InZIdeal
    ∧ algebraic_InZIdeal_InZRefIdeal (hInZIdeal := hInZIdeal) (hInZRefIdeal := hInZRefIdeal)
    ∧ preserves_InQ_InQIdeal
    ∧ algebraic_InQIdeal_InQRefIdeal (hInQIdeal := hInQIdeal) (hInQRefIdeal := hInQRefIdeal)
    ∧ preserves_Att_AttIdeal
    ∧ algebraic_AttIdeal_AttRefIdeal (hAttIdeal := hAttIdeal) (hAttRefIdeal := hAttRefIdeal)
    ∧ preserves_Ssm_SsmIdeal
    ∧ algebraic_SsmIdeal_SsmRefIdeal (hSsmIdeal := hSsmIdeal) (hSsmRefIdeal := hSsmRefIdeal)
    ∧ preserves_Out_OutIdeal
    ∧ algebraic_OutIdeal_OutRefIdeal (hOutIdeal := hOutIdeal) (hOutRefIdeal := hOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
-- ==== Pre_finite_arguments.lean ====
abbrev S8192x2560 : Shape := ⟨2, ![8192, 2560]⟩
abbrev S12 : Shape := ⟨1, ![12]⟩
abbrev S8192x768 : Shape := ⟨2, ![8192, 768]⟩
abbrev S8192x2304 : Shape := ⟨2, ![8192, 2304]⟩
abbrev S_ : Shape := ⟨0, ![]⟩

class Facts : Prop where
  slices_S8192x2560_S8192x2304_0_0 : S8192x2560.Slices ![0, 0] S8192x2304
  bitsLt_bf16_f32 : FTy.bits .bf16 < FTy.bits .f32
  bcast_S_S8192x2304 : S_.BroadcastsInDim S8192x2304 (![] : Fin 0 → Fin S8192x2304.rank)
  bcast_S_S12 : S_.BroadcastsInDim S12 (![] : Fin 0 → Fin S12.rank)
  bcast_S_S8192x768 : S_.BroadcastsInDim S8192x768 (![] : Fin 0 → Fin S8192x768.rank)

variable [Facts]

def fn {F : FTy → Type} [FloatOps F] (main_arg0 : FVec F S8192x2560 .bf16) (main_arg1 : FVec F S12 .f32) (main_arg2 : FVec F S8192x768 .f32) : IVec S8192x2304 1 × IVec S12 1 × IVec S8192x768 1 :=
  let main_v0 : FVec F S8192x2304 .bf16 := (extractStridedSlice S8192x2304 ![0, 0] · slices_S8192x2560_S8192x2304_0_0) main_arg0
  let main_v1 : FVec F S8192x2304 .f32 := (extf .f32 · bitsLt_bf16_f32) main_v0
  let main_v2 : FVec F S8192x2304 .f32 := Host.absf main_v1
  let main_cst : FVec F S_ .f32 := constant S_ .f32 0x7F800000#32
  let main_v3 : FVec F S8192x2304 .f32 := broadcastInDim S8192x2304 ![] bcast_S_S8192x2304 main_cst
  let main_v4 : IVec S8192x2304 1 := cmpf .olt main_v2 main_v3
  let main_v5 : FVec F S12 .f32 := Host.absf main_arg1
  let main_cst_0 : FVec F S_ .f32 := constant S_ .f32 0x7F800000#32
  let main_v6 : FVec F S12 .f32 := broadcastInDim S12 ![] bcast_S_S12 main_cst_0
  let main_v7 : IVec S12 1 := cmpf .olt main_v5 main_v6
  let main_v8 : FVec F S8192x768 .f32 := Host.absf main_arg2
  let main_cst_1 : FVec F S_ .f32 := constant S_ .f32 0x7F800000#32
  let main_v9 : FVec F S8192x768 .f32 := broadcastInDim S8192x768 ![] bcast_S_S8192x768 main_cst_1
  let main_v10 : IVec S8192x768 1 := cmpf .olt main_v8 main_v9
  (main_v4, main_v7, main_v10)
-- ==== Kernel.lean ====
abbrev S8192x2560 : Shape := ⟨2, ![8192, 2560]⟩
abbrev S12 : Shape := ⟨1, ![12]⟩
abbrev S8192x768 : Shape := ⟨2, ![8192, 768]⟩
abbrev S1x8192x12x64 : Shape := ⟨4, ![1, 8192, 12, 64]⟩
abbrev S_ : Shape := ⟨0, ![]⟩
abbrev S1x64x128x1x12x64 : Shape := ⟨6, ![1, 64, 128, 1, 12, 64]⟩
abbrev S1x1x128x1x12x64 : Shape := ⟨6, ![1, 1, 128, 1, 12, 64]⟩
abbrev S1x63x128x1x12x64 : Shape := ⟨6, ![1, 63, 128, 1, 12, 64]⟩
abbrev S1x64x256x1x12x64 : Shape := ⟨6, ![1, 64, 256, 1, 12, 64]⟩
abbrev S1x64x1x12x128x256 : Shape := ⟨6, ![1, 64, 1, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S12x1x1 : Shape := ⟨3, ![12, 1, 1]⟩
abbrev S12x128x256 : Shape := ⟨3, ![12, 128, 256]⟩
abbrev S1x1x1x12x128x256 : Shape := ⟨6, ![1, 1, 1, 12, 128, 256]⟩
abbrev S1x64x1x1x128x256 : Shape := ⟨6, ![1, 64, 1, 1, 128, 256]⟩
abbrev S1x64x1x12x128 : Shape := ⟨5, ![1, 64, 1, 12, 128]⟩
abbrev S1x64x1x12x128x1 : Shape := ⟨6, ![1, 64, 1, 12, 128, 1]⟩
abbrev S1x64x1x12x64x128 : Shape := ⟨6, ![1, 64, 1, 12, 64, 128]⟩
abbrev S1x64x128x1x12 : Shape := ⟨5, ![1, 64, 128, 1, 12]⟩
abbrev S1x64x128x1x12x1 : Shape := ⟨6, ![1, 64, 128, 1, 12, 1]⟩
abbrev S1x8192x12 : Shape := ⟨3, ![1, 8192, 12]⟩
abbrev S6x2 : Shape := ⟨2, ![6, 2]⟩
abbrev S6x8x2x64 : Shape := ⟨4, ![6, 8, 2, 64]⟩
abbrev S6x8x128 : Shape := ⟨3, ![6, 8, 128]⟩
abbrev S512x256 : Shape := ⟨2, ![512, 256]⟩
abbrev S2x8x128 : Shape := ⟨3, ![2, 8, 128]⟩
abbrev S512x128 : Shape := ⟨2, ![512, 128]⟩
abbrev S128x128 : Shape := ⟨2, ![128, 128]⟩
abbrev S256x128 : Shape := ⟨2, ![256, 128]⟩
abbrev S256x256 : Shape := ⟨2, ![256, 256]⟩
abbrev S1x8x128 : Shape := ⟨3, ![1, 8, 128]⟩
abbrev S8x128 : Shape := ⟨2, ![8, 128]⟩
abbrev S1x1 : Shape := ⟨2, ![1, 1]⟩
abbrev S256x1 : Shape := ⟨2, ![256, 1]⟩

abbrev nBuf : Space → Nat
  | .hbm => 127
  | .vmem => 32
  | .smem => 0
  | _ => 0

abbrev bufTy : (tb : Table) → Fin (tcTables nBuf tb) → BufTy
  | .hbm, ⟨0, _⟩ => ⟨S8192x2560, .bf16⟩
  | .hbm, ⟨1, _⟩ => ⟨S12, .f32⟩
  | .hbm, ⟨2, _⟩ => ⟨S8192x768, .f32⟩
  | .hbm, ⟨3, _⟩ => ⟨S8192x768, .bf16⟩
  | .hbm, ⟨4, _⟩ => ⟨S8192x768, .f32⟩
  | .hbm, ⟨5, _⟩ => ⟨S1x8192x12x64, .f32⟩
  | .hbm, ⟨6, _⟩ => ⟨S8192x768, .bf16⟩
  | .hbm, ⟨7, _⟩ => ⟨S8192x768, .f32⟩
  | .hbm, ⟨8, _⟩ => ⟨S1x8192x12x64, .f32⟩
  | .hbm, ⟨9, _⟩ => ⟨S8192x768, .bf16⟩
  | .hbm, ⟨10, _⟩ => ⟨S8192x768, .f32⟩
  | .hbm, ⟨11, _⟩ => ⟨S1x8192x12x64, .f32⟩
  | .hbm, ⟨12, _⟩ => ⟨S_, .i32⟩
  | .hbm, ⟨13, _⟩ => ⟨S_, .f32⟩
  | .hbm, ⟨14, _⟩ => ⟨S1x8192x12x64, .f32⟩
  | .hbm, ⟨15, _⟩ => ⟨S_, .i32⟩
  | .hbm, ⟨16, _⟩ => ⟨S_, .f32⟩
  | .hbm, ⟨17, _⟩ => ⟨S1x8192x12x64, .f32⟩
  | .hbm, ⟨18, _⟩ => ⟨S_, .i32⟩
  | .hbm, ⟨19, _⟩ => ⟨S_, .f32⟩
  | .hbm, ⟨20, _⟩ => ⟨S1x8192x12x64, .f32⟩
  | .hbm, ⟨21, _⟩ => ⟨S1x64x128x1x12x64, .f32⟩
  | .hbm, ⟨22, _⟩ => ⟨S1x64x128x1x12x64, .f32⟩
  | .hbm, ⟨23, _⟩ => ⟨S1x64x128x1x12x64, .f32⟩
  | .hbm, ⟨24, _⟩ => ⟨S1x1x128x1x12x64, .f32⟩
  | .hbm, ⟨25, _⟩ => ⟨S_, .f32⟩
  | .hbm, ⟨26, _⟩ => ⟨S1x1x128x1x12x64, .f32⟩
  | .hbm, ⟨27, _⟩ => ⟨S1x63x128x1x12x64, .f32⟩
  | .hbm, ⟨28, _⟩ => ⟨S1x64x128x1x12x64, .f32⟩
  | .hbm, ⟨29, _⟩ => ⟨S1x64x256x1x12x64, .f32⟩
  | .hbm, ⟨30, _⟩ => ⟨S1x1x128x1x12x64, .f32⟩
  | .hbm, ⟨31, _⟩ => ⟨S_, .f32⟩
  | .hbm, ⟨32, _⟩ => ⟨S1x1x128x1x12x64, .f32⟩
  | .hbm, ⟨33, _⟩ => ⟨S1x63x128x1x12x64, .f32⟩
  | .hbm, ⟨34, _⟩ => ⟨S1x64x128x1x12x64, .f32⟩
  | .hbm, ⟨35, _⟩ => ⟨S1x64x256x1x12x64, .f32⟩
  | .hbm, ⟨36, _⟩ => ⟨S1x64x1x12x128x256, .f32⟩
  | .hbm, ⟨37, _⟩ => ⟨S_, .f32⟩
  | .hbm, ⟨38, _⟩ => ⟨S1x64x1x12x128x256, .f32⟩
  | .hbm, ⟨39, _⟩ => ⟨S1x64x1x12x128x256, .f32⟩
  | .hbm, ⟨40, _⟩ => ⟨S128, .i32⟩
  | .hbm, ⟨41, _⟩ => ⟨S128x1, .i32⟩
  | .hbm, ⟨42, _⟩ => ⟨S256, .i32⟩
  | .hbm, ⟨43, _⟩ => ⟨S1x256, .i32⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S128x256, .i32⟩
  | .hbm, ⟨48, _⟩ => ⟨S128x256, .i32⟩
  | .hbm, ⟨49, _⟩ => ⟨S128x256, .i32⟩
  | .hbm, ⟨50, _⟩ => ⟨S64, .i32⟩
  | .hbm, ⟨51, _⟩ => ⟨S64x1x1, .i32⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S128x256, .i1⟩
  | .hbm, ⟨59, _⟩ => ⟨S_, .i32⟩
  | .hbm, ⟨60, _⟩ => ⟨S64x1x1, .i32⟩
  | .hbm, ⟨61, _⟩ => ⟨S64x1x1, .i1⟩
  | .hbm, ⟨62, _⟩ => ⟨S_, .i32⟩
  | .hbm, ⟨63, _⟩ => ⟨S1x256, .i32⟩
  | .hbm, ⟨64, _⟩ => ⟨S1x256, .i1⟩
  | .hbm, ⟨65, _⟩ => ⟨S1x1x256, .i1⟩
  | .hbm, ⟨66, _⟩ => ⟨S64x1x256, .i1⟩
  | .hbm, ⟨67, _⟩ => ⟨S64x1x256, .i1⟩
  | .hbm, ⟨68, _⟩ => ⟨S64x1x256, .i1⟩
  | .hbm, ⟨69, _⟩ => ⟨S1x128x256, .i1⟩
  | .hbm, ⟨70, _⟩ => ⟨S64x128x256, .i1⟩
  | .hbm, ⟨71, _⟩ => ⟨S64x128x256, .i1⟩
  | .hbm, ⟨72, _⟩ => ⟨S64x128x256, .i1⟩
  | .hbm, ⟨73, _⟩ => ⟨S12x1x1, .f32⟩
  | .hbm, ⟨74, _⟩ => ⟨S12x1x1, .f32⟩
  | .hbm, ⟨75, _⟩ => ⟨S_, .i32⟩
  | .hbm, ⟨76, _⟩ => ⟨S128x256, .i32⟩
  | .hbm, ⟨77, _⟩ => ⟨S128x256, .i32⟩
  | .hbm, ⟨78, _⟩ => ⟨S128x256, .f32⟩
  | .hbm, ⟨79, _⟩ => ⟨S1x128x256, .f32⟩
  | .hbm, ⟨80, _⟩ => ⟨S12x128x256, .f32⟩
  | .hbm, ⟨81, _⟩ => ⟨S12x128x256, .f32⟩
  | .hbm, ⟨82, _⟩ => ⟨S12x128x256, .f32⟩
  | .hbm, ⟨83, _⟩ => ⟨S1x1x1x12x128x256, .f32⟩
  | .hbm, ⟨84, _⟩ => ⟨S1x64x1x12x128x256, .f32⟩
  | .hbm, ⟨85, _⟩ => ⟨S1x64x1x12x128x256, .f32⟩
  | .hbm, ⟨86, _⟩ => ⟨S1x64x1x1x128x256, .i1⟩
  | .hbm, ⟨87, _⟩ => ⟨S_, .f32⟩
  | .hbm, ⟨88, _⟩ => ⟨S_, .f32⟩
  | .hbm, ⟨89, _⟩ => ⟨S1x64x1x12x128x256, .i1⟩
  | .hbm, ⟨90, _⟩ => ⟨S1x64x1x12x128x256, .f32⟩
  | .hbm, ⟨91, _⟩ => ⟨S1x64x1x12x128x256, .f32⟩
  | .hbm, ⟨92, _⟩ => ⟨S_, .f32⟩
  | .hbm, ⟨93, _⟩ => ⟨S1x64x1x12x128, .f32⟩
  | .hbm, ⟨94, _⟩ => ⟨S1x64x1x12x128x1, .f32⟩
  | .hbm, ⟨95, _⟩ => ⟨S1x64x1x12x128x256, .f32⟩
  | .hbm, ⟨96, _⟩ => ⟨S1x64x1x12x128x256, .f32⟩
  | .hbm, ⟨97, _⟩ => ⟨S1x64x1x12x128x256, .f32⟩
  | .hbm, ⟨98, _⟩ => ⟨S_, .f32⟩
  | .hbm, ⟨99, _⟩ => ⟨S1x64x1x12x128, .f32⟩
  | .hbm, ⟨100, _⟩ => ⟨S1x64x1x12x64x128, .f32⟩
  | .hbm, ⟨101, _⟩ => ⟨S1x64x128x1x12x64, .f32⟩
  | .hbm, ⟨102, _⟩ => ⟨S1x64x128x1x12, .f32⟩
  | .hbm, ⟨103, _⟩ => ⟨S1x64x1x12x128, .f32⟩
  | .hbm, ⟨104, _⟩ => ⟨S1x64x128x1x12, .f32⟩
  | .hbm, ⟨105, _⟩ => ⟨S1x64x128x1x12x1, .f32⟩
  | .hbm, ⟨106, _⟩ => ⟨S1x64x128x1x12x64, .f32⟩
  | .hbm, ⟨107, _⟩ => ⟨S1x64x128x1x12x64, .f32⟩
  | .hbm, ⟨108, _⟩ => ⟨S1x8192x12x64, .f32⟩
  | .hbm, ⟨109, _⟩ => ⟨S1x8192x12, .f32⟩
  | .hbm, ⟨110, _⟩ => ⟨S1x8192x12, .f32⟩
  | .hbm, ⟨111, _⟩ => ⟨S1x8192x12, .f32⟩
  | .hbm, ⟨112, _⟩ => ⟨S1x8192x12, .f32⟩
  | .hbm, ⟨113, _⟩ => ⟨S1x8192x12x64, .f32⟩
  | .hbm, ⟨114, _⟩ => ⟨S8192x768, .f32⟩
  | .hbm, ⟨115, _⟩ => ⟨S1x8192x12x64, .f32⟩
  | .hbm, ⟨116, _⟩ => ⟨S1x8192x12x64, .f32⟩
  | .hbm, ⟨117, _⟩ => ⟨S_, .f32⟩
  | .hbm, ⟨118, _⟩ => ⟨S1x8192x12, .f32⟩
  | .hbm, ⟨119, _⟩ => ⟨S1x8192x12x64, .f32⟩
  | .hbm, ⟨120, _⟩ => ⟨S8192x768, .f32⟩
  | .hbm, ⟨121, _⟩ => ⟨S6x2, .f32⟩
  | .hbm, ⟨122, _⟩ => ⟨S6x8x2x64, .f32⟩
  | .hbm, ⟨123, _⟩ => ⟨S6x8x128, .f32⟩
  | .hbm, ⟨124, _⟩ => ⟨S8192x768, .bf16⟩
  | .hbm, ⟨125, _⟩ => ⟨S8192x768, .bf16⟩
  | .hbm, ⟨126, _⟩ => ⟨S8192x768, .bf16⟩
  | .local _ .vmem, ⟨0, _⟩ => ⟨S512x256, .bf16⟩
  | .local _ .vmem, ⟨1, _⟩ => ⟨S512x256, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S128x256, .f32⟩
  | .local _ .vmem, ⟨16, _⟩ => ⟨S512x256, .f32⟩
  | .local _ .vmem, ⟨17, _⟩ => ⟨S512x256, .f32⟩
  | .local _ .vmem, ⟨18, _⟩ => ⟨S128x256, .f32⟩
  | .local _ .vmem, ⟨19, _⟩ => ⟨S128x256, .f32⟩
  | .local _ .vmem, ⟨20, _⟩ => ⟨S512x256, .f32⟩
  | .local _ .vmem, ⟨21, _⟩ => ⟨S512x256, .f32⟩
  | .local _ .vmem, ⟨22, _⟩ => ⟨S128x256, .f32⟩
  | .local _ .vmem, ⟨23, _⟩ => ⟨S128x256, .f32⟩
  | .local _ .vmem, ⟨24, _⟩ => ⟨S2x8x128, .f32⟩
  | .local _ .vmem, ⟨25, _⟩ => ⟨S2x8x128, .f32⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99_0 : Ref sig .tc := ⟨.hbm, 124, rfl⟩
abbrev main_v99_1 : Ref sig .tc := ⟨.hbm, 125, rfl⟩
abbrev main_v99_2 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.addi c3_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let v3 : BitVec 32 := Scalar.addi c0_i32 arg0
  let c0_i32_0 : BitVec 32 := 0#32
  ![v2.toNat, v3.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S2x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x2560 : Shape := ⟨2, ![8192, 2560]⟩
abbrev S12 : Shape := ⟨1, ![12]⟩
abbrev S8192x768 : Shape := ⟨2, ![8192, 768]⟩
abbrev S1x8192x12x64 : Shape := ⟨4, ![1, 8192, 12, 64]⟩
abbrev S_ : Shape := ⟨0, ![]⟩
abbrev S1x64x128x1x12x64 : Shape := ⟨6, ![1, 64, 128, 1, 12, 64]⟩
abbrev S1x1x128x1x12x64 : Shape := ⟨6, ![1, 1, 128, 1, 12, 64]⟩
abbrev S1x63x128x1x12x64 : Shape := ⟨6, ![1, 63, 128, 1, 12, 64]⟩
abbrev S1x64x256x1x12x64 : Shape := ⟨6, ![1, 64, 256, 1, 12, 64]⟩
abbrev S1x64x1x12x128x256 : Shape := ⟨6, ![1, 64, 1, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S12x1x1 : Shape := ⟨3, ![12, 1, 1]⟩
abbrev S12x128x256 : Shape := ⟨3, ![12, 128, 256]⟩
abbrev S1x1x1x12x128x256 : Shape := ⟨6, ![1, 1, 1, 12, 128, 256]⟩
abbrev S1x64x1x1x128x256 : Shape := ⟨6, ![1, 64, 1, 1, 128, 256]⟩
abbrev S1x64x1x12x128 : Shape := ⟨5, ![1, 64, 1, 12, 128]⟩
abbrev S1x64x1x12x128x1 : Shape := ⟨6, ![1, 64, 1, 12, 128, 1]⟩
abbrev S1x64x1x12x64x128 : Shape := ⟨6, ![1, 64, 1, 12, 64, 128]⟩
abbrev S1x64x128x1x12 : Shape := ⟨5, ![1, 64, 128, 1, 12]⟩
abbrev S1x64x128x1x12x1 : Shape := ⟨6, ![1, 64, 128, 1, 12, 1]⟩
abbrev S1x8192x12 : Shape := ⟨3, ![1, 8192, 12]⟩
abbrev S64x128x12 : Shape := ⟨3, ![64, 128, 12]⟩
abbrev S1x64x1x12x64x256 : Shape := ⟨6, ![1, 64, 1, 12, 64, 256]⟩
abbrev S64x12x128 : Shape := ⟨3, ![64, 12, 128]⟩
abbrev S1x64x1x12x256x64 : Shape := ⟨6, ![1, 64, 1, 12, 256, 64]⟩
abbrev S1x64x1x12x128x64 : Shape := ⟨6, ![1, 64, 1, 12, 128, 64]⟩

abbrev nBuf : Space → Nat
  | .hbm => 205
  | .vmem => 0
  | .smem => 0
  | _ => 0

abbrev hbmTy0_0 (i : Nat) : BufTy := match i % 128 with
  | 0 => ⟨S8192x2560, .bf16⟩
  | 1 => ⟨S12, .f32⟩
  | 2 => ⟨S8192x768, .f32⟩
  | 3 => ⟨S8192x768, .bf16⟩
  | 4 => ⟨S8192x768, .f32⟩
  | 5 => ⟨S1x8192x12x64, .f32⟩
  | 6 => ⟨S8192x768, .bf16⟩
  | 7 => ⟨S8192x768, .f32⟩
  | 8 => ⟨S1x8192x12x64, .f32⟩
  | 9 => ⟨S8192x768, .bf16⟩
  | 10 => ⟨S8192x768, .f32⟩
  | 11 => ⟨S1x8192x12x64, .f32⟩
  | 12 => ⟨S_, .i32⟩
  | 13 => ⟨S_, .f32⟩
  | 14 => ⟨S1x8192x12x64, .f32⟩
  | 15 => ⟨S_, .f32⟩
  | 16 => ⟨S_, .i32⟩
  | 17 => ⟨S_, .f32⟩
  | 18 => ⟨S1x8192x12x64, .f32⟩
  | 19 => ⟨S_, .f32⟩
  | 20 => ⟨S_, .i32⟩
  | 21 => ⟨S_, .f32⟩
  | 22 => ⟨S1x8192x12x64, .f32⟩
  | 23 => ⟨S_, .f32⟩
  | 24 => ⟨S1x64x128x1x12x64, .f32⟩
  | 25 => ⟨S1x64x128x1x12x64, .f32⟩
  | 26 => ⟨S1x64x128x1x12x64, .f32⟩
  | 27 => ⟨S1x1x128x1x12x64, .f32⟩
  | 28 => ⟨S_, .f32⟩
  | 29 => ⟨S1x1x128x1x12x64, .f32⟩
  | 30 => ⟨S1x63x128x1x12x64, .f32⟩
  | 31 => ⟨S1x64x128x1x12x64, .f32⟩
  | 32 => ⟨S_, .f32⟩
  | 33 => ⟨S1x1x128x1x12x64, .f32⟩
  | 34 => ⟨S1x64x256x1x12x64, .f32⟩
  | 35 => ⟨S1x1x128x1x12x64, .f32⟩
  | 36 => ⟨S_, .f32⟩
  | 37 => ⟨S1x1x128x1x12x64, .f32⟩
  | 38 => ⟨S1x63x128x1x12x64, .f32⟩
  | 39 => ⟨S1x64x128x1x12x64, .f32⟩
  | 40 => ⟨S_, .f32⟩
  | 41 => ⟨S1x1x128x1x12x64, .f32⟩
  | 42 => ⟨S1x64x256x1x12x64, .f32⟩
  | 43 => ⟨S1x64x1x12x128x256, .f32⟩
  | 44 => ⟨S_, .f32⟩
  | 45 => ⟨S1x64x1x12x128x256, .f32⟩
  | 46 => ⟨S1x64x1x12x128x256, .f32⟩
  | 47 => ⟨S128, .i32⟩
  | 48 => ⟨S128x1, .i32⟩
  | 49 => ⟨S256, .i32⟩
  | 50 => ⟨S1x256, .i32⟩
  | 51 => ⟨S_, .i32⟩
  | 52 => ⟨S128x1, .i32⟩
  | 53 => ⟨S128x1, .i32⟩
  | 54 => ⟨S128x256, .i32⟩
  | 55 => ⟨S128x256, .i32⟩
  | 56 => ⟨S128x256, .i32⟩
  | 57 => ⟨S64, .i32⟩
  | 58 => ⟨S64x1x1, .i32⟩
  | 59 => ⟨S_, .i32⟩
  | 60 => ⟨S128x256, .i32⟩
  | 61 => ⟨S128x256, .i1⟩
  | 62 => ⟨S_, .i32⟩
  | 63 => ⟨S128x256, .i32⟩
  | 64 => ⟨S128x256, .i1⟩
  | 65 => ⟨S128x256, .i1⟩
  | 66 => ⟨S_, .i32⟩
  | 67 => ⟨S64x1x1, .i32⟩
  | 68 => ⟨S64x1x1, .i1⟩
  | 69 => ⟨S_, .i32⟩
  | 70 => ⟨S1x256, .i32⟩
  | 71 => ⟨S1x256, .i1⟩
  | 72 => ⟨S1x1x256, .i1⟩
  | 73 => ⟨S64x1x256, .i1⟩
  | 74 => ⟨S64x1x256, .i1⟩
  | 75 => ⟨S64x1x256, .i1⟩
  | 76 => ⟨S1x128x256, .i1⟩
  | 77 => ⟨S64x128x256, .i1⟩
  | 78 => ⟨S64x128x256, .i1⟩
  | 79 => ⟨S64x128x256, .i1⟩
  | 80 => ⟨S12x1x1, .f32⟩
  | 81 => ⟨S12x1x1, .f32⟩
  | 82 => ⟨S_, .i32⟩
  | 83 => ⟨S128x256, .i32⟩
  | 84 => ⟨S128x256, .i32⟩
  | 85 => ⟨S128x256, .f32⟩
  | 86 => ⟨S1x128x256, .f32⟩
  | 87 => ⟨S12x128x256, .f32⟩
  | 88 => ⟨S12x128x256, .f32⟩
  | 89 => ⟨S12x128x256, .f32⟩
  | 90 => ⟨S1x1x1x12x128x256, .f32⟩
  | 91 => ⟨S1x64x1x12x128x256, .f32⟩
  | 92 => ⟨S1x64x1x12x128x256, .f32⟩
  | 93 => ⟨S1x64x1x1x128x256, .i1⟩
  | 94 => ⟨S_, .f32⟩
  | 95 => ⟨S_, .f32⟩
  | 96 => ⟨S1x64x1x12x128x256, .i1⟩
  | 97 => ⟨S1x64x1x12x128x256, .f32⟩
  | 98 => ⟨S1x64x1x12x128x256, .f32⟩
  | 99 => ⟨S_, .f32⟩
  | 100 => ⟨S1x64x1x12x128x256, .f32⟩
  | 101 => ⟨S_, .f32⟩
  | 102 => ⟨S1x64x1x12x128, .f32⟩
  | 103 => ⟨S1x64x1x12x128x1, .f32⟩
  | 104 => ⟨S1x64x1x12x128x256, .f32⟩
  | 105 => ⟨S1x64x1x12x128x256, .i1⟩
  | 106 => ⟨S1x64x1x12x128x256, .f32⟩
  | 107 => ⟨S_, .f32⟩
  | 108 => ⟨S1x64x1x12x128, .f32⟩
  | 109 => ⟨S1x64x1x12x128x1, .f32⟩
  | 110 => ⟨S1x64x1x12x128x256, .f32⟩
  | 111 => ⟨S1x64x1x12x128x256, .f32⟩
  | 112 => ⟨S1x64x1x12x128x256, .f32⟩
  | 113 => ⟨S_, .f32⟩
  | 114 => ⟨S1x64x1x12x128, .f32⟩
  | 115 => ⟨S1x64x1x12x64x128, .f32⟩
  | 116 => ⟨S1x64x128x1x12x64, .f32⟩
  | 117 => ⟨S1x64x128x1x12, .f32⟩
  | 118 => ⟨S1x64x1x12x128, .f32⟩
  | 119 => ⟨S1x64x128x1x12, .f32⟩
  | 120 => ⟨S1x64x128x1x12x1, .f32⟩
  | 121 => ⟨S1x64x128x1x12x64, .f32⟩
  | 122 => ⟨S1x64x128x1x12x64, .f32⟩
  | 123 => ⟨S1x64x128x1x12x1, .f32⟩
  | 124 => ⟨S_, .f32⟩
  | 125 => ⟨S1x64x128x1x12x1, .f32⟩
  | 126 => ⟨S1x64x128x1x12x1, .f32⟩
  | 127 => ⟨S1x8192x12x64, .f32⟩
  | _ => ⟨S8192x2560, .bf16⟩

abbrev hbmTy0_1 (i : Nat) : BufTy := match i % 128 with
  | 0 => ⟨S1x8192x12, .f32⟩
  | 1 => ⟨S1x8192x12, .f32⟩
  | 2 => ⟨S1x8192x12x64, .f32⟩
  | 3 => ⟨S1x64x128x1x12x64, .f32⟩
  | 4 => ⟨S1x64x128x1x12x64, .f32⟩
  | 5 => ⟨S1x64x128x1x12x64, .f32⟩
  | 6 => ⟨S1x64x128x1x12x64, .f32⟩
  | 7 => ⟨S_, .f32⟩
  | 8 => ⟨S1x64x128x1x12, .f32⟩
  | 9 => ⟨S1x64x128x1x12x1, .f32⟩
  | 10 => ⟨S1x64x128x1x12x1, .f32⟩
  | 11 => ⟨S1x64x128x1x12x64, .f32⟩
  | 12 => ⟨S1x64x128x1x12x64, .f32⟩
  | 13 => ⟨S_, .f32⟩
  | 14 => ⟨S64x128x12, .f32⟩
  | 15 => ⟨S1x64x128x1x12, .f32⟩
  | 16 => ⟨S1x64x1x12x128, .f32⟩
  | 17 => ⟨S1x64x1x12x64x128, .f32⟩
  | 18 => ⟨S1x64x1x12x128x256, .f32⟩
  | 19 => ⟨S1x64x1x12x64x256, .f32⟩
  | 20 => ⟨S1x64x256x1x12x64, .f32⟩
  | 21 => ⟨S1x64x1x12x128x256, .f32⟩
  | 22 => ⟨S1x64x1x12x128x256, .f32⟩
  | 23 => ⟨S1x64x1x12x128x256, .f32⟩
  | 24 => ⟨S1x64x1x12x128x256, .f32⟩
  | 25 => ⟨S_, .f32⟩
  | 26 => ⟨S1x64x1x12x128, .f32⟩
  | 27 => ⟨S1x64x1x12x128x1, .f32⟩
  | 28 => ⟨S_, .f32⟩
  | 29 => ⟨S64x12x128, .f32⟩
  | 30 => ⟨S1x64x1x12x128, .f32⟩
  | 31 => ⟨S1x64x1x12x128, .f32⟩
  | 32 => ⟨S1x64x1x12x128x256, .f32⟩
  | 33 => ⟨S1x64x1x12x128x256, .f32⟩
  | 34 => ⟨S1x64x1x12x128x256, .f32⟩
  | 35 => ⟨S_, .f32⟩
  | 36 => ⟨S1x64x1x12x128x256, .f32⟩
  | 37 => ⟨S1x64x1x12x128x256, .f32⟩
  | 38 => ⟨S_, .f32⟩
  | 39 => ⟨S1x64x1x12x128x256, .f32⟩
  | 40 => ⟨S1x64x1x12x128x256, .f32⟩
  | 41 => ⟨S1x64x1x12x256x64, .f32⟩
  | 42 => ⟨S1x64x256x1x12x64, .f32⟩
  | 43 => ⟨S1x64x1x12x128x64, .f32⟩
  | 44 => ⟨S1x64x128x1x12x64, .f32⟩
  | 45 => ⟨S1x64x128x1x12x64, .f32⟩
  | 46 => ⟨S1x64x128x1x12x64, .f32⟩
  | 47 => ⟨S1x1x128x1x12x64, .f32⟩
  | 48 => ⟨S1x63x128x1x12x64, .f32⟩
  | 49 => ⟨S_, .f32⟩
  | 50 => ⟨S1x64x128x1x12x64, .f32⟩
  | 51 => ⟨S1x64x128x1x12x64, .f32⟩
  | 52 => ⟨S1x64x128x1x12x64, .f32⟩
  | 53 => ⟨S1x64x128x1x12x64, .f32⟩
  | 54 => ⟨S1x1x128x1x12x64, .f32⟩
  | 55 => ⟨S1x63x128x1x12x64, .f32⟩
  | 56 => ⟨S_, .f32⟩
  | 57 => ⟨S1x64x128x1x12x64, .f32⟩
  | 58 => ⟨S1x64x128x1x12x64, .f32⟩
  | 59 => ⟨S1x8192x12x64, .f32⟩
  | 60 => ⟨S1x8192x12x64, .f32⟩
  | 61 => ⟨S1x8192x12x64, .f32⟩
  | 62 => ⟨S_, .f32⟩
  | 63 => ⟨S1x8192x12x64, .f32⟩
  | 64 => ⟨S1x8192x12x64, .f32⟩
  | 65 => ⟨S_, .f32⟩
  | 66 => ⟨S1x8192x12x64, .f32⟩
  | 67 => ⟨S1x8192x12x64, .f32⟩
  | 68 => ⟨S_, .f32⟩
  | 69 => ⟨S1x8192x12x64, .f32⟩
  | 70 => ⟨S1x8192x12x64, .f32⟩
  | 71 => ⟨S8192x768, .f32⟩
  | 72 => ⟨S8192x768, .bf16⟩
  | 73 => ⟨S8192x768, .f32⟩
  | 74 => ⟨S8192x768, .bf16⟩
  | 75 => ⟨S8192x768, .f32⟩
  | 76 => ⟨S8192x768, .bf16⟩
  | _ => ⟨S8192x2560, .bf16⟩

abbrev hbmTy (i : Nat) : BufTy := match i / 128 with
  | 0 => hbmTy0_0 i
  | 1 => hbmTy0_1 i
  | _ => ⟨S8192x2560, .bf16⟩

abbrev bufTy : (tb : Table) → Fin (tcTables nBuf tb) → BufTy
  | .hbm, ⟨i, _⟩ => hbmTy i
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9_0 : Ref sig .tc := ⟨.hbm, 14, rfl⟩
abbrev main_v9_1 : Ref sig .tc := ⟨.hbm, 15, rfl⟩
abbrev main_c_0 : Ref sig .tc := ⟨.hbm, 16, rfl⟩
abbrev main_call1_v0 : Ref sig .tc := ⟨.hbm, 17, rfl⟩
abbrev main_v10_0 : Ref sig .tc := ⟨.hbm, 18, rfl⟩
abbrev main_v10_1 : Ref sig .tc := ⟨.hbm, 19, rfl⟩
abbrev main_c_1 : Ref sig .tc := ⟨.hbm, 20, rfl⟩
abbrev main_call2_v0 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_call3_v0 : Ref sig .tc := ⟨.hbm, 95, rfl⟩
abbrev main_v71_1 : Ref sig .tc := ⟨.hbm, 96, rfl⟩
abbrev main_call3_v2 : Ref sig .tc := ⟨.hbm, 97, rfl⟩
abbrev main_v71_0 : Ref sig .tc := ⟨.hbm, 98, rfl⟩
abbrev main_call3_cst : Ref sig .tc := ⟨.hbm, 99, rfl⟩
abbrev main_v71_2 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_16 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_17 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_18 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_19 : Ref sig .tc := ⟨.hbm, 153, rfl⟩
abbrev main_v118 : Ref sig .tc := ⟨.hbm, 154, rfl⟩
abbrev main_v119 : Ref sig .tc := ⟨.hbm, 155, rfl⟩
abbrev main_cst_20 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_call4_cst : Ref sig .tc := ⟨.hbm, 163, rfl⟩
abbrev main_call4_v0 : Ref sig .tc := ⟨.hbm, 164, rfl⟩
abbrev main_v126 : Ref sig .tc := ⟨.hbm, 165, rfl⟩
abbrev main_cst_21 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_22 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_23 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_call5_cst : Ref sig .tc := ⟨.hbm, 190, rfl⟩
abbrev main_call5_v0 : Ref sig .tc := ⟨.hbm, 191, rfl⟩
abbrev main_v148 : Ref sig .tc := ⟨.hbm, 192, rfl⟩
abbrev main_call6_cst : Ref sig .tc := ⟨.hbm, 193, rfl⟩
abbrev main_call6_v0 : Ref sig .tc := ⟨.hbm, 194, rfl⟩
abbrev main_v149 : Ref sig .tc := ⟨.hbm, 195, rfl⟩
abbrev main_call7_cst : Ref sig .tc := ⟨.hbm, 196, rfl⟩
abbrev main_call7_v0 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩

abbrev nD : Nat := 1
abbrev τ : Topo := Topo.v7x

variable {F : FTy → Type} [FloatOps F]
-- ==== FfnDownX.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownXRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== FfnUpX.lean ====
abbrev S8192x4096 : Shape := ⟨2, ![8192, 4096]⟩
abbrev S1024x4096 : Shape := ⟨2, ![1024, 4096]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpXRefIdeal.lean ====
abbrev S8192x4096 : Shape := ⟨2, ![8192, 4096]⟩
abbrev S1024x4096 : Shape := ⟨2, ![1024, 4096]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1024x4096, .f32⟩
  | .hbm, ⟨3, _⟩ => ⟨S8192x4096, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutX.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttX.lean ====
abbrev S8192x1024 : Shape := ⟨2, ![8192, 1024]⟩
abbrev S768x1024 : Shape := ⟨2, ![768, 1024]⟩
abbrev S8192x768 : Shape := ⟨2, ![8192, 768]⟩
abbrev S512x1024 : Shape := ⟨2, ![512, 1024]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S8192x768, .f32⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttXRefIdeal.lean ====
abbrev S8192x1024 : Shape := ⟨2, ![8192, 1024]⟩
abbrev S768x1024 : Shape := ⟨2, ![768, 1024]⟩
abbrev S8192x768 : Shape := ⟨2, ![8192, 768]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S768x1024, .bf16⟩
  | .hbm, ⟨2, _⟩ => ⟨S768x1024, .f32⟩
  | .hbm, ⟨3, _⟩ => ⟨S8192x1024, .f32⟩
  | .hbm, ⟨4, _⟩ => ⟨S8192x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmX.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmXRefIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S8192x1024, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InX.lean ====
abbrev S8192x10752 : Shape := ⟨2, ![8192, 10752]⟩
abbrev S1024x10752 : Shape := ⟨2, ![1024, 10752]⟩
abbrev S8192x1024 : Shape := ⟨2, ![8192, 1024]⟩
abbrev S1024x3584 : Shape := ⟨2, ![1024, 3584]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10752, .bf16⟩
  | .hbm, ⟨1, _⟩ => ⟨S1024x10752, .bf16⟩
  | .hbm, ⟨2, _⟩ => ⟨S8192x1024, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S8192x10752 : Shape := ⟨2, ![8192, 10752]⟩
abbrev S1024x10752 : Shape := ⟨2, ![1024, 10752]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S1024x10752, .bf16⟩
  | .hbm, ⟨2, _⟩ => ⟨S1024x10752, .f32⟩
  | .hbm, ⟨3, _⟩ => ⟨S8192x10752, .f32⟩
  | .hbm, ⟨4, _⟩ => ⟨S8192x1024, .f32⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownW.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownWRefIdeal.lean ====
abbrev S8192x4096 : Shape := ⟨2, ![8192, 4096]⟩
abbrev S8192x1024 : Shape := ⟨2, ![8192, 1024]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUpW.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpWRefIdeal.lean ====
abbrev S8192x1024 : Shape := ⟨2, ![8192, 1024]⟩
abbrev S8192x4096 : Shape := ⟨2, ![8192, 4096]⟩
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttW.lean ====
abbrev S8192x768 : Shape := ⟨2, ![8192, 768]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S768x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttWRefIdeal.lean ====
abbrev S8192x768 : Shape := ⟨2, ![8192, 768]⟩
abbrev S8192x1024 : Shape := ⟨2, ![8192, 1024]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1024, .bf16⟩
  | .hbm, ⟨2, _⟩ => ⟨S8192x768, .f32⟩
  | .hbm, ⟨3, _⟩ => ⟨S8192x1024, .f32⟩
  | .hbm, ⟨4, _⟩ => ⟨S1024x768, .f32⟩
  | .hbm, ⟨5, _⟩ => ⟨S768x1024, .f32⟩
  | .hbm, ⟨6, _⟩ => ⟨S768x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmW.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmWRefIdeal.lean ====
abbrev S8192x2048 : Shape := ⟨2, ![8192, 2048]⟩
abbrev S8192x1024 : Shape := ⟨2, ![8192, 1024]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InW.lean ====
abbrev S8192x1024 : Shape := ⟨2, ![8192, 1024]⟩
abbrev S8192x10752 : Shape := ⟨2, ![8192, 10752]⟩
abbrev S1024x10752 : Shape := ⟨2, ![1024, 10752]⟩
abbrev S2048x1024 : Shape := ⟨2, ![2048, 1024]⟩
abbrev S2048x1792 : Shape := ⟨2, ![2048, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10752, .bf16⟩
  | .hbm, ⟨2, _⟩ => ⟨S1024x10752, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x1024 : Shape := ⟨2, ![8192, 1024]⟩
abbrev S8192x10752 : Shape := ⟨2, ![8192, 10752]⟩
abbrev S10752x1024 : Shape := ⟨2, ![10752, 1024]⟩
abbrev S1024x10752 : Shape := ⟨2, ![1024, 10752]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10752, .bf16⟩
  | .hbm, ⟨2, _⟩ => ⟨S8192x1024, .f32⟩
  | .hbm, ⟨3, _⟩ => ⟨S8192x10752, .f32⟩
  | .hbm, ⟨4, _⟩ => ⟨S10752x1024, .f32⟩
  | .hbm, ⟨5, _⟩ => ⟨S1024x10752, .f32⟩
  | .hbm, ⟨6, _⟩ => ⟨S1024x10752, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InZ.lean ====
abbrev S8192x1024 : Shape := ⟨2, ![8192, 1024]⟩
abbrev S1024x10752 : Shape := ⟨2, ![1024, 10752]⟩
abbrev S8192x8192 : Shape := ⟨2, ![8192, 8192]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10752, .bf16⟩
  | .hbm, ⟨2, _⟩ => ⟨S8192x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S8192x1024 : Shape := ⟨2, ![8192, 1024]⟩
abbrev S1024x10752 : Shape := ⟨2, ![1024, 10752]⟩
abbrev S1024x8192 : Shape := ⟨2, ![1024, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10752, .bf16⟩
  | .hbm, ⟨2, _⟩ => ⟨S1024x8192, .bf16⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S8192x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InQ.lean ====
abbrev S8192x1024 : Shape := ⟨2, ![8192, 1024]⟩
abbrev S1024x10752 : Shape := ⟨2, ![1024, 10752]⟩
abbrev S1024x2560 : Shape := ⟨2, ![1024, 2560]⟩
abbrev S8192x2560 : Shape := ⟨2, ![8192, 2560]⟩
abbrev S1024x1024 : Shape := ⟨2, ![1024, 1024]⟩
abbrev S1024x1280 : Shape := ⟨2, ![1024, 1280]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x10752, .bf16⟩
  | .hbm, ⟨2, _⟩ => ⟨S1024x2560, .bf16⟩
  | .hbm, ⟨3, _⟩ => ⟨S8192x2560, .f32⟩
  | .hbm, ⟨4, _⟩ => ⟨S8192x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .bf16⟩
  | .local _ .vmem, ⟨7, _⟩ => ⟨S1024x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InQRefIdeal.lean ====
abbrev S8192x1024 : Shape := ⟨2, ![8192, 1024]⟩
abbrev S1024x10752 : Shape := ⟨2, ![1024, 10752]⟩
abbrev S1024x2560 : Shape := ⟨2, ![1024, 2560]⟩
abbrev S8192x2560 : Shape := ⟨2, ![8192, 2560]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10752, .bf16⟩
  | .hbm, ⟨2, _⟩ => ⟨S1024x2560, .bf16⟩
  | .hbm, ⟨3, _⟩ => ⟨S8192x1024, .f32⟩
  | .hbm, ⟨4, _⟩ => ⟨S1024x2560, .f32⟩
  | .hbm, ⟨5, _⟩ => ⟨S8192x2560, .f32⟩
  | .hbm, ⟨6, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Att.lean ====
abbrev S8192x768 : Shape := ⟨2, ![8192, 768]⟩
abbrev S768x1024 : Shape := ⟨2, ![768, 1024]⟩
abbrev S8192x1024 : Shape := ⟨2, ![8192, 1024]⟩
abbrev S512x768 : Shape := ⟨2, ![512, 768]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x768, .bf16⟩
  | .hbm, ⟨1, _⟩ => ⟨S768x1024, .bf16⟩
  | .hbm, ⟨2, _⟩ => ⟨S8192x1024, .bf16⟩
  | .local _ .vmem, ⟨0, _⟩ => ⟨S512x768, .bf16⟩
  | .local _ .vmem, ⟨1, _⟩ => ⟨S512x768, .bf16⟩
  | .local _ .vmem, ⟨2, _⟩ => ⟨S768x1024, .bf16⟩
  | .local _ .vmem, ⟨3, _⟩ => ⟨S512x1024, .bf16⟩
  | .local _ .vmem, ⟨4, _⟩ => ⟨S512x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttRefIdeal.lean ====
abbrev S8192x768 : Shape := ⟨2, ![8192, 768]⟩
abbrev S768x1024 : Shape := ⟨2, ![768, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S768x1024, .bf16⟩
  | .hbm, ⟨2, _⟩ => ⟨S8192x768, .f32⟩
  | .hbm, ⟨3, _⟩ => ⟨S768x1024, .f32⟩
  | .hbm, ⟨4, _⟩ => ⟨S8192x1024, .f32⟩
  | .hbm, ⟨5, _⟩ => ⟨S8192x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ssm.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1024x8x512, .bf16⟩
  | .hbm, ⟨3, _⟩ => ⟨S8x1024x512, .bf16⟩
  | .hbm, ⟨4, _⟩ => ⟨S8192x4096, .bf16⟩
  | .hbm, ⟨5, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnDown.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Tile.lean ====
/- One tile of the backward pass of the windowed attention: 128 query rows of one pair of heads
   against 256 keys (the previous and the current block) or against 128 keys (the current block,
   seen from the next block's queries). The tile's vector operations, read at an index and, on
   finite data, written as formulas over the reals. -/
module

public import proofs.«01_k».proof.Proof.Gen.KernelIdeal.Skeleton
public import Idealize.ShloMosaic.Lib.Pointwise
public import Idealize.ShloMosaic.Lib.WordArith

@[expose] public section

set_option maxRecDepth 16384

noncomputable section

namespace Cert.Attn

open Cert.KernelIdeal Idealize.ShloMosaic Facts₀ Facts

/-! ## The vector operations of a tile -/

/-- The half of the 128 lanes a lane lies in: its number divided by 64, rounded down. -/
def half : IVec S128x128 32 :=
  let i : IVec S128x128 32 := iota .tc S128x128 32 [1] iota_S128x128_d1_w32
  let d : IVec S128x128 32 := divsi i (broadcast S128x128 64#32)
  let sgn : IVec S128x128 32 := subi (extui 32 (cmpi .sgt i (broadcast S128x128 0#32)) natLt_1_32)
    (extui 32 (cmpi .slt i (broadcast S128x128 0#32)) natLt_1_32)
  let one : BitVec 32 := Scalar.subi (Scalar.extui (Scalar.cmpi .sgt 64#32 0#32))
    (Scalar.extui (Scalar.cmpi .slt 64#32 0#32))
  select (andi (cmpi .ne sgn (broadcast S128x128 one))
      (cmpi .ne (remsi i (broadcast S128x128 64#32)) (broadcast S128x128 0#32)))
    (subi d (broadcast S128x128 1#32)) d

/-- The two heads of a pair on top of each other: the lanes of the other head are zero. -/
def stk (x : FVec Ideal S128x128 .bf16) : FVec Ideal S256x128 .bf16 :=
  concatenate S256x128 0
    [⟨S128x128, select (cmpi .eq half (broadcast S128x128 0#32)) x
        (broadcast S128x128 (Scalar.ofBits .bf16 0x0000#16))⟩,
     ⟨S128x128, select (cmpi .eq half (broadcast S128x128 1#32)) x
        (broadcast S128x128 (Scalar.ofBits .bf16 0x0000#16))⟩]
    concatenates_S128x128_S128x128_S256x128_d0

/-- The two heads' columns of a row-wise quantity (lanes 0 and 64) on top of each other. -/
def col2 (x : Vec Ideal S128x128 .f32) : FVec Ideal S256x1 .f32 :=
  let y : FVec Ideal S128x128 .f32 := shapeCast S128x128 x shapeCasts_S128x128_S128x128
  concatenate S256x1 0
    [⟨S128x1, extractStridedSlice S128x1 ![0, 0] y slices_S128x128_o0_0_S128x1⟩,
     ⟨S128x1, extractStridedSlice S128x1 ![0, 64] y slices_S128x128_o0_64_S128x1⟩]
    concatenates_S128x1_S128x1_S256x1_d0

/-- The queries, scaled. -/
def scaled (q : Vec Ideal S128x128 .bf16) : FVec Ideal S128x128 .bf16 :=
  mulf q (broadcast S128x128 (Scalar.ofBits .bf16 0x3E00#16))

/-- The cotangent, as the products take it. -/
def narrow (o : Vec Ideal S128x128 .f32) : FVec Ideal S128x128 .bf16 :=
  truncf .bf16 o bitsLt_bf16_f32

/-- The distance of query `i` from key `j` of the previous and the current block. -/
def dist256 : IVec S128x256 32 :=
  subi (addi (broadcast S128x256 128#32) (iota .tc S128x256 32 [0] iota_S128x256_d0_w32))
    (iota .tc S128x256 32 [1] iota_S128x256_d1_w32)

/-- The keys in the window; `first` says that the block has no previous one. -/
def valid256 (first : BitVec 1) : IVec S128x256 1 :=
  andi (andi (cmpi .sge dist256 (broadcast S128x256 0#32))
      (cmpi .sle dist256 (broadcast S128x256 128#32)))
    (ori (broadcast S128x256 (Scalar.xori first 1#1))
      (cmpi .sge (iota .tc S128x256 32 [1] iota_S128x256_d1_w32) (broadcast S128x256 128#32)))

/-- The distance of query `i` of the next block from key `j` of this one. -/
def dist128 : IVec S128x128 32 :=
  subi (addi (broadcast S128x128 128#32) (iota .tc S128x128 32 [0] iota_S128x128_d0_w32))
    (iota .tc S128x128 32 [1] iota_S128x128_d1_w32)

/-- The queries of the next block whose window holds the key; `more` says that there is one. -/
def valid128 (more : BitVec 1) : IVec S128x128 1 :=
  andi (andi (cmpi .sge dist128 (broadcast S128x128 0#32))
      (cmpi .sle dist128 (broadcast S128x128 128#32))) (broadcast S128x128 more)

/-- The probabilities of both heads over 256 keys. -/
def prob256 (q : Vec Ideal S128x128 .bf16) (k : FVec Ideal S256x128 .bf16)
    (L : Vec Ideal S128x128 .f32) (s0 s1 : Vec Ideal S1x1 .f32) (first : BitVec 1) :
    FVec Ideal S256x256 .f32 :=
  let dist : FVec Ideal S128x256 .f32 := sitofp .f32 (muli dist256 (broadcast S128x256 1#32))
  let one (s : Vec Ideal S1x1 .f32) : FVec Ideal S256x256 .f32 :=
    broadcastTo S256x256 (shapeCast S1x1 (shapeCast S1x1 s shapeCasts_S1x1_S1x1 : FVec Ideal S1x1 .f32)
      shapeCasts_S1x1_S1x1 : FVec Ideal S1x1 .f32) broadcasts_S1x1_S256x256
  let slope : FVec Ideal S256x256 .f32 :=
    select (cmpi .slt (iota .tc S256x256 32 [0] iota_S256x256_d0_w32) (broadcast S256x256 128#32))
      (one s0) (one s1)
  let bias : FVec Ideal S256x256 .f32 :=
    mulf (subf (broadcast S256x256 (Scalar.ofBits .f32 0x00000000#32)) slope)
      (concatenate S256x256 0 [⟨S128x256, dist⟩, ⟨S128x256, dist⟩]
        concatenates_S128x256_S128x256_S256x256_d0)
  exp (subf (addf
      (matmul dot_S256x128_S256x128_S256x256_1_1_0_0_n_n none (stk (scaled q)) k
        (constant S256x256 .f32 0x00000000#32))
      (select (concatenate S256x256 0 [⟨S128x256, valid256 first⟩, ⟨S128x256, valid256 first⟩]
          concatenates_S128x256_S128x256_S256x256_d0) bias
        (broadcast S256x256 (Named.named κ "mask" 0xF149F2CA#32))))
    (broadcastTo S256x256 (col2 L) broadcasts_S256x1_S256x256))

/-- The cotangents of the scores of both heads over 256 keys. -/
def ds256 (q : Vec Ideal S128x128 .bf16) (k v : FVec Ideal S256x128 .bf16)
    (o L D : Vec Ideal S128x128 .f32) (s0 s1 : Vec Ideal S1x1 .f32) (first : BitVec 1) :
    FVec Ideal S256x256 .bf16 :=
  truncf .bf16 (mulf (prob256 q k L s0 s1 first)
    (subf (matmul dot_S256x128_S256x128_S256x256_1_1_0_0_n_n none (stk (narrow o)) v
        (constant S256x256 .f32 0x00000000#32))
      (broadcastTo S256x256 (col2 D) broadcasts_S256x1_S256x256))) bitsLt_bf16_f32

/-- The tile's gradient of the queries. -/
def dq256 (q : Vec Ideal S128x128 .bf16) (k v : FVec Ideal S256x128 .bf16)
    (o L D : Vec Ideal S128x128 .f32) (s0 s1 : Vec Ideal S1x1 .f32) (first : BitVec 1) :
    FVec Ideal S128x128 .bf16 :=
  let x : FVec Ideal S256x128 .f32 :=
    matmul dot_S256x256_S256x128_S256x128_1_0_0_1_n_n none (ds256 q k v o L D s0 s1 first) k
      (constant S256x128 .f32 0x00000000#32)
  truncf .bf16 (mulf (select (cmpi .eq half (broadcast S128x128 0#32))
      (extractStridedSlice S128x128 ![0, 0] x slices_S256x128_o0_0_S128x128)
      (extractStridedSlice S128x128 ![128, 0] x slices_S256x128_o128_0_S128x128) : FVec Ideal S128x128 .f32)
    (broadcast S128x128 (Scalar.ofBits .f32 0x3E000000#32))) bitsLt_bf16_f32

/-- The tile's gradient of its 256 keys. -/
def dk256 (q : Vec Ideal S128x128 .bf16) (k v : FVec Ideal S256x128 .bf16)
    (o L D : Vec Ideal S128x128 .f32) (s0 s1 : Vec Ideal S1x1 .f32) (first : BitVec 1) :
    FVec Ideal S256x128 .f32 :=
  matmul dot_S256x256_S256x128_S256x128_0_0_1_1_n_n none (ds256 q k v o L D s0 s1 first)
    (stk (scaled q)) (constant S256x128 .f32 0x00000000#32)

/-- The tile's gradient of its 256 values. -/
def dv256 (q : Vec Ideal S128x128 .bf16) (k : FVec Ideal S256x128 .bf16)
    (o L : Vec Ideal S128x128 .f32) (s0 s1 : Vec Ideal S1x1 .f32) (first : BitVec 1) :
    FVec Ideal S256x128 .f32 :=
  matmul dot_S256x256_S256x128_S256x128_0_0_1_1_n_n none
    (truncf .bf16 (prob256 q k L s0 s1 first) bitsLt_bf16_f32)
    (stk (narrow o)) (constant S256x128 .f32 0x00000000#32)

/-- The rows of the first 128 keys of a tile. -/
def lower (x : FVec Ideal S256x128 .f32) : FVec Ideal S128x128 .f32 :=
  extractStridedSlice S128x128 ![0, 0] x slices_S256x128_o0_0_S128x128

/-- The rows of the last 128 keys of a tile. -/
def upper (x : FVec Ideal S256x128 .f32) : FVec Ideal S128x128 .f32 :=
  extractStridedSlice S128x128 ![128, 0] x slices_S256x128_o128_0_S128x128

/-- Two blocks of keys, one after the other. -/
def two (x y : Vec Ideal S128x128 .bf16) : FVec Ideal S256x128 .bf16 :=
  concatenate S256x128 0 [⟨S128x128, x⟩, ⟨S128x128, y⟩] concatenates_S128x128_S128x128_S256x128_d0

/-- What is written back: the sum of the two tiles that read the key. -/
def both (x y : FVec Ideal S128x128 .f32) : FVec Ideal S128x128 .bf16 :=
  truncf .bf16 (addf x y) bitsLt_bf16_f32

/-- The probabilities of both heads of the next block over the 128 keys of this one. -/
def prob128 (q : Vec Ideal S128x128 .bf16) (k : FVec Ideal S128x128 .bf16)
    (L : Vec Ideal S128x128 .f32) (s0 s1 : Vec Ideal S1x1 .f32) (more : BitVec 1) :
    FVec Ideal S256x128 .f32 :=
  let dist : FVec Ideal S128x128 .f32 := sitofp .f32 (muli dist128 (broadcast S128x128 1#32))
  let one (s : Vec Ideal S1x1 .f32) : FVec Ideal S256x128 .f32 :=
    broadcastTo S256x128 (shapeCast S1x1 (shapeCast S1x1 s shapeCasts_S1x1_S1x1 : FVec Ideal S1x1 .f32)
      shapeCasts_S1x1_S1x1 : FVec Ideal S1x1 .f32) broadcasts_S1x1_S256x128
  let slope : FVec Ideal S256x128 .f32 :=
    select (cmpi .slt (iota .tc S256x128 32 [0] iota_S256x128_d0_w32) (broadcast S256x128 128#32))
      (one s0) (one s1)
  let bias : FVec Ideal S256x128 .f32 :=
    mulf (subf (broadcast S256x128 (Scalar.ofBits .f32 0x00000000#32)) slope)
      (concatenate S256x128 0 [⟨S128x128, dist⟩, ⟨S128x128, dist⟩]
        concatenates_S128x128_S128x128_S256x128_d0)
  exp (subf (addf
      (matmul dot_S256x128_S128x128_S256x128_1_1_0_0_n_n none (stk (scaled q)) k
        (constant S256x128 .f32 0x00000000#32))
      (select (concatenate S256x128 0 [⟨S128x128, valid128 more⟩, ⟨S128x128, valid128 more⟩]
          concatenates_S128x128_S128x128_S256x128_d0) bias
        (broadcast S256x128 (Named.named κ "mask" 0xF149F2CA#32))))
    (broadcastTo S256x128 (col2 L) broadcasts_S256x1_S256x128))

/-- The cotangents of the scores of the next block over the 128 keys of this one. -/
def ds128 (q : Vec Ideal S128x128 .bf16) (k v : FVec Ideal S128x128 .bf16)
    (o L D : Vec Ideal S128x128 .f32) (s0 s1 : Vec Ideal S1x1 .f32) (more : BitVec 1) :
    FVec Ideal S256x128 .bf16 :=
  truncf .bf16 (mulf (prob128 q k L s0 s1 more)
    (subf (matmul dot_S256x128_S128x128_S256x128_1_1_0_0_n_n none (stk (narrow o)) v
        (constant S256x128 .f32 0x00000000#32))
      (broadcastTo S256x128 (col2 D) broadcasts_S256x1_S256x128))) bitsLt_bf16_f32

/-- The gradient of this block's 128 keys by the next block's queries. -/
def dk128 (q k v : Vec Ideal S128x128 .bf16)
    (o L D : Vec Ideal S128x128 .f32) (s0 s1 : Vec Ideal S1x1 .f32) (more : BitVec 1) :
    FVec Ideal S128x128 .f32 :=
  matmul dot_S256x128_S256x128_S128x128_0_0_1_1_n_n none (ds128 q k v o L D s0 s1 more)
    (stk (scaled q)) (constant S128x128 .f32 0x00000000#32)

/-- The gradient of this block's 128 values by the next block's queries. -/
def dv128 (q k : Vec Ideal S128x128 .bf16)
    (o L : Vec Ideal S128x128 .f32) (s0 s1 : Vec Ideal S1x1 .f32) (more : BitVec 1) :
    FVec Ideal S128x128 .f32 :=
  matmul dot_S256x128_S256x128_S128x128_0_0_1_1_n_n none
    (truncf .bf16 (prob128 q k L s0 s1 more) bitsLt_bf16_f32)
    (stk (narrow o)) (constant S128x128 .f32 0x00000000#32)

/-! ## Read at an index -/

/-- The half a lane lies in, as a bit test. -/
theorem half_eq (i l : Fin 128) (h : Fin 2) :
    IntOp.cmpi .eq (half (ix2 i l)) (BitVec.ofNat 32 h) = BitVec.ofBool (decide ((l : ℕ) / 64 = h)) := by
  have key : ∀ l : Fin 128, half (ix2 i l) = BitVec.ofNat 32 ((l : ℕ) / 64) := by
    intro l
    pointwise [half]
    revert l
    decide +kernel
  rw [key]
  revert l h
  decide +kernel

/-- The bf16 word of the scale is 1/8. -/
theorem eighth_bf16 : Ideal.ofBits .bf16 0x3E00#16 = ((1 / 8 : ℝ) : EReal) := by
  simp [Ideal.ofBits, Ideal.ieee, -EReal.coe_mul]; norm_num

/-- The f32 word of the scale is 1/8. -/
theorem eighth_f32 : Ideal.ofBits .f32 0x3E000000#32 = ((1 / 8 : ℝ) : EReal) := by
  simp [Ideal.ofBits, Ideal.ieee, -EReal.coe_mul]; norm_num

/-- The named mask is −∞. -/
theorem mask_eq : Named.named (F := Ideal) (φ := .f32) κ "mask" 0xF149F2CA#32 = (⊥ : EReal) :=
  IdealRules.named_const.ideal_named_scalar _ _ _ _ rfl

/-- The stacked heads at an index. -/
theorem stk_apply (x : FVec Ideal S128x128 .bf16) (r : Fin 256) (l : Fin 128) :
    stk x (ix2 r l) = if (r : ℕ) / 128 = (l : ℕ) / 64 then x (ix2 ⟨r % 128, Nat.mod_lt _ (by norm_num)⟩ l)
      else 0 := by
  have h0 := fun i => half_eq i l 0
  have h1 := fun i => half_eq i l 1
  pointwise [stk]
  split
  · rename_i h
    rw [show (0#32) = BitVec.ofNat 32 ((0 : Fin 2) : ℕ) from rfl, h0]
    have e : (⟨(r : ℕ) % 128, Nat.mod_lt _ (by norm_num)⟩ : Fin 128) = ⟨r, h⟩ :=
      Fin.ext (Nat.mod_eq_of_lt h)
    rw [e, Nat.div_eq_of_lt h]
    by_cases c : (l : ℕ) / 64 = 0
    · simp [c, Scalar.select]
    · simp [c, Scalar.select, Ne.symm c]
  · rename_i h
    rw [show (1#32) = BitVec.ofNat 32 ((1 : Fin 2) : ℕ) from rfl, h1]
    have hr : (r : ℕ) % 128 = r - 128 := by omega
    have hd : (r : ℕ) / 128 = 1 := by omega
    have e : (⟨(r : ℕ) % 128, Nat.mod_lt _ (by norm_num)⟩ : Fin 128) = ⟨r - 128, by omega⟩ :=
      Fin.ext hr
    rw [e, hd]
    by_cases c : (l : ℕ) / 64 = 1
    · simp [c, Scalar.select]
    · simp [c, Scalar.select, Ne.symm c]

/-- The two columns on top of each other, at an index. -/
theorem col2_apply (x : Vec Ideal S128x128 .f32) (r : Fin 256) :
    col2 x (ix2 r 0) = x (ix2 ⟨r % 128, Nat.mod_lt _ (by norm_num)⟩ ⟨64 * (r / 128), by omega⟩) := by
  pointwise [col2]
  split
  · rename_i h
    congr 2
    · exact Fin.ext (Nat.mod_eq_of_lt h).symm
    · exact Fin.ext (by show 0 = _; simp only; omega)
  · rename_i h
    congr 2
    · exact Fin.ext (by simp only; omega)
    · exact Fin.ext (by show 64 = _; simp only; omega)

/-! ## On finite data -/

/-- The matrix `x` holds the real numbers `f`. -/
def Is {a b : ℕ} (x : (⟨2, ![a, b]⟩ : Shape).Idx → EReal) (f : ℕ → ℕ → ℝ) : Prop :=
  ∀ (i : Fin a) (j : Fin b), x (ix2 i j) = ((f i j : ℝ) : EReal)

/-- Key `j` is in the window of query `i`: at most 128 back, and in a block that is there. -/
def Near (prev : Bool) (i j : ℕ) : Prop := i ≤ j ∧ j ≤ 128 + i ∧ (128 ≤ j ∨ prev = true)

instance (prev : Bool) (i j : ℕ) : Decidable (Near prev i j) := by unfold Near; infer_instance

/-- The score of query `i` against key `j` in head `h` of the pair, with the bias. -/
def scoreR (q k : ℕ → ℕ → ℝ) (s : ℕ → ℝ) (h i j : ℕ) : ℝ :=
  (∑ d ∈ Finset.range 64, q i (64 * h + d) * (1 / 8) * k j (64 * h + d)) - s h * (128 + i - j)

/-- The probability of key `j` for query `i` in head `h` of the pair. -/
def probR (q k L : ℕ → ℕ → ℝ) (s : ℕ → ℝ) (prev : Bool) (h i j : ℕ) : ℝ :=
  if Near prev i j then Real.exp (scoreR q k s h i j - L i (64 * h)) else 0

/-- The cotangent of the score of query `i` against key `j` in head `h` of the pair. -/
def dsR (q k v o L D : ℕ → ℕ → ℝ) (s : ℕ → ℝ) (prev : Bool) (h i j : ℕ) : ℝ :=
  probR q k L s prev h i j *
    ((∑ d ∈ Finset.range 64, o i (64 * h + d) * v j (64 * h + d)) - D i (64 * h))

/-- A finite sum of real numbers, as a sum over a range. -/
theorem sum_coe {n : ℕ} (f : ℕ → ℝ) :
    (∑ x : Fin n, ((f x : ℝ) : EReal)) = ((∑ x ∈ Finset.range n, f x : ℝ) : EReal) := by
  rw [← Fin.sum_univ_eq_sum_range]
  induction n with
  | zero => simp
  | succ n ih =>
    rw [Fin.sum_univ_castSucc, Fin.sum_univ_castSucc, EReal.coe_add]
    congr 1

/-- A sum over 128 lanes of which only those of half `h` count. -/
theorem sum_half {h : ℕ} (hh : h < 2) (f g : ℕ → ℝ) :
    (∑ x ∈ Finset.range 128, (if h = x / 64 then f x else 0) * g x)
      = ∑ d ∈ Finset.range 64, f (64 * h + d) * g (64 * h + d) := by
  rw [show 128 = 64 + 64 from rfl, Finset.sum_range_add]
  have a : ∀ x ∈ Finset.range 64, x / 64 = 0 := fun x hx =>
    Nat.div_eq_of_lt (Finset.mem_range.1 hx)
  have b : ∀ x ∈ Finset.range 64, (64 + x) / 64 = 1 := fun x hx => by
    have := Finset.mem_range.1 hx
    omega
  interval_cases h
  · rw [Finset.sum_congr rfl fun x hx => by rw [a x hx, if_pos rfl],
      Finset.sum_eq_zero (s := Finset.range 64) (f := fun x => _ * g (64 + x)) fun x hx => by
        rw [b x hx, if_neg (by norm_num), zero_mul], add_zero]
    simp
  · rw [Finset.sum_eq_zero fun x hx => by rw [a x hx, if_neg (by norm_num), zero_mul], zero_add]
    exact Finset.sum_congr rfl fun x hx => by rw [b x hx, if_pos rfl]

/-- A sum over the 256 stacked rows of which only those of head `h` count. -/
theorem sum_rows {h : ℕ} (hh : h < 2) (f : ℕ → ℕ → ℝ) (g : ℕ → ℝ) :
    (∑ r ∈ Finset.range 256, f (r / 128) (r % 128) * (if r / 128 = h then g (r % 128) else 0))
      = ∑ i ∈ Finset.range 128, f h i * g i := by
  rw [show 256 = 128 + 128 from rfl, Finset.sum_range_add]
  have a : ∀ x ∈ Finset.range 128, x / 128 = 0 ∧ x % 128 = x := fun x hx =>
    ⟨Nat.div_eq_of_lt (Finset.mem_range.1 hx), Nat.mod_eq_of_lt (Finset.mem_range.1 hx)⟩
  have b : ∀ x ∈ Finset.range 128, (128 + x) / 128 = 1 ∧ (128 + x) % 128 = x := fun x hx => by
    have := Finset.mem_range.1 hx
    omega
  interval_cases h
  · rw [Finset.sum_congr rfl fun x hx => by rw [(a x hx).1, (a x hx).2, if_pos rfl],
      Finset.sum_eq_zero (s := Finset.range 128)
        (f := fun x => f ((128 + x) / 128) ((128 + x) % 128) *
          (if (128 + x) / 128 = 0 then g ((128 + x) % 128) else 0)) fun x hx => by
        rw [(b x hx).1, if_neg (by norm_num), mul_zero], add_zero]
  · rw [Finset.sum_eq_zero fun x hx => by rw [(a x hx).1, if_neg (by norm_num), mul_zero], zero_add]
    exact Finset.sum_congr rfl fun x hx => by rw [(b x hx).1, (b x hx).2, if_pos rfl]

/-- The stacked heads hold the head's lanes, zero elsewhere. -/
theorem stk_is {x : FVec Ideal S128x128 .bf16} {f : ℕ → ℕ → ℝ} (hx : Is x f) :
    Is (stk x) fun r l => if r / 128 = l / 64 then f (r % 128) l else 0 := by
  intro r l
  rw [stk_apply, hx]
  by_cases c : (r : ℕ) / 128 = (l : ℕ) / 64
  · simp only [c, if_true]
  · simp only [c, if_false, EReal.coe_zero]

/-- A tile times the scale. -/
theorem scaled_is {x : Vec Ideal S128x128 .bf16} {f : ℕ → ℕ → ℝ} (hx : Is x f) :
    Is (scaled x) fun i l => f i l * (1 / 8) := by
  intro i l
  pointwise [scaled]
  rw [hx, eighth_bf16, ← EReal.coe_mul]

/-- A cast to bf16 keeps the entries. -/
theorem narrow_is {x : Vec Ideal S128x128 .f32} {f : ℕ → ℕ → ℝ} (hx : Is x f) :
    Is (narrow x) f := by
  intro i l
  pointwise [narrow]
  rw [hx]

/-- The head columns of a tile of two heads, by stacked rows. -/
theorem col2_is {x : Vec Ideal S128x128 .f32} {f : ℕ → ℕ → ℝ} (hx : Is x f) (r : Fin 256) :
    col2 x (ix2 r 0) = ((f (r % 128) (64 * (r / 128)) : ℝ) : EReal) := by
  rw [col2_apply, hx]

/-- The distance, as a signed word. -/
theorem dist_toInt (i j : ℕ) (hi : i < 128) (hj : j < 256) :
    ((128#32 + BitVec.ofNat 32 i) - BitVec.ofNat 32 j).toInt = 128 + (i : ℤ) - j := by
  rw [BitVec.toInt_sub, BitVec.toInt_add]
  have a : (BitVec.ofNat 32 i).toInt = i := by
    rw [BitVec.toInt_eq_toNat_of_lt] <;> simp <;> omega
  have b : (BitVec.ofNat 32 j).toInt = j := by
    rw [BitVec.toInt_eq_toNat_of_lt] <;> simp <;> omega
  rw [a, b, show (128#32).toInt = 128 from rfl, Int.bmod_eq_of_le (n := 128 + (i : ℤ)) (by omega) (by omega),
    Int.bmod_eq_of_le (by omega) (by omega)]

/-- The distances of a tile of 256 keys, as integers. -/
theorem dist256_toInt (i : Fin 128) (j : Fin 256) :
    (dist256 (ix2 i j)).toInt = 128 + (i : ℤ) - j := by
  pointwise [dist256]
  exact dist_toInt i j i.2 j.2

/-- The distances of a tile of 128 keys, as integers. -/
theorem dist128_toInt (i : Fin 128) (j : Fin 128) :
    (dist128 (ix2 i j)).toInt = 128 + (i : ℤ) - j := by
  pointwise [dist128]
  exact dist_toInt i j i.2 (by omega)

/-- The distance, as a number. -/
theorem dist_real (w : BitVec 32) (i j : ℕ) (h : w.toInt = 128 + (i : ℤ) - j) :
    (FloatOps.sitofp .f32 (IntOp.muli w 1#32) : Ideal .f32) = ((128 + i - j : ℝ) : EReal) := by
  have : IntOp.muli w 1#32 = w := BitVec.mul_one w
  rw [this]
  show (((w.toInt : ℝ)) : EReal) = _
  rw [h]
  push_cast
  rfl

/-- The keys in the window, as bits. -/
theorem valid256_eq (prev : Bool) (i : Fin 128) (j : Fin 256) :
    valid256 (BitVec.ofBool (!prev)) (ix2 i j) = BitVec.ofBool (decide (Near prev i j)) := by
  have h := dist256_toInt i j
  have hb : (BitVec.ofNat 32 (j : ℕ)).toInt = j := by
    rw [BitVec.toInt_eq_toNat_of_lt] <;> simp <;> omega
  pointwise [valid256]
  rw [show Scalar.xori (BitVec.ofBool !prev) 1#1 = BitVec.ofBool prev by cases prev <;> decide]
  simp only [IntOp.cmpi, WordArith.andi_ofBool, WordArith.ori_ofBool]
  congr 1
  rw [Bool.eq_iff_iff, decide_eq_true_iff]
  unfold Near
  simp only [Bool.and_eq_true, Bool.or_eq_true, decide_eq_true_eq, BitVec.sle_iff_toInt_le, h, hb,
    show (0#32).toInt = 0 from rfl, show (128#32).toInt = 128 from rfl]
  constructor
  · rintro ⟨⟨a, b⟩, c⟩
    exact ⟨by omega, by omega, c.symm.imp_left (by omega)⟩
  · rintro ⟨a, b, c⟩
    exact ⟨⟨by omega, by omega⟩, c.symm.imp_right (by omega)⟩

/-- The queries of the next block whose window holds the key, as bits. -/
theorem valid128_eq (more : Bool) (i : Fin 128) (j : Fin 128) :
    valid128 (BitVec.ofBool more) (ix2 i j) = BitVec.ofBool (decide (Near more i j)) := by
  have h := dist128_toInt i j
  pointwise [valid128]
  simp only [IntOp.cmpi, WordArith.andi_ofBool]
  congr 1
  rw [Bool.eq_iff_iff, decide_eq_true_iff]
  unfold Near
  simp only [Bool.and_eq_true, decide_eq_true_eq, BitVec.sle_iff_toInt_le, h,
    show (0#32).toInt = 0 from rfl, show (128#32).toInt = 128 from rfl]
  constructor
  · rintro ⟨⟨a, b⟩, c⟩
    exact ⟨by omega, by omega, .inr c⟩
  · rintro ⟨a, b, c⟩
    exact ⟨⟨by omega, by omega⟩, c.resolve_left (by omega)⟩

/-- The upper rows of the stack take the first slope, the lower rows the second. -/
theorem slope_sel (r : Fin 256) {a b : EReal} {s : ℕ → ℝ} (ha : a = ((s 0 : ℝ) : EReal))
    (hb : b = ((s 1 : ℝ) : EReal)) :
    Scalar.select (IntOp.cmpi .slt (BitVec.ofNat 32 (r : ℕ)) 128#32) a b
      = ((s ((r : ℕ) / 128) : ℝ) : EReal) := by
  have hr : (BitVec.ofNat 32 (r : ℕ)).toInt = r := by
    rw [BitVec.toInt_eq_toNat_of_lt] <;> simp <;> omega
  by_cases c : (r : ℕ) < 128
  · rw [show IntOp.cmpi .slt (BitVec.ofNat 32 (r : ℕ)) 128#32 = 1#1 by
      simp only [IntOp.cmpi, WordArith.ofBool_eq_one_iff, BitVec.slt_iff_toInt_lt, hr]
      show (r : ℤ) < 128
      omega, Nat.div_eq_of_lt c, ← ha]
    rfl
  · rw [show IntOp.cmpi .slt (BitVec.ofNat 32 (r : ℕ)) 128#32 = 0#1 by
      rw [IntOp.cmpi, show (BitVec.ofNat 32 (r : ℕ)).slt 128#32 = false by
        rw [← Bool.not_eq_true, BitVec.slt_iff_toInt_lt, hr]
        show ¬ (r : ℤ) < 128
        omega]
      rfl, show (r : ℕ) / 128 = 1 by omega, ← hb]
    rfl

/-- The probability from its score, its bias and its row's logarithm, on finite data. -/
theorem prob_of (p : Prop) [Decidable p] (x s d l : ℝ) :
    Ideal.exp (((x : ℝ) : EReal) + Scalar.select (BitVec.ofBool (decide p)) ((0 - (s : EReal)) * (d : EReal)) ⊥
        - (l : EReal))
      = ((if p then Real.exp (x - s * d - l) else 0 : ℝ) : EReal) := by
  by_cases h : p
  · simp only [h, decide_true, if_true]
    show Ideal.exp ((x : EReal) + (0 - (s : EReal)) * (d : EReal) - (l : EReal)) = _
    rw [zero_sub, ← EReal.coe_neg, ← EReal.coe_mul, ← EReal.coe_add, ← EReal.coe_sub,
      show x + -s * d - l = x - s * d - l by ring]
    rfl
  · simp only [h, decide_false, if_false]
    show Ideal.exp ((x : EReal) + ⊥ - (l : EReal)) = _
    rw [EReal.add_bot, EReal.bot_sub]
    rfl

section
variable {q : Vec Ideal S128x128 .bf16} {o L D : Vec Ideal S128x128 .f32} {s0 s1 : Vec Ideal S1x1 .f32}
  {qf of Lf Df kf vf : ℕ → ℕ → ℝ} {s : ℕ → ℝ}

/-- The probabilities of a tile of 256 keys on finite data. -/
theorem prob256_is {k : FVec Ideal S256x128 .bf16} (hq : Is q qf) (hk : Is k kf) (hL : Is L Lf)
    (h0 : s0 (ix2 0 0) = ((s 0 : ℝ) : EReal)) (h1 : s1 (ix2 0 0) = ((s 1 : ℝ) : EReal)) (prev : Bool) :
    Is (prob256 q k L s0 s1 (BitVec.ofBool (!prev))) fun r j =>
      probR qf kf Lf s prev (r / 128) (r % 128) j := by
  intro r j
  have hs : (∑ x : Fin 128, stk (scaled q) (ix2 r x) * k (ix2 j x))
      = ((∑ d ∈ Finset.range 64, qf (r % 128) (64 * (r / 128) + d) * (1 / 8)
          * kf j (64 * (r / 128) + d) : ℝ) : EReal) := by
    rw [← sum_half (by omega) (fun l => qf (r % 128) l * (1 / 8)) (fun l => kf j l), ← sum_coe]
    refine Finset.sum_congr rfl fun x _ => ?_
    rw [stk_is (scaled_is hq), hk, ← EReal.coe_mul]
  have hr : (r : ℕ) % 128 < 128 := Nat.mod_lt _ (by norm_num)
  pointwise [prob256]
  rw [hs, slope_sel r h0 h1, mask_eq, col2_is hL]
  have hd : (if h : (r : ℕ) < 128 then FloatOps.sitofp .f32 (IntOp.muli (dist256 (ix2 ⟨r, h⟩ j)) 1#32)
      else FloatOps.sitofp .f32 (IntOp.muli (dist256 (ix2 ⟨r - 128, by omega⟩ j)) 1#32) : Ideal .f32)
      = ((128 + ((r : ℕ) % 128 : ℕ) - (j : ℕ) : ℝ) : EReal) := by
    split
    · rename_i h
      rw [dist_real _ _ _ (dist256_toInt ⟨r, h⟩ j), Nat.mod_eq_of_lt h]
    · rename_i h
      rw [dist_real _ _ _ (dist256_toInt ⟨r - 128, by omega⟩ j), show (r : ℕ) % 128 = r - 128 by omega]
  have hv : (if h : (r : ℕ) < 128 then valid256 (BitVec.ofBool (!prev)) (ix2 ⟨r, h⟩ j)
      else valid256 (BitVec.ofBool (!prev)) (ix2 ⟨r - 128, by omega⟩ j))
      = BitVec.ofBool (decide (Near prev (r % 128) j)) := by
    split
    · rename_i h
      rw [valid256_eq, Nat.mod_eq_of_lt h]
    · rename_i h
      rw [valid256_eq]
      simp only [show (r : ℕ) % 128 = r - 128 by omega]
  erw [hd, hv]
  rw [prob_of]
  rfl

/-- The cotangents of the scores of a tile of 256 keys on finite data. -/
theorem ds256_is {k v : FVec Ideal S256x128 .bf16} (hq : Is q qf) (hk : Is k kf) (hv : Is v vf)
    (ho : Is o of) (hL : Is L Lf) (hD : Is D Df)
    (h0 : s0 (ix2 0 0) = ((s 0 : ℝ) : EReal)) (h1 : s1 (ix2 0 0) = ((s 1 : ℝ) : EReal)) (prev : Bool) :
    Is (ds256 q k v o L D s0 s1 (BitVec.ofBool (!prev))) fun r j =>
      dsR qf kf vf of Lf Df s prev (r / 128) (r % 128) j := by
  intro r j
  have hs : (∑ x : Fin 128, stk (narrow o) (ix2 r x) * v (ix2 j x))
      = ((∑ d ∈ Finset.range 64, of (r % 128) (64 * (r / 128) + d)
          * vf j (64 * (r / 128) + d) : ℝ) : EReal) := by
    rw [← sum_half (by omega) (fun l => of (r % 128) l) (fun l => vf j l), ← sum_coe]
    refine Finset.sum_congr rfl fun x _ => ?_
    rw [stk_is (narrow_is ho), hv, ← EReal.coe_mul]
  pointwise [ds256]
  rw [hs, col2_is hD, prob256_is hq hk hL h0 h1, ← EReal.coe_sub, ← EReal.coe_mul]
  rfl

/-- The gradient of the queries of a tile of 256 keys on finite data. -/
theorem dq256_is {k v : FVec Ideal S256x128 .bf16} (hq : Is q qf) (hk : Is k kf) (hv : Is v vf)
    (ho : Is o of) (hL : Is L Lf) (hD : Is D Df)
    (h0 : s0 (ix2 0 0) = ((s 0 : ℝ) : EReal)) (h1 : s1 (ix2 0 0) = ((s 1 : ℝ) : EReal)) (prev : Bool) :
    Is (dq256 q k v o L D s0 s1 (BitVec.ofBool (!prev))) fun i l =>
      (∑ j ∈ Finset.range 256, dsR qf kf vf of Lf Df s prev (l / 64) i j * kf j l) * (1 / 8) := by
  intro i l
  have hs : ∀ r : Fin 256, (∑ x : Fin 256, ds256 q k v o L D s0 s1 (BitVec.ofBool (!prev)) (ix2 r x) * k (ix2 x l))
      = ((∑ j ∈ Finset.range 256, dsR qf kf vf of Lf Df s prev (r / 128) (r % 128) j * kf j l : ℝ) : EReal) := by
    intro r
    rw [← sum_coe]
    refine Finset.sum_congr rfl fun x _ => ?_
    rw [ds256_is hq hk hv ho hL hD h0 h1, hk, ← EReal.coe_mul]
  pointwise [dq256]
  rw [eighth_f32, hs, hs, show (0#32) = BitVec.ofNat 32 ((0 : Fin 2) : ℕ) from rfl, half_eq]
  by_cases c : (l : ℕ) / 64 = 0
  · simp only [c, Fin.val_zero, decide_true, show (i : ℕ) / 128 = 0 by omega,
      show (i : ℕ) % 128 = i by omega, EReal.coe_mul]
    rfl
  · have c' : (l : ℕ) / 64 = 1 := by omega
    simp only [c', Fin.val_zero, show (128 + (i : ℕ)) / 128 = 1 by omega,
      show (128 + (i : ℕ)) % 128 = i by omega, EReal.coe_mul]
    rfl

/-- The gradient of the keys of a tile of 256 keys on finite data. -/
theorem dk256_is {k v : FVec Ideal S256x128 .bf16} (hq : Is q qf) (hk : Is k kf) (hv : Is v vf)
    (ho : Is o of) (hL : Is L Lf) (hD : Is D Df)
    (h0 : s0 (ix2 0 0) = ((s 0 : ℝ) : EReal)) (h1 : s1 (ix2 0 0) = ((s 1 : ℝ) : EReal)) (prev : Bool) :
    Is (dk256 q k v o L D s0 s1 (BitVec.ofBool (!prev))) fun j l =>
      ∑ i ∈ Finset.range 128, dsR qf kf vf of Lf Df s prev (l / 64) i j * (qf i l * (1 / 8)) := by
  intro j l
  pointwise [dk256]
  rw [← sum_rows (by omega) (fun h i => dsR qf kf vf of Lf Df s prev h i j) (fun i => qf i l * (1 / 8)), ← sum_coe]
  refine Finset.sum_congr rfl fun x _ => ?_
  rw [ds256_is hq hk hv ho hL hD h0 h1, stk_is (scaled_is hq), ← EReal.coe_mul]

/-- The gradient of the values of a tile of 256 keys on finite data. -/
theorem dv256_is {k : FVec Ideal S256x128 .bf16} (hq : Is q qf) (hk : Is k kf)
    (ho : Is o of) (hL : Is L Lf)
    (h0 : s0 (ix2 0 0) = ((s 0 : ℝ) : EReal)) (h1 : s1 (ix2 0 0) = ((s 1 : ℝ) : EReal)) (prev : Bool) :
    Is (dv256 q k o L s0 s1 (BitVec.ofBool (!prev))) fun j l =>
      ∑ i ∈ Finset.range 128, probR qf kf Lf s prev (l / 64) i j * of i l := by
  intro j l
  pointwise [dv256]
  rw [← sum_rows (by omega) (fun h i => probR qf kf Lf s prev h i j) (fun i => of i l), ← sum_coe]
  refine Finset.sum_congr rfl fun x _ => ?_
  rw [prob256_is hq hk hL h0 h1, stk_is (narrow_is ho), ← EReal.coe_mul]

/-- The probabilities of the next block's queries on finite data. -/
theorem prob128_is {k : FVec Ideal S128x128 .bf16} (hq : Is q qf) (hk : Is k kf) (hL : Is L Lf)
    (h0 : s0 (ix2 0 0) = ((s 0 : ℝ) : EReal)) (h1 : s1 (ix2 0 0) = ((s 1 : ℝ) : EReal)) (more : Bool) :
    Is (prob128 q k L s0 s1 (BitVec.ofBool more)) fun r j =>
      probR qf kf Lf s more (r / 128) (r % 128) j := by
  intro r j
  have hs : (∑ x : Fin 128, stk (scaled q) (ix2 r x) * k (ix2 j x))
      = ((∑ d ∈ Finset.range 64, qf (r % 128) (64 * (r / 128) + d) * (1 / 8)
          * kf j (64 * (r / 128) + d) : ℝ) : EReal) := by
    rw [← sum_half (by omega) (fun l => qf (r % 128) l * (1 / 8)) (fun l => kf j l), ← sum_coe]
    refine Finset.sum_congr rfl fun x _ => ?_
    rw [stk_is (scaled_is hq), hk, ← EReal.coe_mul]
  pointwise [prob128]
  rw [hs, slope_sel r h0 h1, mask_eq, col2_is hL]
  have hd : (if h : (r : ℕ) < 128 then FloatOps.sitofp .f32 (IntOp.muli (dist128 (ix2 ⟨r, h⟩ j)) 1#32)
      else FloatOps.sitofp .f32 (IntOp.muli (dist128 (ix2 ⟨r - 128, by omega⟩ j)) 1#32) : Ideal .f32)
      = ((128 + ((r : ℕ) % 128 : ℕ) - (j : ℕ) : ℝ) : EReal) := by
    split
    · rename_i h
      rw [dist_real _ _ _ (dist128_toInt ⟨r, h⟩ j), Nat.mod_eq_of_lt h]
    · rename_i h
      rw [dist_real _ _ _ (dist128_toInt ⟨r - 128, by omega⟩ j), show (r : ℕ) % 128 = r - 128 by omega]
  have hv : (if h : (r : ℕ) < 128 then valid128 (BitVec.ofBool more) (ix2 ⟨r, h⟩ j)
      else valid128 (BitVec.ofBool more) (ix2 ⟨r - 128, by omega⟩ j))
      = BitVec.ofBool (decide (Near more (r % 128) j)) := by
    split
    · rename_i h
      rw [valid128_eq, Nat.mod_eq_of_lt h]
    · rename_i h
      rw [valid128_eq]
      simp only [show (r : ℕ) % 128 = r - 128 by omega]
  erw [hd, hv]
  rw [prob_of]
  rfl

/-- The cotangents of the scores of the next block's queries on finite data. -/
theorem ds128_is {k v : FVec Ideal S128x128 .bf16} (hq : Is q qf) (hk : Is k kf) (hv : Is v vf)
    (ho : Is o of) (hL : Is L Lf) (hD : Is D Df)
    (h0 : s0 (ix2 0 0) = ((s 0 : ℝ) : EReal)) (h1 : s1 (ix2 0 0) = ((s 1 : ℝ) : EReal)) (more : Bool) :
    Is (ds128 q k v o L D s0 s1 (BitVec.ofBool more)) fun r j =>
      dsR qf kf vf of Lf Df s more (r / 128) (r % 128) j := by
  intro r j
  have hs : (∑ x : Fin 128, stk (narrow o) (ix2 r x) * v (ix2 j x))
      = ((∑ d ∈ Finset.range 64, of (r % 128) (64 * (r / 128) + d)
          * vf j (64 * (r / 128) + d) : ℝ) : EReal) := by
    rw [← sum_half (by omega) (fun l => of (r % 128) l) (fun l => vf j l), ← sum_coe]
    refine Finset.sum_congr rfl fun x _ => ?_
    rw [stk_is (narrow_is ho), hv, ← EReal.coe_mul]
  pointwise [ds128]
  rw [hs, col2_is hD, prob128_is hq hk hL h0 h1, ← EReal.coe_sub, ← EReal.coe_mul]
  rfl

/-- The gradient of the keys by the next block's queries on finite data. -/
theorem dk128_is {k v : FVec Ideal S128x128 .bf16} (hq : Is q qf) (hk : Is k kf) (hv : Is v vf)
    (ho : Is o of) (hL : Is L Lf) (hD : Is D Df)
    (h0 : s0 (ix2 0 0) = ((s 0 : ℝ) : EReal)) (h1 : s1 (ix2 0 0) = ((s 1 : ℝ) : EReal)) (more : Bool) :
    Is (dk128 q k v o L D s0 s1 (BitVec.ofBool more)) fun j l =>
      ∑ i ∈ Finset.range 128, dsR qf kf vf of Lf Df s more (l / 64) i j * (qf i l * (1 / 8)) := by
  intro j l
  pointwise [dk128]
  rw [← sum_rows (by omega) (fun h i => dsR qf kf vf of Lf Df s more h i j) (fun i => qf i l * (1 / 8)), ← sum_coe]
  refine Finset.sum_congr rfl fun x _ => ?_
  rw [ds128_is hq hk hv ho hL hD h0 h1, stk_is (scaled_is hq), ← EReal.coe_mul]

/-- The gradient of the values by the next block's queries on finite data. -/
theorem dv128_is {k : FVec Ideal S128x128 .bf16} (hq : Is q qf) (hk : Is k kf)
    (ho : Is o of) (hL : Is L Lf)
    (h0 : s0 (ix2 0 0) = ((s 0 : ℝ) : EReal)) (h1 : s1 (ix2 0 0) = ((s 1 : ℝ) : EReal)) (more : Bool) :
    Is (dv128 q k o L s0 s1 (BitVec.ofBool more)) fun j l =>
      ∑ i ∈ Finset.range 128, probR qf kf Lf s more (l / 64) i j * of i l := by
  intro j l
  pointwise [dv128]
  rw [← sum_rows (by omega) (fun h i => probR qf kf Lf s more h i j) (fun i => of i l), ← sum_coe]
  refine Finset.sum_congr rfl fun x _ => ?_
  rw [prob128_is hq hk hL h0 h1, stk_is (narrow_is ho), ← EReal.coe_mul]

end

/-- The two halves of a tile's rows and their sum, on finite data. -/
theorem lower_is {x : FVec Ideal S256x128 .f32} {f : ℕ → ℕ → ℝ} (hx : Is x f) :
    Is (lower x) f := by
  intro i l
  pointwise [lower]
  rw [hx]

/-- The last 128 rows of a tile of 256. -/
theorem upper_is {x : FVec Ideal S256x128 .f32} {f : ℕ → ℕ → ℝ} (hx : Is x f) :
    Is (upper x) fun i l => f (128 + i) l := by
  intro i l
  pointwise [upper]
  rw [hx]

/-- The sum of two tiles. -/
theorem both_is {x y : FVec Ideal S128x128 .f32} {f g : ℕ → ℕ → ℝ} (hx : Is x f) (hy : Is y g) :
    Is (both x y) fun i l => f i l + g i l := by
  intro i l
  pointwise [both]
  rw [hx, hy, EReal.coe_add]

/-- Two tiles, one above the other. -/
theorem two_is {x y : Vec Ideal S128x128 .bf16} {f : ℕ → ℕ → ℝ} (hx : Is x f)
    (hy : Is y fun i l => f (128 + i) l) : Is (two x y) f := by
  intro i l
  pointwise [two]
  split
  · rw [hx]
  · rename_i h
    rw [hy]
    show ((f (128 + ((i : ℕ) - 128)) l : ℝ) : EReal) = _
    rw [show 128 + ((i : ℕ) - 128) = i by omega]

end Cert.Attn
-- ==== Proof.Pieces.lean ====
/- The stores of one grid point: which tile of the backward pass each of them holds, as a function of
   the point's input blocks. -/
module

public import proofs.«01_k».proof.Proof.Tile
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe

/-! ## The loads -/

/-- 128 rows and the 128 columns of one pair of heads, of a block of 512 rows. -/
def ld {sg : RefSig} {ε : EltTy} (m : Memref sg .tc .vmem S512x256 ε) (hm : m.IsWhole) (x : Vec Ideal S512x256 ε)
    (s : Fin 4) (e : Fin 2) : Vec Ideal S128x128 ε :=
  View.readAt (Elt Ideal) m.view
    ((Rect.unit (s := S512x256) ![0, 128 * e] S512x128.size (by revert e; decide)).withinL
      (Rect.unit (s := S512x128) ![128 * s, 0] S128x128.size (by revert s; decide)).toLoadRect (fun _ => rfl))
    (hm.unread x)

/-- 256 rows from a multiple of 128, of a block of 512 rows. -/
def ldW {sg : RefSig} {ε : EltTy} (m : Memref sg .tc .vmem S512x256 ε) (hm : m.IsWhole) (x : Vec Ideal S512x256 ε)
    (s : Fin 3) (e : Fin 2) : Vec Ideal S256x128 ε :=
  View.readAt (Elt Ideal) m.view
    ((Rect.unit (s := S512x256) ![0, 128 * e] S512x128.size (by revert e; decide)).withinL
      (Rect.unit (s := S512x128) ![128 * s, 0] S256x128.size (by revert s; decide)).toLoadRect (fun _ => rfl))
    (hm.unread x)

/-- All rows of a block of 128 rows. -/
def ldN {sg : RefSig} {ε : EltTy} (m : Memref sg .tc .vmem S128x256 ε) (hm : m.IsWhole) (x : Vec Ideal S128x256 ε)
    (e : Fin 2) : Vec Ideal S128x128 ε :=
  View.readAt (Elt Ideal) m.view
    ((Rect.unit (s := S128x256) ![0, 128 * e] S128x128.size (by revert e; decide)).withinL
      (Rect.unit (s := S128x128) ![0, 0] S128x128.size (by decide)).toLoadRect (fun _ => rfl))
    (hm.unread x)

/-- The slope of one head of a pair. -/
def ldS {sg : RefSig} (m : Memref sg .tc .vmem S2x8x128 .f32) (hm : m.IsWhole) (x : Vec Ideal S2x8x128 .f32)
    (e h : Fin 2) : Vec Ideal S1x1 .f32 :=
  View.readAt (Elt Ideal)
    ((m.slice (Rect.unit (s := S2x8x128) ![e, 0, 0] S1x8x128.size (by revert e; decide)) (fun _ => rfl)).squeeze
      S8x128 Facts₀.squeezes_S1x8x128_S8x128).view
    (Rect.unit (s := S8x128) ![0, 64 * h] S1x1.size (by revert h; decide)).toLoadRect (hm.unread x)

section
variable (c : Dev nD) (i : grid0.Coords) (arg3 : Memref sig .tc .vmem S512x256 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S512x256 .bf16) (harg7 : arg7.IsWhole) (arg8 : Memref sig .tc .vmem S128x256 .bf16) (harg8 : arg8.IsWhole) (arg9 : Memref sig .tc .vmem S512x256 .f32) (harg9 : arg9.IsWhole) (arg10 : Memref sig .tc .vmem S128x256 .f32) (harg10 : arg10.IsWhole) (arg11 : Memref sig .tc .vmem S512x256 .f32) (harg11 : arg11.IsWhole) (arg12 : Memref sig .tc .vmem S128x256 .f32) (harg12 : arg12.IsWhole) (arg13 : Memref sig .tc .vmem S512x256 .f32) (harg13 : arg13.IsWhole) (arg14 : Memref sig .tc .vmem S128x256 .f32) (harg14 : arg14.IsWhole) (arg15 : Memref sig .tc .vmem S2x8x128 .f32) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x256 .bf16) (harg18 : arg18.IsWhole)
    (x0 : Vec Ideal S512x256 .bf16) (x1 : Vec Ideal S128x256 .bf16) (x2 : Vec Ideal S512x256 .bf16) (x3 : Vec Ideal S128x256 .bf16) (x4 : Vec Ideal S512x256 .bf16) (x5 : Vec Ideal S128x256 .bf16) (x6 : Vec Ideal S512x256 .f32) (x7 : Vec Ideal S128x256 .f32) (x8 : Vec Ideal S512x256 .f32) (x9 : Vec Ideal S128x256 .f32) (x10 : Vec Ideal S512x256 .f32) (x11 : Vec Ideal S128x256 .f32) (x12 : Vec Ideal S2x8x128 .f32)

/-- The stores of the queries' gradient, last first. -/
theorem pieces13 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).1 =
  [⟨Rect.unit (s := S512x256) ![384, 128] S128x128.size (by decide),
      dq256 (ld arg3 harg3 x0 3 1) (ldW arg5 harg5 x2 2 1) (ldW arg7 harg7 x4 2 1) (ld arg9 harg9 x6 3 1) (ld arg11 harg11 x8 3 1) (ld arg13 harg13 x10 3 1) (ldS arg15 harg15 x12 1 0) (ldS arg15 harg15 x12 1 1) 0#1⟩,
   ⟨Rect.unit (s := S512x256) ![256, 128] S128x128.size (by decide),
      dq256 (ld arg3 harg3 x0 2 1) (ldW arg5 harg5 x2 1 1) (ldW arg7 harg7 x4 1 1) (ld arg9 harg9 x6 2 1) (ld arg11 harg11 x8 2 1) (ld arg13 harg13 x10 2 1) (ldS arg15 harg15 x12 1 0) (ldS arg15 harg15 x12 1 1) 0#1⟩,
   ⟨Rect.unit (s := S512x256) ![128, 128] S128x128.size (by decide),
      dq256 (ld arg3 harg3 x0 1 1) (ldW arg5 harg5 x2 0 1) (ldW arg7 harg7 x4 0 1) (ld arg9 harg9 x6 1 1) (ld arg11 harg11 x8 1 1) (ld arg13 harg13 x10 1 1) (ldS arg15 harg15 x12 1 0) (ldS arg15 harg15 x12 1 1) 0#1⟩,
   ⟨Rect.unit (s := S512x256) ![0, 128] S128x128.size (by decide),
      dq256 (ld arg3 harg3 x0 0 1) (two (ldN arg6 harg6 x3 1) (ld arg5 harg5 x2 0 1)) (two (ldN arg8 harg8 x5 1) (ld arg7 harg7 x4 0 1)) (ld arg9 harg9 x6 0 1) (ld arg11 harg11 x8 0 1) (ld arg13 harg13 x10 0 1) (ldS arg15 harg15 x12 1 0) (ldS arg15 harg15 x12 1 1) (Scalar.cmpi .eq (BitVec.ofNat 32 (i 1).val) 0#32)⟩,
   ⟨Rect.unit (s := S512x256) ![384, 0] S128x128.size (by decide),
      dq256 (ld arg3 harg3 x0 3 0) (ldW arg5 harg5 x2 2 0) (ldW arg7 harg7 x4 2 0) (ld arg9 harg9 x6 3 0) (ld arg11 harg11 x8 3 0) (ld arg13 harg13 x10 3 0) (ldS arg15 harg15 x12 0 0) (ldS arg15 harg15 x12 0 1) 0#1⟩,
   ⟨Rect.unit (s := S512x256) ![256, 0] S128x128.size (by decide),
      dq256 (ld arg3 harg3 x0 2 0) (ldW arg5 harg5 x2 1 0) (ldW arg7 harg7 x4 1 0) (ld arg9 harg9 x6 2 0) (ld arg11 harg11 x8 2 0) (ld arg13 harg13 x10 2 0) (ldS arg15 harg15 x12 0 0) (ldS arg15 harg15 x12 0 1) 0#1⟩,
   ⟨Rect.unit (s := S512x256) ![128, 0] S128x128.size (by decide),
      dq256 (ld arg3 harg3 x0 1 0) (ldW arg5 harg5 x2 0 0) (ldW arg7 harg7 x4 0 0) (ld arg9 harg9 x6 1 0) (ld arg11 harg11 x8 1 0) (ld arg13 harg13 x10 1 0) (ldS arg15 harg15 x12 0 0) (ldS arg15 harg15 x12 0 1) 0#1⟩,
   ⟨Rect.unit (s := S512x256) ![0, 0] S128x128.size (by decide),
      dq256 (ld arg3 harg3 x0 0 0) (two (ldN arg6 harg6 x3 0) (ld arg5 harg5 x2 0 0)) (two (ldN arg8 harg8 x5 0) (ld arg7 harg7 x4 0 0)) (ld arg9 harg9 x6 0 0) (ld arg11 harg11 x8 0 0) (ld arg13 harg13 x10 0 0) (ldS arg15 harg15 x12 0 0) (ldS arg15 harg15 x12 0 1) (Scalar.cmpi .eq (BitVec.ofNat 32 (i 1).val) 0#32)⟩] := rfl

/-- The stores of the keys' gradient, last first. -/
theorem pieces14 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.1 =
  [⟨Rect.unit (s := S512x256) ![384, 128] S128x128.size (by decide),
      both (upper (dk256 (ld arg3 harg3 x0 3 1) (ldW arg5 harg5 x2 2 1) (ldW arg7 harg7 x4 2 1) (ld arg9 harg9 x6 3 1) (ld arg11 harg11 x8 3 1) (ld arg13 harg13 x10 3 1) (ldS arg15 harg15 x12 1 0) (ldS arg15 harg15 x12 1 1) 0#1)) (dk128 (ldN arg4 harg4 x1 1) (ld arg5 harg5 x2 3 1) (ld arg7 harg7 x4 3 1) (ldN arg10 harg10 x7 1) (ldN arg12 harg12 x9 1) (ldN arg14 harg14 x11 1) (ldS arg15 harg15 x12 1 0) (ldS arg15 harg15 x12 1 1) (Scalar.cmpi .slt (BitVec.ofNat 32 (i 1).val) 15#32))⟩,
   ⟨Rect.unit (s := S512x256) ![256, 128] S128x128.size (by decide),
      both (upper (dk256 (ld arg3 harg3 x0 2 1) (ldW arg5 harg5 x2 1 1) (ldW arg7 harg7 x4 1 1) (ld arg9 harg9 x6 2 1) (ld arg11 harg11 x8 2 1) (ld arg13 harg13 x10 2 1) (ldS arg15 harg15 x12 1 0) (ldS arg15 harg15 x12 1 1) 0#1)) (lower (dk256 (ld arg3 harg3 x0 3 1) (ldW arg5 harg5 x2 2 1) (ldW arg7 harg7 x4 2 1) (ld arg9 harg9 x6 3 1) (ld arg11 harg11 x8 3 1) (ld arg13 harg13 x10 3 1) (ldS arg15 harg15 x12 1 0) (ldS arg15 harg15 x12 1 1) 0#1))⟩,
   ⟨Rect.unit (s := S512x256) ![128, 128] S128x128.size (by decide),
      both (upper (dk256 (ld arg3 harg3 x0 1 1) (ldW arg5 harg5 x2 0 1) (ldW arg7 harg7 x4 0 1) (ld arg9 harg9 x6 1 1) (ld arg11 harg11 x8 1 1) (ld arg13 harg13 x10 1 1) (ldS arg15 harg15 x12 1 0) (ldS arg15 harg15 x12 1 1) 0#1)) (lower (dk256 (ld arg3 harg3 x0 2 1) (ldW arg5 harg5 x2 1 1) (ldW arg7 harg7 x4 1 1) (ld arg9 harg9 x6 2 1) (ld arg11 harg11 x8 2 1) (ld arg13 harg13 x10 2 1) (ldS arg15 harg15 x12 1 0) (ldS arg15 harg15 x12 1 1) 0#1))⟩,
   ⟨Rect.unit (s := S512x256) ![0, 128] S128x128.size (by decide),
      both (upper (dk256 (ld arg3 harg3 x0 0 1) (two (ldN arg6 harg6 x3 1) (ld arg5 harg5 x2 0 1)) (two (ldN arg8 harg8 x5 1) (ld arg7 harg7 x4 0 1)) (ld arg9 harg9 x6 0 1) (ld arg11 harg11 x8 0 1) (ld arg13 harg13 x10 0 1) (ldS arg15 harg15 x12 1 0) (ldS arg15 harg15 x12 1 1) (Scalar.cmpi .eq (BitVec.ofNat 32 (i 1).val) 0#32))) (lower (dk256 (ld arg3 harg3 x0 1 1) (ldW arg5 harg5 x2 0 1) (ldW arg7 harg7 x4 0 1) (ld arg9 harg9 x6 1 1) (ld arg11 harg11 x8 1 1) (ld arg13 harg13 x10 1 1) (ldS arg15 harg15 x12 1 0) (ldS arg15 harg15 x12 1 1) 0#1))⟩,
   ⟨Rect.unit (s := S512x256) ![384, 0] S128x128.size (by decide),
      both (upper (dk256 (ld arg3 harg3 x0 3 0) (ldW arg5 harg5 x2 2 0) (ldW arg7 harg7 x4 2 0) (ld arg9 harg9 x6 3 0) (ld arg11 harg11 x8 3 0) (ld arg13 harg13 x10 3 0) (ldS arg15 harg15 x12 0 0) (ldS arg15 harg15 x12 0 1) 0#1)) (dk128 (ldN arg4 harg4 x1 0) (ld arg5 harg5 x2 3 0) (ld arg7 harg7 x4 3 0) (ldN arg10 harg10 x7 0) (ldN arg12 harg12 x9 0) (ldN arg14 harg14 x11 0) (ldS arg15 harg15 x12 0 0) (ldS arg15 harg15 x12 0 1) (Scalar.cmpi .slt (BitVec.ofNat 32 (i 1).val) 15#32))⟩,
   ⟨Rect.unit (s := S512x256) ![256, 0] S128x128.size (by decide),
      both (upper (dk256 (ld arg3 harg3 x0 2 0) (ldW arg5 harg5 x2 1 0) (ldW arg7 harg7 x4 1 0) (ld arg9 harg9 x6 2 0) (ld arg11 harg11 x8 2 0) (ld arg13 harg13 x10 2 0) (ldS arg15 harg15 x12 0 0) (ldS arg15 harg15 x12 0 1) 0#1)) (lower (dk256 (ld arg3 harg3 x0 3 0) (ldW arg5 harg5 x2 2 0) (ldW arg7 harg7 x4 2 0) (ld arg9 harg9 x6 3 0) (ld arg11 harg11 x8 3 0) (ld arg13 harg13 x10 3 0) (ldS arg15 harg15 x12 0 0) (ldS arg15 harg15 x12 0 1) 0#1))⟩,
   ⟨Rect.unit (s := S512x256) ![128, 0] S128x128.size (by decide),
      both (upper (dk256 (ld arg3 harg3 x0 1 0) (ldW arg5 harg5 x2 0 0) (ldW arg7 harg7 x4 0 0) (ld arg9 harg9 x6 1 0) (ld arg11 harg11 x8 1 0) (ld arg13 harg13 x10 1 0) (ldS arg15 harg15 x12 0 0) (ldS arg15 harg15 x12 0 1) 0#1)) (lower (dk256 (ld arg3 harg3 x0 2 0) (ldW arg5 harg5 x2 1 0) (ldW arg7 harg7 x4 1 0) (ld arg9 harg9 x6 2 0) (ld arg11 harg11 x8 2 0) (ld arg13 harg13 x10 2 0) (ldS arg15 harg15 x12 0 0) (ldS arg15 harg15 x12 0 1) 0#1))⟩,
   ⟨Rect.unit (s := S512x256) ![0, 0] S128x128.size (by decide),
      both (upper (dk256 (ld arg3 harg3 x0 0 0) (two (ldN arg6 harg6 x3 0) (ld arg5 harg5 x2 0 0)) (two (ldN arg8 harg8 x5 0) (ld arg7 harg7 x4 0 0)) (ld arg9 harg9 x6 0 0) (ld arg11 harg11 x8 0 0) (ld arg13 harg13 x10 0 0) (ldS arg15 harg15 x12 0 0) (ldS arg15 harg15 x12 0 1) (Scalar.cmpi .eq (BitVec.ofNat 32 (i 1).val) 0#32))) (lower (dk256 (ld arg3 harg3 x0 1 0) (ldW arg5 harg5 x2 0 0) (ldW arg7 harg7 x4 0 0) (ld arg9 harg9 x6 1 0) (ld arg11 harg11 x8 1 0) (ld arg13 harg13 x10 1 0) (ldS arg15 harg15 x12 0 0) (ldS arg15 harg15 x12 0 1) 0#1))⟩] := rfl

/-- The stores of the values' gradient, last first. -/
theorem pieces15 : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12).2.2.1 =
  [⟨Rect.unit (s := S512x256) ![384, 128] S128x128.size (by decide),
      both (upper (dv256 (ld arg3 harg3 x0 3 1) (ldW arg5 harg5 x2 2 1) (ld arg9 harg9 x6 3 1) (ld arg11 harg11 x8 3 1) (ldS arg15 harg15 x12 1 0) (ldS arg15 harg15 x12 1 1) 0#1)) (dv128 (ldN arg4 harg4 x1 1) (ld arg5 harg5 x2 3 1) (ldN arg10 harg10 x7 1) (ldN arg12 harg12 x9 1) (ldS arg15 harg15 x12 1 0) (ldS arg15 harg15 x12 1 1) (Scalar.cmpi .slt (BitVec.ofNat 32 (i 1).val) 15#32))⟩,
   ⟨Rect.unit (s := S512x256) ![256, 128] S128x128.size (by decide),
      both (upper (dv256 (ld arg3 harg3 x0 2 1) (ldW arg5 harg5 x2 1 1) (ld arg9 harg9 x6 2 1) (ld arg11 harg11 x8 2 1) (ldS arg15 harg15 x12 1 0) (ldS arg15 harg15 x12 1 1) 0#1)) (lower (dv256 (ld arg3 harg3 x0 3 1) (ldW arg5 harg5 x2 2 1) (ld arg9 harg9 x6 3 1) (ld arg11 harg11 x8 3 1) (ldS arg15 harg15 x12 1 0) (ldS arg15 harg15 x12 1 1) 0#1))⟩,
   ⟨Rect.unit (s := S512x256) ![128, 128] S128x128.size (by decide),
      both (upper (dv256 (ld arg3 harg3 x0 1 1) (ldW arg5 harg5 x2 0 1) (ld arg9 harg9 x6 1 1) (ld arg11 harg11 x8 1 1) (ldS arg15 harg15 x12 1 0) (ldS arg15 harg15 x12 1 1) 0#1)) (lower (dv256 (ld arg3 harg3 x0 2 1) (ldW arg5 harg5 x2 1 1) (ld arg9 harg9 x6 2 1) (ld arg11 harg11 x8 2 1) (ldS arg15 harg15 x12 1 0) (ldS arg15 harg15 x12 1 1) 0#1))⟩,
   ⟨Rect.unit (s := S512x256) ![0, 128] S128x128.size (by decide),
      both (upper (dv256 (ld arg3 harg3 x0 0 1) (two (ldN arg6 harg6 x3 1) (ld arg5 harg5 x2 0 1)) (ld arg9 harg9 x6 0 1) (ld arg11 harg11 x8 0 1) (ldS arg15 harg15 x12 1 0) (ldS arg15 harg15 x12 1 1) (Scalar.cmpi .eq (BitVec.ofNat 32 (i 1).val) 0#32))) (lower (dv256 (ld arg3 harg3 x0 1 1) (ldW arg5 harg5 x2 0 1) (ld arg9 harg9 x6 1 1) (ld arg11 harg11 x8 1 1) (ldS arg15 harg15 x12 1 0) (ldS arg15 harg15 x12 1 1) 0#1))⟩,
   ⟨Rect.unit (s := S512x256) ![384, 0] S128x128.size (by decide),
      both (upper (dv256 (ld arg3 harg3 x0 3 0) (ldW arg5 harg5 x2 2 0) (ld arg9 harg9 x6 3 0) (ld arg11 harg11 x8 3 0) (ldS arg15 harg15 x12 0 0) (ldS arg15 harg15 x12 0 1) 0#1)) (dv128 (ldN arg4 harg4 x1 0) (ld arg5 harg5 x2 3 0) (ldN arg10 harg10 x7 0) (ldN arg12 harg12 x9 0) (ldS arg15 harg15 x12 0 0) (ldS arg15 harg15 x12 0 1) (Scalar.cmpi .slt (BitVec.ofNat 32 (i 1).val) 15#32))⟩,
   ⟨Rect.unit (s := S512x256) ![256, 0] S128x128.size (by decide),
      both (upper (dv256 (ld arg3 harg3 x0 2 0) (ldW arg5 harg5 x2 1 0) (ld arg9 harg9 x6 2 0) (ld arg11 harg11 x8 2 0) (ldS arg15 harg15 x12 0 0) (ldS arg15 harg15 x12 0 1) 0#1)) (lower (dv256 (ld arg3 harg3 x0 3 0) (ldW arg5 harg5 x2 2 0) (ld arg9 harg9 x6 3 0) (ld arg11 harg11 x8 3 0) (ldS arg15 harg15 x12 0 0) (ldS arg15 harg15 x12 0 1) 0#1))⟩,
   ⟨Rect.unit (s := S512x256) ![128, 0] S128x128.size (by decide),
      both (upper (dv256 (ld arg3 harg3 x0 1 0) (ldW arg5 harg5 x2 0 0) (ld arg9 harg9 x6 1 0) (ld arg11 harg11 x8 1 0) (ldS arg15 harg15 x12 0 0) (ldS arg15 harg15 x12 0 1) 0#1)) (lower (dv256 (ld arg3 harg3 x0 2 0) (ldW arg5 harg5 x2 1 0) (ld arg9 harg9 x6 2 0) (ld arg11 harg11 x8 2 0) (ldS arg15 harg15 x12 0 0) (ldS arg15 harg15 x12 0 1) 0#1))⟩,
   ⟨Rect.unit (s := S512x256) ![0, 0] S128x128.size (by decide),
      both (upper (dv256 (ld arg3 harg3 x0 0 0) (two (ldN arg6 harg6 x3 0) (ld arg5 harg5 x2 0 0)) (ld arg9 harg9 x6 0 0) (ld arg11 harg11 x8 0 0) (ldS arg15 harg15 x12 0 0) (ldS arg15 harg15 x12 0 1) (Scalar.cmpi .eq (BitVec.ofNat 32 (i 1).val) 0#32))) (lower (dv256 (ld arg3 harg3 x0 1 0) (ldW arg5 harg5 x2 0 0) (ld arg9 harg9 x6 1 0) (ld arg11 harg11 x8 1 0) (ldS arg15 harg15 x12 0 0) (ldS arg15 harg15 x12 0 1) 0#1))⟩] := rfl

end

end Cert.Attn
-- ==== Proof.Spec.lean ====
/- The gradients of the windowed attention as real numbers: what both programs are shown to compute. -/
module

public import proofs.«01_k».proof.Proof.Tile

@[expose] public section

noncomputable section

namespace Cert.Attn

/-- The real numbers the backward pass is given: queries, keys, values, the cotangent of the output, each of
    8192 rows (time steps) and 768 columns (12 heads of 64); for every row and head, repeated over the head's
    columns, the logarithm `L` of the softmax's denominator and the sum `D` of the cotangent times the output;
    and the slope of each head's bias. -/
structure Data where
  q : ℕ → ℕ → ℝ
  k : ℕ → ℕ → ℝ
  v : ℕ → ℕ → ℝ
  o : ℕ → ℕ → ℝ
  L : ℕ → ℕ → ℝ
  D : ℕ → ℕ → ℝ
  s : ℕ → ℝ

/-- The 128 rows of block `b` and the 128 columns of pair `e` of heads. -/
def rows (f : ℕ → ℕ → ℝ) (b e : ℕ) (i l : ℕ) : ℝ := f (128 * b + i) (128 * e + l)

/-- The row of the `j`-th of the 256 keys of block `b`: the block before it, then the block itself. The first
    block has no block before it; its own rows stand there, and no query of it sees them. -/
def krow (b j : ℕ) : ℕ := if b = 0 then j % 128 else 128 * (b - 1) + j

/-- The 256 keys of block `b`, in the 128 columns of pair `e` of heads. -/
def keys (f : ℕ → ℕ → ℝ) (b e : ℕ) (j l : ℕ) : ℝ := f (krow b j) (128 * e + l)

namespace Data

variable (A : Data)

/-- The probability of key `j` for query `i` of block `b`, head `h` of pair `e`. -/
def P (b e h i j : ℕ) : ℝ :=
  probR (rows A.q b e) (keys A.k b e) (rows A.L b e) (fun h => A.s (2 * e + h)) (decide (0 < b)) h i j

/-- The cotangent of the score of query `i` of block `b` against key `j`, head `h` of pair `e`. -/
def S (b e h i j : ℕ) : ℝ :=
  dsR (rows A.q b e) (keys A.k b e) (keys A.v b e) (rows A.o b e) (rows A.L b e) (rows A.D b e)
    (fun h => A.s (2 * e + h)) (decide (0 < b)) h i j

/-- The gradient of the queries of block `b`. -/
def dqT (b e i l : ℕ) : ℝ := (∑ j ∈ Finset.range 256, A.S b e (l / 64) i j * keys A.k b e j l) * (1 / 8)

/-- What the queries of block `b` add to the gradient of their 256 keys. -/
def dkT (b e j l : ℕ) : ℝ := ∑ i ∈ Finset.range 128, A.S b e (l / 64) i j * (rows A.q b e i l * (1 / 8))

/-- What the queries of block `b` add to the gradient of their 256 values. -/
def dvT (b e j l : ℕ) : ℝ := ∑ i ∈ Finset.range 128, A.P b e (l / 64) i j * rows A.o b e i l

/-- The gradient of the keys of block `b`: from its own queries and from those of the next block. -/
def dkB (b e i l : ℕ) : ℝ := A.dkT b e (128 + i) l + if b < 63 then A.dkT (b + 1) e i l else 0

/-- The gradient of the values of block `b`: from its own queries and from those of the next block. -/
def dvB (b e i l : ℕ) : ℝ := A.dvT b e (128 + i) l + if b < 63 then A.dvT (b + 1) e i l else 0

/-- The gradient of the queries, by row and column. -/
def dq (r c : ℕ) : ℝ := A.dqT (r / 128) (c / 128) (r % 128) (c % 128)

/-- The gradient of the keys, by row and column. -/
def dk (r c : ℕ) : ℝ := A.dkB (r / 128) (c / 128) (r % 128) (c % 128)

/-- The gradient of the values, by row and column. -/
def dv (r c : ℕ) : ℝ := A.dvB (r / 128) (c / 128) (r % 128) (c % 128)

end Data

end Cert.Attn
-- ==== Proof.Blocks.lean ====
/- One grid point of the kernel: the three blocks it writes are the blocks of the gradients, when its input
   blocks are the blocks of the data. -/
module

public import proofs.«01_k».proof.Proof.Pieces
public import proofs.«01_k».proof.Proof.Spec
public import Idealize.ShloMosaic.Lib.WholeRead
public import Idealize.ShloMosaic.Lib.Pipeline.ReadBack
public import Idealize.ShloMosaic.Lib.Pipeline.ValueKit.Tiles

@[expose] public section

set_option maxRecDepth 16384

noncomputable section

namespace Cert.Attn

open Cert.KernelIdeal Cert.KernelIdeal.Gen Idealize.ShloMosaic Idealize.ShloMosaic.TcCoe

/-- Two descriptions of one matrix that agree inside it. -/
theorem Is.congr {a b : ℕ} {x : (⟨2, ![a, b]⟩ : Shape).Idx → EReal} {f g : ℕ → ℕ → ℝ} (hx : Is x f)
    (h : ∀ i < a, ∀ j < b, f i j = g i j) : Is x g := fun i j => by
  rw [hx i j, h i i.isLt j j.isLt]

/-! ## The loads -/

section
variable {ε : EltTy} {m : Memref sig .tc .vmem S512x256 ε} {hm : m.IsWhole} (x : Vec Ideal S512x256 ε)

/-- 128 rows of a block of 512. -/
theorem ld_at (s : Fin 4) (e : Fin 2) (i l : Fin 128) :
    ld m hm x s e (ix2 i l) = x (ix2 ⟨128 * s + i, by omega⟩ ⟨128 * e + l, by omega⟩) := by
  unfold ld
  refine (Memref.IsWhole.readAt_unread hm x _ _).trans (congrArg x (funext fun a => Fin.ext ?_))
  fin_cases a <;> simp [LoadRect.idx, Rect.withinL, Rect.toLoadRect, Rect.unit, ix2]

/-- 256 rows of a block of 512. -/
theorem ldW_at (s : Fin 3) (e : Fin 2) (i : Fin 256) (l : Fin 128) :
    ldW m hm x s e (ix2 i l) = x (ix2 ⟨128 * s + i, by omega⟩ ⟨128 * e + l, by omega⟩) := by
  unfold ldW
  refine (Memref.IsWhole.readAt_unread hm x _ _).trans (congrArg x (funext fun a => Fin.ext ?_))
  fin_cases a <;> simp [LoadRect.idx, Rect.withinL, Rect.toLoadRect, Rect.unit, ix2]

end

/-- All rows of a block of 128. -/
theorem ldN_at {ε : EltTy} {m : Memref sig .tc .vmem S128x256 ε} {hm : m.IsWhole} (x : Vec Ideal S128x256 ε)
    (e : Fin 2) (i l : Fin 128) :
    ldN m hm x e (ix2 i l) = x (ix2 i ⟨128 * e + l, by omega⟩) := by
  unfold ldN
  refine (Memref.IsWhole.readAt_unread hm x _ _).trans (congrArg x (funext fun a => Fin.ext ?_))
  fin_cases a <;> simp [LoadRect.idx, Rect.withinL, Rect.toLoadRect, Rect.unit, ix2]

/-- The slope of one head. -/
theorem ldS_at {m : Memref sig .tc .vmem S2x8x128 .f32} {hm : m.IsWhole} (x : Vec Ideal S2x8x128 .f32)
    (e h : Fin 2) :
    ldS m hm x e h (ix2 0 0) = x (ix3 e 0 ⟨64 * h, by omega⟩) := by
  unfold ldS
  refine (Memref.IsWhole.readAt_slice_reshape_unread hm x _ _ _ _).trans (congrArg x (funext fun a => Fin.ext ?_))
  revert e h a; decide

/-! ## The tiles of a grid point -/

/-- The input blocks of the grid point of pairs `2 * p`, `2 * p + 1` of heads and blocks `4 * g`, …, `4 * g + 3` of
    rows are those of the data: 512 rows of each array, the 128 rows after them of the queries, the cotangent and the
    two row statistics (the last rows again after the last), the 128 rows before them of the keys and values (the
    first rows again before the first), and the slopes of the four heads. -/
structure Point (A : Data) (p g : ℕ) (x0 : FVec Ideal S512x256 .bf16) (x1 : FVec Ideal S128x256 .bf16)
    (x2 : FVec Ideal S512x256 .bf16) (x3 : FVec Ideal S128x256 .bf16) (x4 : FVec Ideal S512x256 .bf16)
    (x5 : FVec Ideal S128x256 .bf16) (x6 : FVec Ideal S512x256 .f32) (x7 : FVec Ideal S128x256 .f32)
    (x8 : FVec Ideal S512x256 .f32) (x9 : FVec Ideal S128x256 .f32) (x10 : FVec Ideal S512x256 .f32)
    (x11 : FVec Ideal S128x256 .f32) (x12 : FVec Ideal S2x8x128 .f32) : Prop where
  q : Is x0 fun r c => A.q (512 * g + r) (256 * p + c)
  qn : Is x1 fun r c => A.q (128 * min (4 * g + 4) 63 + r) (256 * p + c)
  k : Is x2 fun r c => A.k (512 * g + r) (256 * p + c)
  kp : Is x3 fun r c => A.k (128 * (4 * g - 1) + r) (256 * p + c)
  v : Is x4 fun r c => A.v (512 * g + r) (256 * p + c)
  vp : Is x5 fun r c => A.v (128 * (4 * g - 1) + r) (256 * p + c)
  o : Is x6 fun r c => A.o (512 * g + r) (256 * p + c)
  on : Is x7 fun r c => A.o (128 * min (4 * g + 4) 63 + r) (256 * p + c)
  L : Is x8 fun r c => A.L (512 * g + r) (256 * p + c)
  Ln : Is x9 fun r c => A.L (128 * min (4 * g + 4) 63 + r) (256 * p + c)
  D : Is x10 fun r c => A.D (512 * g + r) (256 * p + c)
  Dn : Is x11 fun r c => A.D (128 * min (4 * g + 4) 63 + r) (256 * p + c)
  s : ∀ (e h : Fin 2), x12 (ix3 e 0 ⟨64 * h, by omega⟩) = ((A.s (2 * (2 * p + e) + h) : ℝ) : EReal)

section
variable {p g : ℕ} {f : ℕ → ℕ → ℝ}

/-- The rows of a block. -/
theorem ld_rows {m : Memref sig .tc .vmem S512x256 .bf16} {hm : m.IsWhole} {x : FVec Ideal S512x256 .bf16}
    (hx : Is x fun r c => f (512 * g + r) (256 * p + c)) (s : Fin 4) (e : Fin 2) :
    Is (ld m hm x s e) (rows f (4 * g + s) (2 * p + e)) := fun i l => by
  rw [ld_at, hx]; simp only [rows]; congr 2 <;> omega

/-- The rows of a block, of an array of the wider type. -/
theorem ld_rows' {m : Memref sig .tc .vmem S512x256 .f32} {hm : m.IsWhole} {x : FVec Ideal S512x256 .f32}
    (hx : Is x fun r c => f (512 * g + r) (256 * p + c)) (s : Fin 4) (e : Fin 2) :
    Is (ld m hm x s e) (rows f (4 * g + s) (2 * p + e)) := fun i l => by
  rw [ld_at, hx]; simp only [rows]; congr 2 <;> omega

/-- The rows of the block after the point's. -/
theorem ldN_rows {m : Memref sig .tc .vmem S128x256 .bf16} {hm : m.IsWhole} {x : FVec Ideal S128x256 .bf16} {b : ℕ}
    (hx : Is x fun r c => f (128 * b + r) (256 * p + c)) (e : Fin 2) :
    Is (ldN m hm x e) (rows f b (2 * p + e)) := fun i l => by
  rw [ldN_at, hx]; simp only [rows]; congr 2; omega

/-- The rows of the block after the point's, of an array of the wider type. -/
theorem ldN_rows' {m : Memref sig .tc .vmem S128x256 .f32} {hm : m.IsWhole} {x : FVec Ideal S128x256 .f32} {b : ℕ}
    (hx : Is x fun r c => f (128 * b + r) (256 * p + c)) (e : Fin 2) :
    Is (ldN m hm x e) (rows f b (2 * p + e)) := fun i l => by
  rw [ldN_at, hx]; simp only [rows]; congr 2; omega

/-- The keys of a block that is not the first of its point. -/
theorem ldW_keys {m : Memref sig .tc .vmem S512x256 .bf16} {hm : m.IsWhole} {x : FVec Ideal S512x256 .bf16}
    (hx : Is x fun r c => f (512 * g + r) (256 * p + c)) (s : Fin 3) (e : Fin 2) :
    Is (ldW m hm x s e) (keys f (4 * g + s + 1) (2 * p + e)) := fun i l => by
  rw [ldW_at, hx]; simp only [keys, krow, Nat.add_eq_zero_iff, one_ne_zero, and_false, if_false]; congr 2 <;> omega

/-- The keys of the first block of a point: the rows before the point's and the point's own first rows. -/
theorem two_keys {m : Memref sig .tc .vmem S512x256 .bf16} {hm : m.IsWhole} {x : FVec Ideal S512x256 .bf16}
    {m' : Memref sig .tc .vmem S128x256 .bf16} {hm' : m'.IsWhole} {x' : FVec Ideal S128x256 .bf16}
    (hx : Is x fun r c => f (512 * g + r) (256 * p + c))
    (hx' : Is x' fun r c => f (128 * (4 * g - 1) + r) (256 * p + c)) (e : Fin 2) :
    Is (two (ldN m' hm' x' e) (ld m hm x 0 e)) (keys f (4 * g) (2 * p + e)) := by
  refine two_is ((ldN_rows hx' e).congr fun i hi l hl => ?_) ((ld_rows hx 0 e).congr fun i hi l hl => ?_)
  · simp only [rows, keys, krow]; split <;> congr 1 <;> omega
  · simp only [rows, keys, krow, Fin.val_zero]; split <;> congr 1 <;> omega

/-- The keys of a block, from the next block's side: the first half of the next block's keys. -/
theorem ld_keys {m : Memref sig .tc .vmem S512x256 .bf16} {hm : m.IsWhole} {x : FVec Ideal S512x256 .bf16}
    (hx : Is x fun r c => f (512 * g + r) (256 * p + c)) (e : Fin 2) :
    Is (ld m hm x 3 e) (keys f (4 * g + 4) (2 * p + e)) :=
  (ld_rows hx 3 e).congr fun i hi l hl => by
    simp only [rows, keys, krow, Nat.add_eq_zero_iff, OfNat.ofNat_ne_zero, and_false, if_false]
    congr 2 <;> simp

end

/-- The bit that says that a block is the first of all: of the first block of a point, … -/
theorem first_bit {g : ℕ} (hg : g < 16) :
    Scalar.cmpi .eq (BitVec.ofNat 32 g) 0#32 = BitVec.ofBool (!decide (0 < 4 * g)) := by
  interval_cases g <;> rfl

/-- … and that there is a block after the point's. -/
theorem more_bit {g : ℕ} (hg : g < 16) :
    Scalar.cmpi .slt (BitVec.ofNat 32 g) 15#32 = BitVec.ofBool (decide (g < 15)) := by
  interval_cases g <;> rfl

/-- No block but the first of a point is the first of all. -/
theorem next_bit (b : ℕ) : 0#1 = BitVec.ofBool (!decide (0 < b + 1)) := by
  simp

/-- The block of rows `512 * g` on and columns `256 * p` on of a real matrix. -/
def blockOf (G : ℕ → ℕ → ℝ) (g p : ℕ) : S512x256.Idx → EReal :=
  fun y => ((G (512 * g + y 0) (256 * p + y 1) : ℝ) : EReal)

/-- Stores that cover the block and are each a part of one matrix leave that matrix. -/
theorem canon_pieces {G : S512x256.Idx → EReal} {L : List (View.Piece (Elt Ideal) S512x256 .bf16)}
    (hc : ∀ y, ∃ p ∈ L, y ∈ p.1.set) (h : View.PiecesOf G L) : View.canon L = G :=
  funext fun y => View.canon_eq_of_allAt L y (G y) (hc y) fun q hq x hx => (h.mem q hq x).trans (by rw [hx])

/-- One more store. -/
theorem piecesOf_cons {G : S512x256.Idx → EReal} {L : List (View.Piece (Elt Ideal) S512x256 .bf16)} {r : Rect S512x256}
    {w : r.shape.Idx → Elt Ideal .bf16} (h : ∀ x, w x = G (r.emb x)) (hL : View.PiecesOf G L) :
    View.PiecesOf G (⟨r, w⟩ :: L) := ⟨h, hL⟩

/-- A tile whose values are those of `G` at the tile's place. -/
theorem tile_ok {w : (⟨2, ![128, 128]⟩ : Shape).Idx → EReal} {f G : ℕ → ℕ → ℝ} {g p : ℕ} (hw : Is w f) (R C : ℕ)
    (h : ∀ i < 128, ∀ l < 128, f i l = G (512 * g + (R + i)) (256 * p + (C + l)))
    (inb : ∀ a, (![R, C] : Fin 2 → ℕ) a + S128x128.size a ≤ S512x256.size a)
    (x : (Rect.unit (s := S512x256) ![R, C] S128x128.size inb).shape.Idx) :
    w x = blockOf G g p ((Rect.unit (s := S512x256) ![R, C] S128x128.size inb).emb x) := by
  have h0 : (x 0).val < 128 := (x 0).isLt
  have h1 : (x 1).val < 128 := (x 1).isLt
  have hx := hw ⟨x 0, h0⟩ ⟨x 1, h1⟩
  rw [h _ h0 _ h1] at hx
  refine (congrArg w (funext fun a => ?_)).trans (hx.trans ?_)
  · fin_cases a <;> rfl
  · show ((G (512 * g + (R + x 0)) (256 * p + (C + x 1)) : ℝ) : EReal) =
      ((G (512 * g + (R + 1 * x 0)) (256 * p + (C + 1 * x 1)) : ℝ) : EReal)
    rw [one_mul, one_mul]

end Cert.Attn
-- ==== Proof.Points.lean ====
/- One grid point of the kernel: the three blocks it writes are the blocks of the gradients, when its input
   blocks are the blocks of the data. -/
module

public import proofs.«01_k».proof.Proof.Blocks
public import Idealize.ShloMosaic.Lib.Pipeline.ValueKit.Tiles

@[expose] public section

set_option maxRecDepth 16384

noncomputable section

namespace Cert.Attn

open Cert.KernelIdeal Cert.KernelIdeal.Gen Idealize.ShloMosaic Idealize.ShloMosaic.TcCoe

/-- A gradient over the last block's next block vanishes: there the bit that says that there is none makes every
    probability zero. -/
theorem probR_none (q k L : ℕ → ℕ → ℝ) (s : ℕ → ℝ) {h i j : ℕ} (hj : j < 128) : probR q k L s false h i j = 0 :=
  if_neg fun hn => by rcases hn.2.2 with h | h <;> first | omega | exact absurd h (by decide)

section
variable (c : Dev nD) (i : grid0.Coords) (arg3 : Memref sig .tc .vmem S512x256 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S512x256 .bf16) (harg7 : arg7.IsWhole) (arg8 : Memref sig .tc .vmem S128x256 .bf16) (harg8 : arg8.IsWhole) (arg9 : Memref sig .tc .vmem S512x256 .f32) (harg9 : arg9.IsWhole) (arg10 : Memref sig .tc .vmem S128x256 .f32) (harg10 : arg10.IsWhole) (arg11 : Memref sig .tc .vmem S512x256 .f32) (harg11 : arg11.IsWhole) (arg12 : Memref sig .tc .vmem S128x256 .f32) (harg12 : arg12.IsWhole) (arg13 : Memref sig .tc .vmem S512x256 .f32) (harg13 : arg13.IsWhole) (arg14 : Memref sig .tc .vmem S128x256 .f32) (harg14 : arg14.IsWhole) (arg15 : Memref sig .tc .vmem S2x8x128 .f32) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x256 .bf16) (harg18 : arg18.IsWhole)
    {x0 : FVec Ideal S512x256 .bf16} {x1 : FVec Ideal S128x256 .bf16} {x2 : FVec Ideal S512x256 .bf16} {x3 : FVec Ideal S128x256 .bf16} {x4 : FVec Ideal S512x256 .bf16} {x5 : FVec Ideal S128x256 .bf16} {x6 : FVec Ideal S512x256 .f32} {x7 : FVec Ideal S128x256 .f32} {x8 : FVec Ideal S512x256 .f32} {x9 : FVec Ideal S128x256 .f32} {x10 : FVec Ideal S512x256 .f32} {x11 : FVec Ideal S128x256 .f32} {x12 : FVec Ideal S2x8x128 .f32}
    {A : Data} {p g : ℕ} (H : Point A p g x0 x1 x2 x3 x4 x5 x6 x7 x8 x9 x10 x11 x12)
include H

/-- The two slopes of a pair of heads. -/
theorem slope0 (e : Fin 2) : ldS arg15 harg15 x12 e 0 (ix2 0 0) = (((fun h => A.s (2 * (2 * p + e) + h)) 0 : ℝ) : EReal) :=
  (ldS_at x12 e 0).trans (H.s e 0)

/-- The second of the two. -/
theorem slope1 (e : Fin 2) : ldS arg15 harg15 x12 e 1 (ix2 0 0) = (((fun h => A.s (2 * (2 * p + e) + h)) 1 : ℝ) : EReal) :=
  (ldS_at x12 e 1).trans (H.s e 1)

/-- The queries' gradient of the point's first block. -/
theorem dq_first (hg : g < 16) (e : Fin 2) : Is (dq256 (ld arg3 harg3 x0 0 e) (two (ldN arg6 harg6 x3 e) (ld arg5 harg5 x2 0 e)) (two (ldN arg8 harg8 x5 e) (ld arg7 harg7 x4 0 e)) (ld arg9 harg9 x6 0 e) (ld arg11 harg11 x8 0 e) (ld arg13 harg13 x10 0 e) (ldS arg15 harg15 x12 e 0) (ldS arg15 harg15 x12 e 1) (Scalar.cmpi .eq (BitVec.ofNat 32 g) 0#32))
    (A.dqT (4 * g) (2 * p + e)) := by
  rw [first_bit hg]
  exact dq256_is (ld_rows H.q 0 e) (two_keys H.k H.kp e) (two_keys H.v H.vp e) (ld_rows' H.o 0 e) (ld_rows' H.L 0 e) (ld_rows' H.D 0 e) (slope0 arg15 harg15 H e) (slope1 arg15 harg15 H e) (decide (0 < 4 * g))

/-- The queries' gradient of one of the point's other blocks. -/
theorem dq_next (s : Fin 3) (e : Fin 2) : Is (dq256 (ld arg3 harg3 x0 s.succ e) (ldW arg5 harg5 x2 s e) (ldW arg7 harg7 x4 s e) (ld arg9 harg9 x6 s.succ e) (ld arg11 harg11 x8 s.succ e) (ld arg13 harg13 x10 s.succ e) (ldS arg15 harg15 x12 e 0) (ldS arg15 harg15 x12 e 1) 0#1)
    (A.dqT (4 * g + s + 1) (2 * p + e)) := by
  rw [next_bit (4 * g + s)]
  exact dq256_is (ld_rows H.q s.succ e) (ldW_keys H.k s e) (ldW_keys H.v s e) (ld_rows' H.o s.succ e) (ld_rows' H.L s.succ e) (ld_rows' H.D s.succ e) (slope0 arg15 harg15 H e) (slope1 arg15 harg15 H e) (decide (0 < 4 * g + s + 1))

/-- The keys' gradient of the point's first block. -/
theorem dk_first (hg : g < 16) (e : Fin 2) : Is (dk256 (ld arg3 harg3 x0 0 e) (two (ldN arg6 harg6 x3 e) (ld arg5 harg5 x2 0 e)) (two (ldN arg8 harg8 x5 e) (ld arg7 harg7 x4 0 e)) (ld arg9 harg9 x6 0 e) (ld arg11 harg11 x8 0 e) (ld arg13 harg13 x10 0 e) (ldS arg15 harg15 x12 e 0) (ldS arg15 harg15 x12 e 1) (Scalar.cmpi .eq (BitVec.ofNat 32 g) 0#32))
    (A.dkT (4 * g) (2 * p + e)) := by
  rw [first_bit hg]
  exact dk256_is (ld_rows H.q 0 e) (two_keys H.k H.kp e) (two_keys H.v H.vp e) (ld_rows' H.o 0 e) (ld_rows' H.L 0 e) (ld_rows' H.D 0 e) (slope0 arg15 harg15 H e) (slope1 arg15 harg15 H e) (decide (0 < 4 * g))

/-- The keys' gradient of one of the point's other blocks. -/
theorem dk_next (s : Fin 3) (e : Fin 2) : Is (dk256 (ld arg3 harg3 x0 s.succ e) (ldW arg5 harg5 x2 s e) (ldW arg7 harg7 x4 s e) (ld arg9 harg9 x6 s.succ e) (ld arg11 harg11 x8 s.succ e) (ld arg13 harg13 x10 s.succ e) (ldS arg15 harg15 x12 e 0) (ldS arg15 harg15 x12 e 1) 0#1)
    (A.dkT (4 * g + s + 1) (2 * p + e)) := by
  rw [next_bit (4 * g + s)]
  exact dk256_is (ld_rows H.q s.succ e) (ldW_keys H.k s e) (ldW_keys H.v s e) (ld_rows' H.o s.succ e) (ld_rows' H.L s.succ e) (ld_rows' H.D s.succ e) (slope0 arg15 harg15 H e) (slope1 arg15 harg15 H e) (decide (0 < 4 * g + s + 1))

/-- The values' gradient of the point's first block. -/
theorem dv_first (hg : g < 16) (e : Fin 2) : Is (dv256 (ld arg3 harg3 x0 0 e) (two (ldN arg6 harg6 x3 e) (ld arg5 harg5 x2 0 e)) (ld arg9 harg9 x6 0 e) (ld arg11 harg11 x8 0 e) (ldS arg15 harg15 x12 e 0) (ldS arg15 harg15 x12 e 1) (Scalar.cmpi .eq (BitVec.ofNat 32 g) 0#32))
    (A.dvT (4 * g) (2 * p + e)) := by
  rw [first_bit hg]
  exact dv256_is (ld_rows H.q 0 e) (two_keys H.k H.kp e) (ld_rows' H.o 0 e) (ld_rows' H.L 0 e) (slope0 arg15 harg15 H e) (slope1 arg15 harg15 H e) (decide (0 < 4 * g))

/-- The values' gradient of one of the point's other blocks. -/
theorem dv_next (s : Fin 3) (e : Fin 2) : Is (dv256 (ld arg3 harg3 x0 s.succ e) (ldW arg5 harg5 x2 s e) (ld arg9 harg9 x6 s.succ e) (ld arg11 harg11 x8 s.succ e) (ldS arg15 harg15 x12 e 0) (ldS arg15 harg15 x12 e 1) 0#1)
    (A.dvT (4 * g + s + 1) (2 * p + e)) := by
  rw [next_bit (4 * g + s)]
  exact dv256_is (ld_rows H.q s.succ e) (ldW_keys H.k s e) (ld_rows' H.o s.succ e) (ld_rows' H.L s.succ e) (slope0 arg15 harg15 H e) (slope1 arg15 harg15 H e) (decide (0 < 4 * g + s + 1))

/-- What the block after the point's adds to the keys' gradient of the point's last block. -/
theorem dk_after (hg : g < 16) (e : Fin 2) :
    Is (dk128 (ldN arg4 harg4 x1 e) (ld arg5 harg5 x2 3 e) (ld arg7 harg7 x4 3 e) (ldN arg10 harg10 x7 e) (ldN arg12 harg12 x9 e) (ldN arg14 harg14 x11 e) (ldS arg15 harg15 x12 e 0) (ldS arg15 harg15 x12 e 1)
      (Scalar.cmpi .slt (BitVec.ofNat 32 g) 15#32)) (fun i l => if 4 * g + 3 < 63 then A.dkT (4 * g + 4) (2 * p + e) i l else 0) := by
  rw [more_bit hg]
  refine (dk128_is (s := fun h => A.s (2 * (2 * p + e) + h)) (ldN_rows H.qn e) (ld_keys H.k e) (ld_keys H.v e) (ldN_rows' H.on e) (ldN_rows' H.Ln e) (ldN_rows' H.Dn e) (slope0 arg15 harg15 H e) (slope1 arg15 harg15 H e) (decide (g < 15))).congr
    fun j hj l hl => ?_
  by_cases h : g < 15
  · rw [if_pos (by omega), decide_eq_true h, show min (4 * g + 4) 63 = 4 * g + 4 by omega]
    simp only [Data.dkT, Data.S, Nat.zero_lt_succ, decide_true]
  · rw [if_neg (by omega), decide_eq_false h]
    exact Finset.sum_eq_zero fun i _ => by simp only [dsR, probR_none _ _ _ _ hj, zero_mul]

/-- What the block after the point's adds to the values' gradient of the point's last block. -/
theorem dv_after (hg : g < 16) (e : Fin 2) :
    Is (dv128 (ldN arg4 harg4 x1 e) (ld arg5 harg5 x2 3 e) (ldN arg10 harg10 x7 e) (ldN arg12 harg12 x9 e) (ldS arg15 harg15 x12 e 0) (ldS arg15 harg15 x12 e 1)
      (Scalar.cmpi .slt (BitVec.ofNat 32 g) 15#32)) (fun i l => if 4 * g + 3 < 63 then A.dvT (4 * g + 4) (2 * p + e) i l else 0) := by
  rw [more_bit hg]
  refine (dv128_is (s := fun h => A.s (2 * (2 * p + e) + h)) (ldN_rows H.qn e) (ld_keys H.k e) (ldN_rows' H.on e) (ldN_rows' H.Ln e) (slope0 arg15 harg15 H e) (slope1 arg15 harg15 H e) (decide (g < 15))).congr
    fun j hj l hl => ?_
  by_cases h : g < 15
  · rw [if_pos (by omega), decide_eq_true h, show min (4 * g + 4) 63 = 4 * g + 4 by omega]
    simp only [Data.dvT, Data.P, Nat.zero_lt_succ, decide_true]
  · rw [if_neg (by omega), decide_eq_false h]
    exact Finset.sum_eq_zero fun i _ => by simp only [probR_none _ _ _ _ hj, zero_mul]

end

section
variable (c : Dev nD) (i : grid0.Coords) (arg3 : Memref sig .tc .vmem S512x256 .bf16) (harg3 : arg3.IsWhole) (arg4 : Memref sig .tc .vmem S128x256 .bf16) (harg4 : arg4.IsWhole) (arg5 : Memref sig .tc .vmem S512x256 .bf16) (harg5 : arg5.IsWhole) (arg6 : Memref sig .tc .vmem S128x256 .bf16) (harg6 : arg6.IsWhole) (arg7 : Memref sig .tc .vmem S512x256 .bf16) (harg7 : arg7.IsWhole) (arg8 : Memref sig .tc .vmem S128x256 .bf16) (harg8 : arg8.IsWhole) (arg9 : Memref sig .tc .vmem S512x256 .f32) (harg9 : arg9.IsWhole) (arg10 : Memref sig .tc .vmem S128x256 .f32) (harg10 : arg10.IsWhole) (arg11 : Memref sig .tc .vmem S512x256 .f32) (harg11 : arg11.IsWhole) (arg12 : Memref sig .tc .vmem S128x256 .f32) (harg12 : arg12.IsWhole) (arg13 : Memref sig .tc .vmem S512x256 .f32) (harg13 : arg13.IsWhole) (arg14 : Memref sig .tc .vmem S128x256 .f32) (harg14 : arg14.IsWhole) (arg15 : Memref sig .tc .vmem S2x8x128 .f32) (harg15 : arg15.IsWhole) (arg16 : Memref sig .tc .vmem S512x256 .bf16) (harg16 : arg16.IsWhole) (arg17 : Memref sig .tc .vmem S512x256 .bf16) (harg17 : arg17.IsWhole) (arg18 : Memref sig .tc .vmem S512x256 .bf16) (harg18 : arg18.IsWhole)
    {x0 : FVec Ideal S512x256 .bf16} {x1 : FVec Ideal S128x256 .bf16} {x2 : FVec Ideal S512x256 .bf16} {x3 : FVec Ideal S128x256 .bf16} {x4 : FVec Ideal S512x256 .bf16} {x5 : FVec Ideal S128x256 .bf16} {x6 : FVec Ideal S512x256 .f32} {x7 : FVec Ideal S128x256 .f32} {x8 : FVec Ideal S512x256 .f32} {x9 : FVec Ideal S128x256 .f32} {x10 : FVec Ideal S512x256 .f32} {x11 : FVec Ideal S128x256 .f32} {x12 : FVec Ideal S2x8x128 .f32}
    {A : Data} {p : ℕ}

/-- The queries' gradient at a row and column given by block and place. -/
theorem placedq (A : Data) {R C b e i l : ℕ} (hi : i < 128) (hl : l < 128) (hR : R = 128 * b + i) (hC : C = 128 * e + l) :
    A.dq R C = A.dqT b e i l := by
  subst hR hC
  rw [Data.dq, show (128 * b + i) / 128 = b by omega, show (128 * e + l) / 128 = e by omega,
    show (128 * b + i) % 128 = i by omega, show (128 * e + l) % 128 = l by omega]

/-- The point's block of the queries' gradient. -/
theorem out13 (H : Point A p (i 1).val x0 x1 x2 x3 x4 x5 x6 x7 x8 x9 x10 x11 x12) (hg : (i 1).val < 16) :
    out0_A_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = blockOf A.dq (i 1).val p := by
  refine (View.read_writes_junk_eq_canon _ _).trans (canon_pieces
    (cover0_A_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12) ?_)
  rw [pieces13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12]
  refine piecesOf_cons ?_ <| piecesOf_cons ?_ <| piecesOf_cons ?_ <| piecesOf_cons ?_ <| piecesOf_cons ?_ <| piecesOf_cons ?_ <| piecesOf_cons ?_ <| piecesOf_cons ?_ <| trivial
  · exact tile_ok (dq_next arg3 harg3 arg5 harg5 arg7 harg7 arg9 harg9 arg11 harg11 arg13 harg13 arg15 harg15 H 2 1) (g := (i 1).val) (p := p) 384 128 (fun a ha l hl => by
      rw [placedq A (b := 4 * (i 1).val + 3) (e := 2 * p + 1) ha hl (by omega) (by omega)]; rfl) _
  · exact tile_ok (dq_next arg3 harg3 arg5 harg5 arg7 harg7 arg9 harg9 arg11 harg11 arg13 harg13 arg15 harg15 H 1 1) (g := (i 1).val) (p := p) 256 128 (fun a ha l hl => by
      rw [placedq A (b := 4 * (i 1).val + 2) (e := 2 * p + 1) ha hl (by omega) (by omega)]; rfl) _
  · exact tile_ok (dq_next arg3 harg3 arg5 harg5 arg7 harg7 arg9 harg9 arg11 harg11 arg13 harg13 arg15 harg15 H 0 1) (g := (i 1).val) (p := p) 128 128 (fun a ha l hl => by
      rw [placedq A (b := 4 * (i 1).val + 1) (e := 2 * p + 1) ha hl (by omega) (by omega)]; rfl) _
  · exact tile_ok (dq_first arg3 harg3 arg5 harg5 arg6 harg6 arg7 harg7 arg8 harg8 arg9 harg9 arg11 harg11 arg13 harg13 arg15 harg15 H hg 1) (g := (i 1).val) (p := p) 0 128 (fun a ha l hl => by
      rw [placedq A (b := 4 * (i 1).val + 0) (e := 2 * p + 1) ha hl (by omega) (by omega)]; rfl) _
  · exact tile_ok (dq_next arg3 harg3 arg5 harg5 arg7 harg7 arg9 harg9 arg11 harg11 arg13 harg13 arg15 harg15 H 2 0) (g := (i 1).val) (p := p) 384 0 (fun a ha l hl => by
      rw [placedq A (b := 4 * (i 1).val + 3) (e := 2 * p + 0) ha hl (by omega) (by omega)]; rfl) _
  · exact tile_ok (dq_next arg3 harg3 arg5 harg5 arg7 harg7 arg9 harg9 arg11 harg11 arg13 harg13 arg15 harg15 H 1 0) (g := (i 1).val) (p := p) 256 0 (fun a ha l hl => by
      rw [placedq A (b := 4 * (i 1).val + 2) (e := 2 * p + 0) ha hl (by omega) (by omega)]; rfl) _
  · exact tile_ok (dq_next arg3 harg3 arg5 harg5 arg7 harg7 arg9 harg9 arg11 harg11 arg13 harg13 arg15 harg15 H 0 0) (g := (i 1).val) (p := p) 128 0 (fun a ha l hl => by
      rw [placedq A (b := 4 * (i 1).val + 1) (e := 2 * p + 0) ha hl (by omega) (by omega)]; rfl) _
  · exact tile_ok (dq_first arg3 harg3 arg5 harg5 arg6 harg6 arg7 harg7 arg8 harg8 arg9 harg9 arg11 harg11 arg13 harg13 arg15 harg15 H hg 0) (g := (i 1).val) (p := p) 0 0 (fun a ha l hl => by
      rw [placedq A (b := 4 * (i 1).val + 0) (e := 2 * p + 0) ha hl (by omega) (by omega)]; rfl) _

/-- The keys' gradient at a row and column given by block and place. -/
theorem placedk (A : Data) {R C b e i l : ℕ} (hi : i < 128) (hl : l < 128) (hR : R = 128 * b + i) (hC : C = 128 * e + l) :
    A.dk R C = A.dkB b e i l := by
  subst hR hC
  rw [Data.dk, show (128 * b + i) / 128 = b by omega, show (128 * e + l) / 128 = e by omega,
    show (128 * b + i) % 128 = i by omega, show (128 * e + l) % 128 = l by omega]

/-- The point's block of the keys' gradient. -/
theorem out14 (H : Point A p (i 1).val x0 x1 x2 x3 x4 x5 x6 x7 x8 x9 x10 x11 x12) (hg : (i 1).val < 16) :
    out0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = blockOf A.dk (i 1).val p := by
  refine (View.read_writes_junk_eq_canon _ _).trans (canon_pieces
    (cover0_A_14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12) ?_)
  rw [pieces14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12]
  refine piecesOf_cons ?_ <| piecesOf_cons ?_ <| piecesOf_cons ?_ <| piecesOf_cons ?_ <| piecesOf_cons ?_ <| piecesOf_cons ?_ <| piecesOf_cons ?_ <| piecesOf_cons ?_ <| trivial
  · exact tile_ok (both_is (upper_is (dk_next arg3 harg3 arg5 harg5 arg7 harg7 arg9 harg9 arg11 harg11 arg13 harg13 arg15 harg15 H 2 1)) (dk_after arg4 harg4 arg5 harg5 arg7 harg7 arg10 harg10 arg12 harg12 arg14 harg14 arg15 harg15 H hg 1)) (g := (i 1).val) (p := p) 384 128 (fun a ha l hl => by
      rw [placedk A (b := 4 * (i 1).val + 3) (e := 2 * p + 1) ha hl (by omega) (by omega)]; simp only [Data.dkB]; rfl) _
  · exact tile_ok (both_is (upper_is (dk_next arg3 harg3 arg5 harg5 arg7 harg7 arg9 harg9 arg11 harg11 arg13 harg13 arg15 harg15 H 1 1)) (lower_is (dk_next arg3 harg3 arg5 harg5 arg7 harg7 arg9 harg9 arg11 harg11 arg13 harg13 arg15 harg15 H 2 1))) (g := (i 1).val) (p := p) 256 128 (fun a ha l hl => by
      rw [placedk A (b := 4 * (i 1).val + 2) (e := 2 * p + 1) ha hl (by omega) (by omega)]; simp only [Data.dkB]; rw [if_pos (by omega)]; rfl) _
  · exact tile_ok (both_is (upper_is (dk_next arg3 harg3 arg5 harg5 arg7 harg7 arg9 harg9 arg11 harg11 arg13 harg13 arg15 harg15 H 0 1)) (lower_is (dk_next arg3 harg3 arg5 harg5 arg7 harg7 arg9 harg9 arg11 harg11 arg13 harg13 arg15 harg15 H 1 1))) (g := (i 1).val) (p := p) 128 128 (fun a ha l hl => by
      rw [placedk A (b := 4 * (i 1).val + 1) (e := 2 * p + 1) ha hl (by omega) (by omega)]; simp only [Data.dkB]; rw [if_pos (by omega)]; rfl) _
  · exact tile_ok (both_is (upper_is (dk_first arg3 harg3 arg5 harg5 arg6 harg6 arg7 harg7 arg8 harg8 arg9 harg9 arg11 harg11 arg13 harg13 arg15 harg15 H hg 1)) (lower_is (dk_next arg3 harg3 arg5 harg5 arg7 harg7 arg9 harg9 arg11 harg11 arg13 harg13 arg15 harg15 H 0 1))) (g := (i 1).val) (p := p) 0 128 (fun a ha l hl => by
      rw [placedk A (b := 4 * (i 1).val + 0) (e := 2 * p + 1) ha hl (by omega) (by omega)]; simp only [Data.dkB]; rw [if_pos (by omega)]; rfl) _
  · exact tile_ok (both_is (upper_is (dk_next arg3 harg3 arg5 harg5 arg7 harg7 arg9 harg9 arg11 harg11 arg13 harg13 arg15 harg15 H 2 0)) (dk_after arg4 harg4 arg5 harg5 arg7 harg7 arg10 harg10 arg12 harg12 arg14 harg14 arg15 harg15 H hg 0)) (g := (i 1).val) (p := p) 384 0 (fun a ha l hl => by
      rw [placedk A (b := 4 * (i 1).val + 3) (e := 2 * p + 0) ha hl (by omega) (by omega)]; simp only [Data.dkB]; rfl) _
  · exact tile_ok (both_is (upper_is (dk_next arg3 harg3 arg5 harg5 arg7 harg7 arg9 harg9 arg11 harg11 arg13 harg13 arg15 harg15 H 1 0)) (lower_is (dk_next arg3 harg3 arg5 harg5 arg7 harg7 arg9 harg9 arg11 harg11 arg13 harg13 arg15 harg15 H 2 0))) (g := (i 1).val) (p := p) 256 0 (fun a ha l hl => by
      rw [placedk A (b := 4 * (i 1).val + 2) (e := 2 * p + 0) ha hl (by omega) (by omega)]; simp only [Data.dkB]; rw [if_pos (by omega)]; rfl) _
  · exact tile_ok (both_is (upper_is (dk_next arg3 harg3 arg5 harg5 arg7 harg7 arg9 harg9 arg11 harg11 arg13 harg13 arg15 harg15 H 0 0)) (lower_is (dk_next arg3 harg3 arg5 harg5 arg7 harg7 arg9 harg9 arg11 harg11 arg13 harg13 arg15 harg15 H 1 0))) (g := (i 1).val) (p := p) 128 0 (fun a ha l hl => by
      rw [placedk A (b := 4 * (i 1).val + 1) (e := 2 * p + 0) ha hl (by omega) (by omega)]; simp only [Data.dkB]; rw [if_pos (by omega)]; rfl) _
  · exact tile_ok (both_is (upper_is (dk_first arg3 harg3 arg5 harg5 arg6 harg6 arg7 harg7 arg8 harg8 arg9 harg9 arg11 harg11 arg13 harg13 arg15 harg15 H hg 0)) (lower_is (dk_next arg3 harg3 arg5 harg5 arg7 harg7 arg9 harg9 arg11 harg11 arg13 harg13 arg15 harg15 H 0 0))) (g := (i 1).val) (p := p) 0 0 (fun a ha l hl => by
      rw [placedk A (b := 4 * (i 1).val + 0) (e := 2 * p + 0) ha hl (by omega) (by omega)]; simp only [Data.dkB]; rw [if_pos (by omega)]; rfl) _

/-- The values' gradient at a row and column given by block and place. -/
theorem placedv (A : Data) {R C b e i l : ℕ} (hi : i < 128) (hl : l < 128) (hR : R = 128 * b + i) (hC : C = 128 * e + l) :
    A.dv R C = A.dvB b e i l := by
  subst hR hC
  rw [Data.dv, show (128 * b + i) / 128 = b by omega, show (128 * e + l) / 128 = e by omega,
    show (128 * b + i) % 128 = i by omega, show (128 * e + l) % 128 = l by omega]

/-- The point's block of the values' gradient. -/
theorem out15 (H : Point A p (i 1).val x0 x1 x2 x3 x4 x5 x6 x7 x8 x9 x10 x11 x12) (hg : (i 1).val < 16) :
    out0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = blockOf A.dv (i 1).val p := by
  refine (View.read_writes_junk_eq_canon _ _).trans (canon_pieces
    (cover0_A_15 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12) ?_)
  rw [pieces15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12]
  refine piecesOf_cons ?_ <| piecesOf_cons ?_ <| piecesOf_cons ?_ <| piecesOf_cons ?_ <| piecesOf_cons ?_ <| piecesOf_cons ?_ <| piecesOf_cons ?_ <| piecesOf_cons ?_ <| trivial
  · exact tile_ok (both_is (upper_is (dv_next arg3 harg3 arg5 harg5 arg9 harg9 arg11 harg11 arg15 harg15 H 2 1)) (dv_after arg4 harg4 arg5 harg5 arg10 harg10 arg12 harg12 arg15 harg15 H hg 1)) (g := (i 1).val) (p := p) 384 128 (fun a ha l hl => by
      rw [placedv A (b := 4 * (i 1).val + 3) (e := 2 * p + 1) ha hl (by omega) (by omega)]; simp only [Data.dvB]; rfl) _
  · exact tile_ok (both_is (upper_is (dv_next arg3 harg3 arg5 harg5 arg9 harg9 arg11 harg11 arg15 harg15 H 1 1)) (lower_is (dv_next arg3 harg3 arg5 harg5 arg9 harg9 arg11 harg11 arg15 harg15 H 2 1))) (g := (i 1).val) (p := p) 256 128 (fun a ha l hl => by
      rw [placedv A (b := 4 * (i 1).val + 2) (e := 2 * p + 1) ha hl (by omega) (by omega)]; simp only [Data.dvB]; rw [if_pos (by omega)]; rfl) _
  · exact tile_ok (both_is (upper_is (dv_next arg3 harg3 arg5 harg5 arg9 harg9 arg11 harg11 arg15 harg15 H 0 1)) (lower_is (dv_next arg3 harg3 arg5 harg5 arg9 harg9 arg11 harg11 arg15 harg15 H 1 1))) (g := (i 1).val) (p := p) 128 128 (fun a ha l hl => by
      rw [placedv A (b := 4 * (i 1).val + 1) (e := 2 * p + 1) ha hl (by omega) (by omega)]; simp only [Data.dvB]; rw [if_pos (by omega)]; rfl) _
  · exact tile_ok (both_is (upper_is (dv_first arg3 harg3 arg5 harg5 arg6 harg6 arg9 harg9 arg11 harg11 arg15 harg15 H hg 1)) (lower_is (dv_next arg3 harg3 arg5 harg5 arg9 harg9 arg11 harg11 arg15 harg15 H 0 1))) (g := (i 1).val) (p := p) 0 128 (fun a ha l hl => by
      rw [placedv A (b := 4 * (i 1).val + 0) (e := 2 * p + 1) ha hl (by omega) (by omega)]; simp only [Data.dvB]; rw [if_pos (by omega)]; rfl) _
  · exact tile_ok (both_is (upper_is (dv_next arg3 harg3 arg5 harg5 arg9 harg9 arg11 harg11 arg15 harg15 H 2 0)) (dv_after arg4 harg4 arg5 harg5 arg10 harg10 arg12 harg12 arg15 harg15 H hg 0)) (g := (i 1).val) (p := p) 384 0 (fun a ha l hl => by
      rw [placedv A (b := 4 * (i 1).val + 3) (e := 2 * p + 0) ha hl (by omega) (by omega)]; simp only [Data.dvB]; rfl) _
  · exact tile_ok (both_is (upper_is (dv_next arg3 harg3 arg5 harg5 arg9 harg9 arg11 harg11 arg15 harg15 H 1 0)) (lower_is (dv_next arg3 harg3 arg5 harg5 arg9 harg9 arg11 harg11 arg15 harg15 H 2 0))) (g := (i 1).val) (p := p) 256 0 (fun a ha l hl => by
      rw [placedv A (b := 4 * (i 1).val + 2) (e := 2 * p + 0) ha hl (by omega) (by omega)]; simp only [Data.dvB]; rw [if_pos (by omega)]; rfl) _
  · exact tile_ok (both_is (upper_is (dv_next arg3 harg3 arg5 harg5 arg9 harg9 arg11 harg11 arg15 harg15 H 0 0)) (lower_is (dv_next arg3 harg3 arg5 harg5 arg9 harg9 arg11 harg11 arg15 harg15 H 1 0))) (g := (i 1).val) (p := p) 128 0 (fun a ha l hl => by
      rw [placedv A (b := 4 * (i 1).val + 1) (e := 2 * p + 0) ha hl (by omega) (by omega)]; simp only [Data.dvB]; rw [if_pos (by omega)]; rfl) _
  · exact tile_ok (both_is (upper_is (dv_first arg3 harg3 arg5 harg5 arg6 harg6 arg9 harg9 arg11 harg11 arg15 harg15 H hg 0)) (lower_is (dv_next arg3 harg3 arg5 harg5 arg9 harg9 arg11 harg11 arg15 harg15 H 0 0))) (g := (i 1).val) (p := p) 0 0 (fun a ha l hl => by
      rw [placedv A (b := 4 * (i 1).val + 0) (e := 2 * p + 0) ha hl (by omega) (by omega)]; simp only [Data.dvB]; rw [if_pos (by omega)]; rfl) _

end

end Cert.Attn
-- ==== Proof.Arrays.lean ====
/- The arrays the kernel leaves: the gradients, when the arrays it finds are the data. -/
module

public import proofs.«01_k».proof.Proof.Points
public import Idealize.ShloMosaic.Lib.Pipeline.ValueKit.Point

@[expose] public section

set_option maxRecDepth 16384

noncomputable section

namespace Cert.Attn

open Cert.KernelIdeal Cert.KernelIdeal.Gen Idealize.ShloMosaic Idealize.ShloMosaic.TcCoe

/-! ## The places of the blocks -/

/-- The block of window 0 at a grid point. -/
theorem idx0 : ∀ t : Fin grid0.N, win0_0.index t = ![(grid0.coords t 1).val, (grid0.coords t 0).val] := by decide +kernel

/-- The block of window 1 at a grid point. -/
theorem idx1 : ∀ t : Fin grid0.N, win0_1.index t = ![min (4 * (grid0.coords t 1).val + 4) 63, (grid0.coords t 0).val] := by decide +kernel

/-- The block of window 2 at a grid point. -/
theorem idx2 : ∀ t : Fin grid0.N, win0_2.index t = ![(grid0.coords t 1).val, 3 + (grid0.coords t 0).val] := by decide +kernel

/-- The block of window 3 at a grid point. -/
theorem idx3 : ∀ t : Fin grid0.N, win0_3.index t = ![4 * (grid0.coords t 1).val - 1, 3 + (grid0.coords t 0).val] := by decide +kernel

/-- The block of window 4 at a grid point. -/
theorem idx4 : ∀ t : Fin grid0.N, win0_4.index t = ![(grid0.coords t 1).val, 6 + (grid0.coords t 0).val] := by decide +kernel

/-- The block of window 5 at a grid point. -/
theorem idx5 : ∀ t : Fin grid0.N, win0_5.index t = ![4 * (grid0.coords t 1).val - 1, 6 + (grid0.coords t 0).val] := by decide +kernel

/-- The block of window 6 at a grid point. -/
theorem idx6 : ∀ t : Fin grid0.N, win0_6.index t = ![(grid0.coords t 1).val, (grid0.coords t 0).val] := by decide +kernel

/-- The block of window 7 at a grid point. -/
theorem idx7 : ∀ t : Fin grid0.N, win0_7.index t = ![min (4 * (grid0.coords t 1).val + 4) 63, (grid0.coords t 0).val] := by decide +kernel

/-- The block of window 8 at a grid point. -/
theorem idx8 : ∀ t : Fin grid0.N, win0_8.index t = ![(grid0.coords t 1).val, (grid0.coords t 0).val] := by decide +kernel

/-- The block of window 9 at a grid point. -/
theorem idx9 : ∀ t : Fin grid0.N, win0_9.index t = ![min (4 * (grid0.coords t 1).val + 4) 63, (grid0.coords t 0).val] := by decide +kernel

/-- The block of window 10 at a grid point. -/
theorem idx10 : ∀ t : Fin grid0.N, win0_10.index t = ![(grid0.coords t 1).val, (grid0.coords t 0).val] := by decide +kernel

/-- The block of window 11 at a grid point. -/
theorem idx11 : ∀ t : Fin grid0.N, win0_11.index t = ![min (4 * (grid0.coords t 1).val + 4) 63, (grid0.coords t 0).val] := by decide +kernel

/-- The block of window 13 at a grid point. -/
theorem idx13 : ∀ t : Fin grid0.N, win0_13.index t = ![(grid0.coords t 1).val, (grid0.coords t 0).val] := by decide +kernel

/-- The block of window 14 at a grid point. -/
theorem idx14 : ∀ t : Fin grid0.N, win0_14.index t = ![(grid0.coords t 1).val, (grid0.coords t 0).val] := by decide +kernel

/-- The block of window 15 at a grid point. -/
theorem idx15 : ∀ t : Fin grid0.N, win0_15.index t = ![(grid0.coords t 1).val, (grid0.coords t 0).val] := by decide +kernel

/-- The block of window 12 at a grid point. -/
theorem idx12 : ∀ t : Fin grid0.N, win0_12.index t = ![(grid0.coords t 0).val, 0, 0] := by decide +kernel

/-- The bounds of the grid's two axes. -/
theorem coord_lt : ∀ t : Fin grid0.N, (grid0.coords t 0).val < 3 ∧ (grid0.coords t 1).val < 16 := by decide +kernel

/-- The arrays that the kernel finds on device `c` are the data: the first array's columns are the queries, then the
    keys, then the values; then the cotangent, the two row statistics, and the slope of each head, in the row of its
    pair and the first column of its half. -/
structure Entry (m : (ℓ : Loc nD τ sig) → Buf (Elt Ideal) ℓ) (c : Dev nD) (A : Data) : Prop where
  q : ∀ (r : Fin 8192) (l : Fin 2560), l.val < 768 →
    (V m c main_arg0 : S8192x2560.Idx → EReal) (ix2 r l) = ((A.q r l : ℝ) : EReal)
  k : ∀ (r : Fin 8192) (l : Fin 2560), 768 ≤ l.val → l.val < 1536 →
    (V m c main_arg0 : S8192x2560.Idx → EReal) (ix2 r l) = ((A.k r (l - 768) : ℝ) : EReal)
  v : ∀ (r : Fin 8192) (l : Fin 2560), 1536 ≤ l.val → l.val < 2304 →
    (V m c main_arg0 : S8192x2560.Idx → EReal) (ix2 r l) = ((A.v r (l - 1536) : ℝ) : EReal)
  o : Is (a := 8192) (b := 768) (V m c main_arg2) A.o
  L : Is (a := 8192) (b := 768) (V m c main_v90) A.L
  D : Is (a := 8192) (b := 768) (V m c main_v95) A.D
  s : ∀ (e : Fin 6) (h : Fin 2),
    (V m c main_v98 : S6x8x128.Idx → EReal) (ix3 e 0 ⟨64 * h, by omega⟩) = ((A.s (2 * e + h) : ℝ) : EReal)

section
variable {m : (ℓ : Loc nD τ sig) → Buf (Elt Ideal) ℓ} {c : Dev nD} {A : Data} (H : Entry m c A) (t : Fin cfg0.N)
include H

/-- Window 0's block at a grid point. -/
theorem blk0 : Is (a := 512) (b := 256) (iblk m c 0 t) fun r l => A.q (512 * (grid0.coords t 1).val + r) (256 * (grid0.coords t 0).val + l) := fun r l => by
  obtain ⟨hp, hg⟩ := coord_lt t
  have e : ∀ X : S8192x2560.Idx → EReal, ((cfg0.win 0).blk t).view.read (Elt Ideal) X (ix2 r l) =
      X (ix2 ⟨512 * (grid0.coords t 1).val + r, by omega⟩ ⟨256 * (grid0.coords t 0).val + l, by omega⟩) := fun X => by
    blk_ext [idx0 t]
  refine (e (V m c main_arg0)).trans ((H.q _ _ (by dsimp only; omega)).trans ?_)
  rfl

/-- Window 1's block at a grid point. -/
theorem blk1 : Is (a := 128) (b := 256) (iblk m c 1 t) fun r l => A.q (128 * (min (4 * (grid0.coords t 1).val + 4) 63) + r) (256 * (grid0.coords t 0).val + l) := fun r l => by
  obtain ⟨hp, hg⟩ := coord_lt t
  have e : ∀ X : S8192x2560.Idx → EReal, ((cfg0.win 1).blk t).view.read (Elt Ideal) X (ix2 r l) =
      X (ix2 ⟨128 * (min (4 * (grid0.coords t 1).val + 4) 63) + r, by omega⟩ ⟨256 * (grid0.coords t 0).val + l, by omega⟩) := fun X => by
    blk_ext [idx1 t]
  refine (e (V m c main_arg0)).trans ((H.q _ _ (by dsimp only; omega)).trans ?_)
  rfl

/-- Window 2's block at a grid point. -/
theorem blk2 : Is (a := 512) (b := 256) (iblk m c 2 t) fun r l => A.k (512 * (grid0.coords t 1).val + r) (256 * (grid0.coords t 0).val + l) := fun r l => by
  obtain ⟨hp, hg⟩ := coord_lt t
  have e : ∀ X : S8192x2560.Idx → EReal, ((cfg0.win 2).blk t).view.read (Elt Ideal) X (ix2 r l) =
      X (ix2 ⟨512 * (grid0.coords t 1).val + r, by omega⟩ ⟨768 + 256 * (grid0.coords t 0).val + l, by omega⟩) := fun X => by
    blk_ext [idx2 t]
  refine (e (V m c main_arg0)).trans ((H.k _ _ (by dsimp only; omega) (by dsimp only; omega)).trans ?_)
  congr 2
  dsimp only
  omega

/-- Window 3's block at a grid point. -/
theorem blk3 : Is (a := 128) (b := 256) (iblk m c 3 t) fun r l => A.k (128 * (4 * (grid0.coords t 1).val - 1) + r) (256 * (grid0.coords t 0).val + l) := fun r l => by
  obtain ⟨hp, hg⟩ := coord_lt t
  have e : ∀ X : S8192x2560.Idx → EReal, ((cfg0.win 3).blk t).view.read (Elt Ideal) X (ix2 r l) =
      X (ix2 ⟨128 * (4 * (grid0.coords t 1).val - 1) + r, by omega⟩ ⟨768 + 256 * (grid0.coords t 0).val + l, by omega⟩) := fun X => by
    blk_ext [idx3 t]
  refine (e (V m c main_arg0)).trans ((H.k _ _ (by dsimp only; omega) (by dsimp only; omega)).trans ?_)
  congr 2
  dsimp only
  omega

/-- Window 4's block at a grid point. -/
theorem blk4 : Is (a := 512) (b := 256) (iblk m c 4 t) fun r l => A.v (512 * (grid0.coords t 1).val + r) (256 * (grid0.coords t 0).val + l) := fun r l => by
  obtain ⟨hp, hg⟩ := coord_lt t
  have e : ∀ X : S8192x2560.Idx → EReal, ((cfg0.win 4).blk t).view.read (Elt Ideal) X (ix2 r l) =
      X (ix2 ⟨512 * (grid0.coords t 1).val + r, by omega⟩ ⟨1536 + 256 * (grid0.coords t 0).val + l, by omega⟩) := fun X => by
    blk_ext [idx4 t]
  refine (e (V m c main_arg0)).trans ((H.v _ _ (by dsimp only; omega) (by dsimp only; omega)).trans ?_)
  congr 2
  dsimp only
  omega

/-- Window 5's block at a grid point. -/
theorem blk5 : Is (a := 128) (b := 256) (iblk m c 5 t) fun r l => A.v (128 * (4 * (grid0.coords t 1).val - 1) + r) (256 * (grid0.coords t 0).val + l) := fun r l => by
  obtain ⟨hp, hg⟩ := coord_lt t
  have e : ∀ X : S8192x2560.Idx → EReal, ((cfg0.win 5).blk t).view.read (Elt Ideal) X (ix2 r l) =
      X (ix2 ⟨128 * (4 * (grid0.coords t 1).val - 1) + r, by omega⟩ ⟨1536 + 256 * (grid0.coords t 0).val + l, by omega⟩) := fun X => by
    blk_ext [idx5 t]
  refine (e (V m c main_arg0)).trans ((H.v _ _ (by dsimp only; omega) (by dsimp only; omega)).trans ?_)
  congr 2
  dsimp only
  omega

/-- Window 6's block at a grid point. -/
theorem blk6 : Is (a := 512) (b := 256) (iblk m c 6 t) fun r l => A.o (512 * (grid0.coords t 1).val + r) (256 * (grid0.coords t 0).val + l) := fun r l => by
  obtain ⟨hp, hg⟩ := coord_lt t
  have e : ∀ X : S8192x768.Idx → EReal, ((cfg0.win 6).blk t).view.read (Elt Ideal) X (ix2 r l) =
      X (ix2 ⟨512 * (grid0.coords t 1).val + r, by omega⟩ ⟨256 * (grid0.coords t 0).val + l, by omega⟩) := fun X => by
    blk_ext [idx6 t]
  refine (e (V m c main_arg2)).trans ((H.o _ _).trans ?_)
  rfl

/-- Window 7's block at a grid point. -/
theorem blk7 : Is (a := 128) (b := 256) (iblk m c 7 t) fun r l => A.o (128 * (min (4 * (grid0.coords t 1).val + 4) 63) + r) (256 * (grid0.coords t 0).val + l) := fun r l => by
  obtain ⟨hp, hg⟩ := coord_lt t
  have e : ∀ X : S8192x768.Idx → EReal, ((cfg0.win 7).blk t).view.read (Elt Ideal) X (ix2 r l) =
      X (ix2 ⟨128 * (min (4 * (grid0.coords t 1).val + 4) 63) + r, by omega⟩ ⟨256 * (grid0.coords t 0).val + l, by omega⟩) := fun X => by
    blk_ext [idx7 t]
  refine (e (V m c main_arg2)).trans ((H.o _ _).trans ?_)
  rfl

/-- Window 8's block at a grid point. -/
theorem blk8 : Is (a := 512) (b := 256) (iblk m c 8 t) fun r l => A.L (512 * (grid0.coords t 1).val + r) (256 * (grid0.coords t 0).val + l) := fun r l => by
  obtain ⟨hp, hg⟩ := coord_lt t
  have e : ∀ X : S8192x768.Idx → EReal, ((cfg0.win 8).blk t).view.read (Elt Ideal) X (ix2 r l) =
      X (ix2 ⟨512 * (grid0.coords t 1).val + r, by omega⟩ ⟨256 * (grid0.coords t 0).val + l, by omega⟩) := fun X => by
    blk_ext [idx8 t]
  refine (e (V m c main_v90)).trans ((H.L _ _).trans ?_)
  rfl

/-- Window 9's block at a grid point. -/
theorem blk9 : Is (a := 128) (b := 256) (iblk m c 9 t) fun r l => A.L (128 * (min (4 * (grid0.coords t 1).val + 4) 63) + r) (256 * (grid0.coords t 0).val + l) := fun r l => by
  obtain ⟨hp, hg⟩ := coord_lt t
  have e : ∀ X : S8192x768.Idx → EReal, ((cfg0.win 9).blk t).view.read (Elt Ideal) X (ix2 r l) =
      X (ix2 ⟨128 * (min (4 * (grid0.coords t 1).val + 4) 63) + r, by omega⟩ ⟨256 * (grid0.coords t 0).val + l, by omega⟩) := fun X => by
    blk_ext [idx9 t]
  refine (e (V m c main_v90)).trans ((H.L _ _).trans ?_)
  rfl

/-- Window 10's block at a grid point. -/
theorem blk10 : Is (a := 512) (b := 256) (iblk m c 10 t) fun r l => A.D (512 * (grid0.coords t 1).val + r) (256 * (grid0.coords t 0).val + l) := fun r l => by
  obtain ⟨hp, hg⟩ := coord_lt t
  have e : ∀ X : S8192x768.Idx → EReal, ((cfg0.win 10).blk t).view.read (Elt Ideal) X (ix2 r l) =
      X (ix2 ⟨512 * (grid0.coords t 1).val + r, by omega⟩ ⟨256 * (grid0.coords t 0).val + l, by omega⟩) := fun X => by
    blk_ext [idx10 t]
  refine (e (V m c main_v95)).trans ((H.D _ _).trans ?_)
  rfl

/-- Window 11's block at a grid point. -/
theorem blk11 : Is (a := 128) (b := 256) (iblk m c 11 t) fun r l => A.D (128 * (min (4 * (grid0.coords t 1).val + 4) 63) + r) (256 * (grid0.coords t 0).val + l) := fun r l => by
  obtain ⟨hp, hg⟩ := coord_lt t
  have e : ∀ X : S8192x768.Idx → EReal, ((cfg0.win 11).blk t).view.read (Elt Ideal) X (ix2 r l) =
      X (ix2 ⟨128 * (min (4 * (grid0.coords t 1).val + 4) 63) + r, by omega⟩ ⟨256 * (grid0.coords t 0).val + l, by omega⟩) := fun X => by
    blk_ext [idx11 t]
  refine (e (V m c main_v95)).trans ((H.D _ _).trans ?_)
  rfl

/-- The slopes at a grid point. -/
theorem blk12 (e h : Fin 2) : (iblk m c 12 t : S2x8x128.Idx → EReal) (ix3 e 0 ⟨64 * h, by omega⟩)
    = ((A.s (2 * (2 * (grid0.coords t 0).val + e) + h) : ℝ) : EReal) := by
  obtain ⟨hp, hg⟩ := coord_lt t
  have e' : ∀ X : S6x8x128.Idx → EReal, ((cfg0.win 12).blk t).view.read (Elt Ideal) X (ix3 e 0 ⟨64 * h, by omega⟩) =
      X (ix3 ⟨2 * (grid0.coords t 0).val + e, by omega⟩ 0 ⟨64 * h, by omega⟩) := fun X => by
    blk_ext [idx12 t]
  exact (e' (V m c main_v98)).trans (H.s _ _)

/-- A grid point's blocks are the blocks of the data. -/
theorem point : Point A (grid0.coords t 0).val (grid0.coords t 1).val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) :=
  ⟨blk0 H t, blk1 H t, blk2 H t, blk3 H t, blk4 H t, blk5 H t, blk6 H t, blk7 H t, blk8 H t, blk9 H t, blk10 H t, blk11 H t, blk12 H t⟩

end

end Cert.Attn
-- ==== Proof.Results.lean ====
/- The arrays the kernel leaves: the gradients, when the arrays it finds are the data: block by block to whole arrays. -/
module

public import proofs.«01_k».proof.Proof.Arrays
public import Idealize.ShloMosaic.Lib.Pipeline.ValueKit.Point

@[expose] public section

set_option maxRecDepth 16384
set_option maxHeartbeats 2000000

noncomputable section

namespace Cert.Attn

open Cert.KernelIdeal Cert.KernelIdeal.Gen Idealize.ShloMosaic Idealize.ShloMosaic.TcCoe

section
variable {m : (ℓ : Loc nD τ sig) → Buf (Elt Ideal) ℓ} {c : Dev nD} {A : Data} (H : Entry m c A)
include H

/-- The array of the queries' gradient. -/
theorem arr13 : ((dats m 0 c).arrAt 13 cfg0.N : S8192x768.Idx → EReal) = fun y => ((A.dq (y 0) (y 1) : ℝ) : EReal) := by
  refine (dats m 0 c).arrAt_eq_of_covers 13 _ (by decide +kernel) fun t hf y => ?_
  have e : (dats m 0 c).after 13 t = blockOf A.dq (grid0.coords t 1).val (grid0.coords t 0).val :=
    (after0_13 m c t).trans (out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (point H t) (coord_lt t).2)
  rw [e]
  blk_simp [idx13 t, blockOf]
  rw [Nat.mul_comm 512, Nat.mul_comm 256]

/-- The array of the keys' gradient. -/
theorem arr14 : ((dats m 0 c).arrAt 14 cfg0.N : S8192x768.Idx → EReal) = fun y => ((A.dk (y 0) (y 1) : ℝ) : EReal) := by
  refine (dats m 0 c).arrAt_eq_of_covers 14 _ (by decide +kernel) fun t hf y => ?_
  have e : (dats m 0 c).after 14 t = blockOf A.dk (grid0.coords t 1).val (grid0.coords t 0).val :=
    (after0_14 m c t).trans (out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (point H t) (coord_lt t).2)
  rw [e]
  blk_simp [idx14 t, blockOf]
  rw [Nat.mul_comm 512, Nat.mul_comm 256]

/-- The array of the values' gradient. -/
theorem arr15 : ((dats m 0 c).arrAt 15 cfg0.N : S8192x768.Idx → EReal) = fun y => ((A.dv (y 0) (y 1) : ℝ) : EReal) := by
  refine (dats m 0 c).arrAt_eq_of_covers 15 _ (by decide +kernel) fun t hf y => ?_
  have e : (dats m 0 c).after 15 t = blockOf A.dv (grid0.coords t 1).val (grid0.coords t 0).val :=
    (after0_15 m c t).trans (out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (point H t) (coord_lt t).2)
  rw [e]
  blk_simp [idx15 t, blockOf]
  rw [Nat.mul_comm 512, Nat.mul_comm 256]

end

end Cert.Attn
-- ==== Proof.Reals.lean ====
/- The softmax of the windowed attention and its gradient as real numbers, as the reference computes them, and
   why they are the numbers of `Spec`. -/
module

public import proofs.«01_k».proof.Proof.Spec

@[expose] public section

noncomputable section

namespace Cert.Attn

/-- Row `j` of the 256 keys (or values) of block `b`, head `h`: zeros in place of the block before the first. -/
def seen (f : ℕ → ℕ → ℝ) (b h j d : ℕ) : ℝ :=
  if j < 128 ∧ b = 0 then 0 else f (128 * b + j - 128) (64 * h + d)

/-- The keys query `i` of block `b` sees. -/
def window (b i : ℕ) : Finset ℕ := (Finset.range 256).filter fun j => Near (decide (0 < b)) i j

/-- Every row sees a key: its own. -/
theorem window_nonempty {b i : ℕ} (hi : i < 128) : (window b i).Nonempty :=
  ⟨128, Finset.mem_filter.2 ⟨Finset.mem_range.2 (by omega), by omega, by omega, .inl le_rfl⟩⟩

/-- The keys a row sees are those near it. -/
theorem mem_window {b i j : ℕ} (hj : j < 256) : j ∈ window b i ↔ Near (decide (0 < b)) i j := by
  simp [window, hj]

namespace Data

variable (A : Data)

/-- The score of query `i` of block `b` against key `j` in head `h`, with the bias. -/
def score (b h i j : ℕ) : ℝ :=
  (∑ d ∈ Finset.range 64, A.q (128 * b + i) (64 * h + d) * seen A.k b h j d) * (1 / 8) + -A.s h * (128 + i - j)

/-- The greatest score of query `i` among the keys it sees. -/
def top (b h i : ℕ) : ℝ :=
  if H : (window b i).Nonempty then (window b i).sup' H (A.score b h i) else 0

/-- The softmax's numerator. -/
def num (b h i j : ℕ) : ℝ := if Near (decide (0 < b)) i j then Real.exp (A.score b h i j - A.top b h i) else 0

/-- The softmax's denominator. -/
def den (b h i : ℕ) : ℝ := ∑ j ∈ Finset.range 256, A.num b h i j

/-- The output before the division by the denominator. -/
def out (b h i d : ℕ) : ℝ := ∑ j ∈ Finset.range 256, seen A.v b h j d * A.num b h i j

/-- Column `d` of the cotangent's row. -/
def cot (b h i d : ℕ) : ℝ := A.o (128 * b + i) (64 * h + d)

/-- The cotangent of the scores, before the mask. -/
def ds (b h i j : ℕ) : ℝ :=
  ((∑ d ∈ Finset.range 64, A.cot b h i d / A.den b h i * seen A.v b h j d)
    + -(∑ d ∈ Finset.range 64, A.cot b h i d * (1 / (A.den b h i * A.den b h i)) * A.out b h i d)) * A.num b h i j

/-- `L` and `D` are what the forward pass computes: the maximum plus the logarithm of the denominator, and the
    cotangent times the output, summed over the head. -/
structure Fits : Prop where
  L : ∀ b e h i, h < 2 → i < 128 → A.L (128 * b + i) (128 * e + 64 * h) = A.top b (2 * e + h) i + Real.log (A.den b (2 * e + h) i)
  D : ∀ b e h i, h < 2 → i < 128 → A.D (128 * b + i) (128 * e + 64 * h)
    = ∑ d ∈ Finset.range 64, A.cot b (2 * e + h) i d * (A.out b (2 * e + h) i d / A.den b (2 * e + h) i)

/-- No score of a seen key is above the maximum. -/
theorem le_top {b h i j : ℕ} (hj : j < 256) (H : Near (decide (0 < b)) i j) : A.score b h i j ≤ A.top b h i := by
  have hm := (mem_window hj).2 H
  rw [top, dif_pos ⟨j, hm⟩]
  exact Finset.le_sup' (A.score b h i) hm

/-- Some seen key has the maximum. -/
theorem top_mem {b h i : ℕ} (hi : i < 128) :
    ∃ j, j < 256 ∧ Near (decide (0 < b)) i j ∧ A.score b h i j = A.top b h i := by
  obtain ⟨j, hj, e⟩ := Finset.exists_mem_eq_sup' (window_nonempty (b := b) hi) (A.score b h i)
  have hj' := hj
  simp only [window, Finset.mem_filter, Finset.mem_range] at hj'
  exact ⟨j, hj'.1, hj'.2, by rw [top, dif_pos (window_nonempty hi), e]⟩

/-- A numerator is not negative. -/
theorem num_nonneg (b h i j : ℕ) : 0 ≤ A.num b h i j := by
  unfold num; split
  · exact (Real.exp_pos _).le
  · exact le_rfl

/-- A denominator is positive. -/
theorem den_pos {b h i : ℕ} (hi : i < 128) : 0 < A.den b h i := by
  refine Finset.sum_pos' (fun j _ => A.num_nonneg b h i j) ?_
  obtain ⟨j, hj, hn, -⟩ := A.top_mem (b := b) (h := h) hi
  exact ⟨j, Finset.mem_range.2 hj, by rw [num, if_pos hn]; exact Real.exp_pos _⟩

/-- The cotangents of a query's scores sum to zero. -/
theorem sum_ds {b h i : ℕ} (hi : i < 128) : ∑ j ∈ Finset.range 256, A.ds b h i j = 0 := by
  have hd := (A.den_pos (b := b) (h := h) hi).ne'
  have e1 : ∑ j ∈ Finset.range 256,
      (∑ d ∈ Finset.range 64, A.cot b h i d / A.den b h i * seen A.v b h j d) * A.num b h i j
      = ∑ d ∈ Finset.range 64, A.cot b h i d / A.den b h i * A.out b h i d := by
    simp only [out, Finset.sum_mul, Finset.mul_sum]
    rw [Finset.sum_comm]
    exact Finset.sum_congr rfl fun d _ => Finset.sum_congr rfl fun j _ => by ring
  simp only [ds, add_mul, Finset.sum_add_distrib]
  rw [e1, ← Finset.mul_sum, ← den, neg_mul, Finset.sum_mul, ← sub_eq_add_neg, ← Finset.sum_sub_distrib]
  refine Finset.sum_eq_zero fun d _ => ?_
  field_simp
  ring

/-- Where the key exists, the window of an array is the array. -/
theorem seen_eq {b e h j d : ℕ} (f : ℕ → ℕ → ℝ) (hj : j < 256) (H : b ≠ 0 ∨ 128 ≤ j) :
    seen f b (2 * e + h) j d = keys f b e j (64 * h + d) := by
  rw [seen, if_neg (by omega), keys, krow]
  split
  · congr 1 <;> omega
  · congr 1 <;> omega

/-- A key near the row exists. -/
theorem near_seen {b i j : ℕ} (H : Near (decide (0 < b)) i j) : b ≠ 0 ∨ 128 ≤ j := by
  obtain ⟨-, -, h | h⟩ := H
  · exact .inr h
  · simp only [decide_eq_true_eq] at h; exact .inl (by omega)

/-- The score of a seen key, from rows of the whole arrays. -/
theorem score_eq {b e h i j : ℕ} (hj : j < 256) (H : Near (decide (0 < b)) i j) :
    scoreR (rows A.q b e) (keys A.k b e) (fun h => A.s (2 * e + h)) h i j = A.score b (2 * e + h) i j := by
  unfold scoreR score
  rw [Finset.sum_mul, neg_mul, ← sub_eq_add_neg]
  congr 1
  refine Finset.sum_congr rfl fun d _ => ?_
  rw [seen_eq A.k hj (near_seen H), rows, show 128 * e + (64 * h + d) = 64 * (2 * e + h) + d by ring]
  ring

variable {A}

/-- The probability is the numerator over the denominator. -/
theorem P_eq (F : A.Fits) {b e h i j : ℕ} (hh : h < 2) (hi : i < 128) (hj : j < 256) :
    A.P b e h i j = A.num b (2 * e + h) i j / A.den b (2 * e + h) i := by
  unfold P probR num
  split
  · rename_i H
    rw [A.score_eq hj H, rows, F.L b e h i hh hi, ← sub_sub, Real.exp_sub, Real.exp_log (A.den_pos hi)]
  · rw [zero_div]

/-- The cotangent of a score is the one of `Spec`. -/
theorem S_eq (F : A.Fits) {b e h i j : ℕ} (hh : h < 2) (hi : i < 128) (hj : j < 256) :
    A.S b e h i j = A.ds b (2 * e + h) i j := by
  have hd := (A.den_pos (b := b) (h := 2 * e + h) hi).ne'
  have hP : probR (rows A.q b e) (keys A.k b e) (rows A.L b e) (fun h => A.s (2 * e + h)) (decide (0 < b)) h i j
      = A.num b (2 * e + h) i j / A.den b (2 * e + h) i := P_eq F hh hi hj
  unfold S dsR ds
  rw [hP]
  by_cases H : Near (decide (0 < b)) i j
  · have eD : rows A.D b e i (64 * h) = ∑ d ∈ Finset.range 64, A.cot b (2 * e + h) i d
        * (A.out b (2 * e + h) i d / A.den b (2 * e + h) i) := F.D b e h i hh hi
    have e1 : ∑ d ∈ Finset.range 64, rows A.o b e i (64 * h + d) * keys A.v b e j (64 * h + d)
        = (∑ d ∈ Finset.range 64, A.cot b (2 * e + h) i d / A.den b (2 * e + h) i * seen A.v b (2 * e + h) j d)
          * A.den b (2 * e + h) i := by
      rw [Finset.sum_mul]
      refine Finset.sum_congr rfl fun d _ => ?_
      rw [seen_eq A.v hj (near_seen H), cot, rows, show 128 * e + (64 * h + d) = 64 * (2 * e + h) + d by ring]
      field_simp
    have e2 : ∑ d ∈ Finset.range 64, A.cot b (2 * e + h) i d * (A.out b (2 * e + h) i d / A.den b (2 * e + h) i)
        = (∑ d ∈ Finset.range 64, A.cot b (2 * e + h) i d * (1 / (A.den b (2 * e + h) i * A.den b (2 * e + h) i))
          * A.out b (2 * e + h) i d) * A.den b (2 * e + h) i := by
      rw [Finset.sum_mul]
      refine Finset.sum_congr rfl fun d _ => ?_
      field_simp
    rw [eD, e1, e2, ← sub_mul, ← sub_eq_add_neg]
    field_simp
  · rw [num, if_neg H, zero_div, zero_mul, mul_zero]

/-- A key not seen has probability zero. -/
theorem S_unseen {b e h i j : ℕ} (H : ¬Near (decide (0 < b)) i j) : A.S b e h i j = 0 := by
  unfold S dsR probR
  rw [if_neg H, zero_mul]

/-- The gradient of a query, from the scores' cotangents. -/
theorem dq_eq (F : A.Fits) {b h i d : ℕ} (hi : i < 128) (hd : d < 64) :
    ∑ j ∈ Finset.range 256, A.ds b h i j * (1 / 8) * seen A.k b h j d = A.dq (128 * b + i) (64 * h + d) := by
  obtain ⟨e, g, hg, rfl⟩ : ∃ e g, g < 2 ∧ h = 2 * e + g := ⟨h / 2, h % 2, by omega, by omega⟩
  unfold dq dqT
  rw [show (128 * b + i) / 128 = b by omega, show (128 * b + i) % 128 = i by omega,
    show (64 * (2 * e + g) + d) / 128 = e by omega, show (64 * (2 * e + g) + d) % 128 = 64 * g + d by omega,
    show (64 * g + d) / 64 = g by omega, Finset.sum_mul]
  refine Finset.sum_congr rfl fun j hj => ?_
  have hj := Finset.mem_range.1 hj
  by_cases H : Near (decide (0 < b)) i j
  · rw [S_eq F hg hi hj, seen_eq A.k hj (near_seen H)]; ring
  · rw [S_unseen H, ds, num, if_neg H]; ring

/-- What the queries of block `b` add to the gradient of key `j`. -/
theorem dk_eq (F : A.Fits) {b e g j d : ℕ} (hg : g < 2) (hj : j < 256) (hd : d < 64) :
    ∑ i ∈ Finset.range 128, A.ds b (2 * e + g) i j * (1 / 8) * A.q (128 * b + i) (64 * (2 * e + g) + d)
      = A.dkT b e j (64 * g + d) := by
  unfold dkT
  refine Finset.sum_congr rfl fun i hi => ?_
  rw [show (64 * g + d) / 64 = g by omega, S_eq F hg (Finset.mem_range.1 hi) hj, rows,
    show 128 * e + (64 * g + d) = 64 * (2 * e + g) + d by ring]
  ring

/-- What the queries of block `b` add to the gradient of value `j`. -/
theorem dv_eq (F : A.Fits) {b e g j d : ℕ} (hg : g < 2) (hj : j < 256) (hd : d < 64) :
    ∑ i ∈ Finset.range 128, A.cot b (2 * e + g) i d / A.den b (2 * e + g) i * A.num b (2 * e + g) i j
      = A.dvT b e j (64 * g + d) := by
  unfold dvT
  refine Finset.sum_congr rfl fun i hi => ?_
  rw [show (64 * g + d) / 64 = g by omega, P_eq F hg (Finset.mem_range.1 hi) hj, rows, cot,
    show 128 * e + (64 * g + d) = 64 * (2 * e + g) + d by ring]
  ring

/-- The gradient of a key: from its own block's queries and from those of the next block. -/
theorem dk_at (F : A.Fits) {b h i d : ℕ} (hi : i < 128) (hd : d < 64) :
    (∑ t ∈ Finset.range 128, A.ds b h t (128 + i) * (1 / 8) * A.q (128 * b + t) (64 * h + d))
      + (if b < 63 then ∑ t ∈ Finset.range 128, A.ds (b + 1) h t i * (1 / 8) * A.q (128 * (b + 1) + t) (64 * h + d) else 0)
      = A.dk (128 * b + i) (64 * h + d) := by
  obtain ⟨e, g, hg, rfl⟩ : ∃ e g, g < 2 ∧ h = 2 * e + g := ⟨h / 2, h % 2, by omega, by omega⟩
  unfold dk dkB
  rw [show (128 * b + i) / 128 = b by omega, show (128 * b + i) % 128 = i by omega,
    show (64 * (2 * e + g) + d) / 128 = e by omega, show (64 * (2 * e + g) + d) % 128 = 64 * g + d by omega,
    dk_eq F hg (by omega) hd, dk_eq F hg (by omega) hd]

/-- The gradient of a value: from its own block's queries and from those of the next block. -/
theorem dv_at (F : A.Fits) {b h i d : ℕ} (hi : i < 128) (hd : d < 64) :
    (∑ t ∈ Finset.range 128, A.cot b h t d / A.den b h t * A.num b h t (128 + i))
      + (if b < 63 then ∑ t ∈ Finset.range 128, A.cot (b + 1) h t d / A.den (b + 1) h t * A.num (b + 1) h t i else 0)
      = A.dv (128 * b + i) (64 * h + d) := by
  obtain ⟨e, g, hg, rfl⟩ : ∃ e g, g < 2 ∧ h = 2 * e + g := ⟨h / 2, h % 2, by omega, by omega⟩
  unfold dv dvB
  rw [show (128 * b + i) / 128 = b by omega, show (128 * b + i) % 128 = i by omega,
    show (64 * (2 * e + g) + d) / 128 = e by omega, show (64 * (2 * e + g) + d) % 128 = 64 * g + d by omega,
    dv_eq F hg (by omega) hd, dv_eq F hg (by omega) hd]

end Data

end Cert.Attn
-- ==== Proof.Forward.lean ====
/- The reference's arrays, read at an index: on real data each holds the real number `Reals` names. -/
module

public import proofs.«01_k».proof.Proof.Reals
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Attn

open Cert.ReferenceIdeal Cert.ReferenceIdeal.Gen Cert.ReferenceIdeal.Value Idealize.ShloMosaic
  Idealize.ShloMosaic.TcCoe Idealize.ShloMosaic.StableHlo

/-! ## Reductions of rank-six arrays -/

section

variable {n0 n1 n2 n3 n4 n5 : ℕ}

/-- The host's sum over the last of six axes, at an index. -/
theorem sum_last (H : (⟨6, ![n0, n1, n2, n3, n4, n5]⟩ : Shape).ReducesTo [5] ⟨5, ![n0, n1, n2, n3, n4]⟩)
    (x : (⟨6, ![n0, n1, n2, n3, n4, n5]⟩ : Shape).Idx → EReal) (z : EReal) (a : Fin n0) (b : Fin n1) (c : Fin n2) (d : Fin n3)
    (e : Fin n4) : Ideal.hostReduceAdd H x z (ix5 a b c d e) = z + ∑ k : Fin n5, x (ix6 a b c d e k) := by
  have R : (⟨6, ![n0, n1, n2, n3, n4, n5]⟩ : Shape).Reduces [5] ⟨5, ![n0, n1, n2, n3, n4]⟩ := ⟨H.1, by show (0 : ℕ) < 5; norm_num, H.2⟩
  rw [Ideal.hostReduceAdd_single H R]
  congr 1
  refine Finset.sum_congr rfl fun k _ => congrArg x (funext fun t => Fin.ext ?_)
  match t with
  | ⟨0, _⟩ => rfl
  | ⟨1, _⟩ => rfl
  | ⟨2, _⟩ => rfl
  | ⟨3, _⟩ => rfl
  | ⟨4, _⟩ => rfl
  | ⟨5, _⟩ => rfl

/-- The host's maximum over the last of six axes, from −∞, at an index. -/
theorem max_last (H : (⟨6, ![n0, n1, n2, n3, n4, n5]⟩ : Shape).ReducesTo [5] ⟨5, ![n0, n1, n2, n3, n4]⟩)
    (x : FVec Ideal ⟨6, ![n0, n1, n2, n3, n4, n5]⟩ .f32) (hu : 0 < S_.numel) (a : Fin n0) (b : Fin n1) (c : Fin n2) (d : Fin n3)
    (e : Fin n4) : Host.reduce FloatOps.maximumf x (constant S_ .f32 0xFF800000#32) H hu (ix5 a b c d e)
      = Finset.univ.sup fun k : Fin n5 => (x (ix6 a b c d e k) : EReal) := by
  have R : (⟨6, ![n0, n1, n2, n3, n4, n5]⟩ : Shape).Reduces [5] ⟨5, ![n0, n1, n2, n3, n4]⟩ := ⟨H.1, by show (0 : ℕ) < 5; norm_num, H.2⟩
  have hb : Ideal.ofBits .f32 0xFF800000#32 = ⊥ := by simp [Ideal.ofBits, Ideal.ieee]
  rw [Host.reduce_eq_fold_single FloatOps.maximumf x _ H R hu]
  show Finset.fold max (Ideal.ofBits .f32 0xFF800000#32) _ _ = _
  rw [hb]
  show Finset.univ.sup _ = _
  refine Finset.sup_congr rfl fun k _ => congrArg x (funext fun t => Fin.ext ?_)
  match t with
  | ⟨0, _⟩ => rfl
  | ⟨1, _⟩ => rfl
  | ⟨2, _⟩ => rfl
  | ⟨3, _⟩ => rfl
  | ⟨4, _⟩ => rfl
  | ⟨5, _⟩ => rfl

/-- The host's sum over unit axes 0, 3, 5 only drops them. -/
theorem sum_035 (H : (⟨6, ![1, n1, n2, 1, n4, 1]⟩ : Shape).ReducesTo [0, 3, 5] ⟨3, ![n1, n2, n4]⟩)
    (x : (⟨6, ![1, n1, n2, 1, n4, 1]⟩ : Shape).Idx → EReal) (z : EReal) (b : Fin n1) (c : Fin n2) (e : Fin n4) :
    Ideal.hostReduceAdd H x z (ix3 b c e) = z + x (ix6 0 b c 0 e 0) := by
  unfold Ideal.hostReduceAdd
  congr 1
  refine (Finset.sum_congr ?_ fun _ _ => rfl).trans (Finset.sum_singleton x (ix6 0 b c 0 e 0))
  ext y
  simp only [Finset.mem_filter, Finset.mem_univ, true_and, Finset.mem_singleton]
  constructor
  · intro hy
    refine funext fun t => Fin.ext ?_
    match t with
    | ⟨0, _⟩ => exact Nat.lt_one_iff.1 (y 0).2
    | ⟨1, _⟩ => exact congrArg Fin.val (congrFun hy 0)
    | ⟨2, _⟩ => exact congrArg Fin.val (congrFun hy 1)
    | ⟨3, _⟩ => exact Nat.lt_one_iff.1 (y 3).2
    | ⟨4, _⟩ => exact congrArg Fin.val (congrFun hy 2)
    | ⟨5, _⟩ => exact Nat.lt_one_iff.1 (y 5).2
  · rintro rfl
    refine funext fun t => Fin.ext ?_
    match t with
    | ⟨0, _⟩ => rfl
    | ⟨1, _⟩ => rfl
    | ⟨2, _⟩ => rfl

/-- The host's sum over unit axes 0, 2, 5 only drops them. -/
theorem sum_025 (H : (⟨6, ![1, n1, 1, n3, n4, 1]⟩ : Shape).ReducesTo [0, 2, 5] ⟨3, ![n1, n3, n4]⟩)
    (x : (⟨6, ![1, n1, 1, n3, n4, 1]⟩ : Shape).Idx → EReal) (z : EReal) (b : Fin n1) (c : Fin n3) (e : Fin n4) :
    Ideal.hostReduceAdd H x z (ix3 b c e) = z + x (ix6 0 b 0 c e 0) := by
  unfold Ideal.hostReduceAdd
  congr 1
  refine (Finset.sum_congr ?_ fun _ _ => rfl).trans (Finset.sum_singleton x (ix6 0 b 0 c e 0))
  ext y
  simp only [Finset.mem_filter, Finset.mem_univ, true_and, Finset.mem_singleton]
  constructor
  · intro hy
    refine funext fun t => Fin.ext ?_
    match t with
    | ⟨0, _⟩ => exact Nat.lt_one_iff.1 (y 0).2
    | ⟨1, _⟩ => exact congrArg Fin.val (congrFun hy 0)
    | ⟨2, _⟩ => exact Nat.lt_one_iff.1 (y 2).2
    | ⟨3, _⟩ => exact congrArg Fin.val (congrFun hy 1)
    | ⟨4, _⟩ => exact congrArg Fin.val (congrFun hy 2)
    | ⟨5, _⟩ => exact Nat.lt_one_iff.1 (y 5).2
  · rintro rfl
    refine funext fun t => Fin.ext ?_
    match t with
    | ⟨0, _⟩ => rfl
    | ⟨1, _⟩ => rfl
    | ⟨2, _⟩ => rfl

end

/-- The quotient of real numbers. -/
theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- A sum of products of real numbers. -/
theorem dot_sum {n : ℕ} {X Y : Fin n → EReal} {f g : ℕ → ℝ} (hx : ∀ x, X x = ((f x : ℝ) : EReal))
    (hy : ∀ x, Y x = ((g x : ℝ) : EReal)) :
    ∑ x, X x * Y x = ((∑ x ∈ Finset.range n, f x * g x : ℝ) : EReal) := by
  rw [← sum_coe]
  exact Finset.sum_congr rfl fun x _ => by rw [hx, hy, ← EReal.coe_mul]

/-- The sum of the negatives of real numbers. -/
theorem neg_sum {n : ℕ} {X : Fin n → EReal} {f : ℕ → ℝ} (hx : ∀ x, X x = ((f x : ℝ) : EReal)) :
    ∑ x, -X x = ((-∑ x ∈ Finset.range n, f x : ℝ) : EReal) := by
  rw [← Finset.sum_neg_distrib, ← sum_coe]
  exact Finset.sum_congr rfl fun x _ => by rw [hx, ← EReal.coe_neg]

/-! ## The reference's arrays -/

/-- The arguments hold the real numbers of `A`. -/
structure Given (V0 : Valuation τ sig (Elt Ideal)) (A : Data) : Prop where
  q : ∀ (r : Fin 8192) (l : Fin 2560), l.val < 768 →
    (V0 (Proc.devRef .tc main_arg0) : S8192x2560.Idx → EReal) (ix2 r l) = ((A.q r l : ℝ) : EReal)
  k : ∀ (r : Fin 8192) (l : Fin 2560), 768 ≤ l.val → l.val < 1536 →
    (V0 (Proc.devRef .tc main_arg0) : S8192x2560.Idx → EReal) (ix2 r l) = ((A.k r (l - 768) : ℝ) : EReal)
  v : ∀ (r : Fin 8192) (l : Fin 2560), 1536 ≤ l.val → l.val < 2304 →
    (V0 (Proc.devRef .tc main_arg0) : S8192x2560.Idx → EReal) (ix2 r l) = ((A.v r (l - 1536) : ℝ) : EReal)
  o : ∀ (r : Fin 8192) (l : Fin 768),
    (V0 (Proc.devRef .tc main_arg2) : S8192x768.Idx → EReal) (ix2 r l) = ((A.o r l : ℝ) : EReal)
  s : ∀ h : Fin 12, (V0 (Proc.devRef .tc main_arg1) : S12.Idx → EReal) (ix1 h) = ((A.s h : ℝ) : EReal)

section

variable {V0 : Valuation τ sig (Elt Ideal)} {A : Data} (H : Given V0 A)
  (b : Fin 64) (i : Fin 128) (j : Fin 256) (h : Fin 12) (d : Fin 64)
include H

/-- The blocks of q hold the data's q. -/
theorem v12_is : (res_main_v12 V0 : S1x64x128x1x12x64.Idx → EReal) (ix6 0 b i 0 h d)
    = ((A.q (128 * b + i) (64 * h + d) : ℝ) : EReal) := by
  unfold res_main_v12
  clean_types
  pointwise
  rw [dif_pos (by omega)]
  refine (H.q ⟨b * 128 + i, by omega⟩ ⟨h * 64 + d, by omega⟩ (by show (h : ℕ) * 64 + d < 768; omega)).trans ?_
  show ((A.q (b * 128 + i) (h * 64 + d) : ℝ) : EReal) = _
  rw [Nat.mul_comm (b : ℕ), Nat.mul_comm (h : ℕ)]

/-- The blocks of k hold the data's k. -/
theorem v13_is : (res_main_v13 V0 : S1x64x128x1x12x64.Idx → EReal) (ix6 0 b i 0 h d)
    = ((A.k (128 * b + i) (64 * h + d) : ℝ) : EReal) := by
  unfold res_main_v13
  clean_types
  pointwise
  rw [dif_pos (by omega)]
  refine (H.k ⟨b * 128 + i, by omega⟩ ⟨768 + (h * 64 + d), by omega⟩ (Nat.le_add_right _ _)
    (by show 768 + ((h : ℕ) * 64 + d) < 1536; omega)).trans ?_
  show ((A.k (b * 128 + i) (768 + (h * 64 + d) - 768) : ℝ) : EReal) = _
  rw [Nat.mul_comm (b : ℕ), Nat.mul_comm (h : ℕ), Nat.add_sub_cancel_left]

/-- The blocks of v hold the data's v. -/
theorem v14_is : (res_main_v14 V0 : S1x64x128x1x12x64.Idx → EReal) (ix6 0 b i 0 h d)
    = ((A.v (128 * b + i) (64 * h + d) : ℝ) : EReal) := by
  unfold res_main_v14
  clean_types
  pointwise
  rw [dif_pos (by omega)]
  refine (H.v ⟨b * 128 + i, by omega⟩ ⟨1536 + (h * 64 + d), by omega⟩ (Nat.le_add_right _ _)
    (by show 1536 + ((h : ℕ) * 64 + d) < 2304; omega)).trans ?_
  show ((A.v (b * 128 + i) (1536 + (h * 64 + d) - 1536) : ℝ) : EReal) = _
  rw [Nat.mul_comm (b : ℕ), Nat.mul_comm (h : ℕ), Nat.add_sub_cancel_left]

/-- The windows of k: the block before (zeros before the first) and the block. -/
theorem v20_is : (res_main_v20 V0 : S1x64x256x1x12x64.Idx → EReal) (ix6 0 b j 0 h d)
    = ((seen A.k b h j d : ℝ) : EReal) := by
  unfold res_main_v20
  clean_types
  pointwise
  by_cases c : (j : ℕ) < 128
  · refine (dif_pos c).trans ?_
    by_cases c' : (b : ℕ) < 1
    · refine (dif_pos c').trans ?_
      rw [seen, if_pos ⟨c, by omega⟩]; rfl
    · refine (dif_neg c').trans ((v13_is H ⟨b - 1, by omega⟩ ⟨j, c⟩ h d).trans ?_)
      rw [seen, if_neg (by omega)]
      show ((A.k (128 * (b - 1) + j) _ : ℝ) : EReal) = _
      rw [show 128 * ((b : ℕ) - 1) + j = 128 * b + j - 128 by omega]
  · refine (dif_neg c).trans ((v13_is H b ⟨j - 128, by omega⟩ h d).trans ?_)
    rw [seen, if_neg (by omega)]
    show ((A.k (128 * b + (j - 128)) _ : ℝ) : EReal) = _
    rw [show 128 * (b : ℕ) + (j - 128) = 128 * b + j - 128 by omega]

/-- The windows of v, likewise. -/
theorem v26_is : (res_main_v26 V0 : S1x64x256x1x12x64.Idx → EReal) (ix6 0 b j 0 h d)
    = ((seen A.v b h j d : ℝ) : EReal) := by
  unfold res_main_v26
  clean_types
  pointwise
  by_cases c : (j : ℕ) < 128
  · refine (dif_pos c).trans ?_
    by_cases c' : (b : ℕ) < 1
    · refine (dif_pos c').trans ?_
      rw [seen, if_pos ⟨c, by omega⟩]; rfl
    · refine (dif_neg c').trans ((v14_is H ⟨b - 1, by omega⟩ ⟨j, c⟩ h d).trans ?_)
      rw [seen, if_neg (by omega)]
      show ((A.v (128 * (b - 1) + j) _ : ℝ) : EReal) = _
      rw [show 128 * ((b : ℕ) - 1) + j = 128 * b + j - 128 by omega]
  · refine (dif_neg c).trans ((v14_is H b ⟨j - 128, by omega⟩ h d).trans ?_)
    rw [seen, if_neg (by omega)]
    show ((A.v (128 * b + (j - 128)) _ : ℝ) : EReal) = _
    rw [show 128 * (b : ℕ) + (j - 128) = 128 * b + j - 128 by omega]

omit H in
/-- The mask: whether the query sees the key. -/
theorem v71_1_is : (res_main_v71_1 V0 : S1x64x1x12x128x256.Idx → BitVec 1) (ix6 0 b 0 h i j)
    = BitVec.ofBool (decide (Near (decide (0 < (b : ℕ))) i j)) := by
  have hd := dist_toInt i j i.2 j.2
  have hb : (BitVec.ofNat 32 (b : ℕ)).toInt = b := by
    rw [BitVec.toInt_eq_toNat_of_lt] <;> simp <;> omega
  have hj : (BitVec.ofNat 32 (j : ℕ)).toInt = j := by
    rw [BitVec.toInt_eq_toNat_of_lt] <;> simp <;> omega
  unfold res_main_v71_1 res_main_v38 res_main_v33
  clean_types
  pointwise
  simp only [IntOp.cmpi, WordArith.andi_ofBool, WordArith.ori_ofBool, IntOp.subi, IntOp.addi]
  congr 1
  rw [Bool.eq_iff_iff, decide_eq_true_iff]
  unfold Near
  simp only [Bool.and_eq_true, Bool.or_eq_true, decide_eq_true_eq, BitVec.sle_iff_toInt_le, BitVec.slt_iff_toInt_lt, hd, hb, hj,
    show (0#32).toInt = 0 from rfl, show (128#32).toInt = 128 from rfl]
  constructor
  · rintro ⟨⟨a, b⟩, c⟩
    exact ⟨by omega, by omega, c.symm.imp (by omega) (by omega)⟩
  · rintro ⟨a, b, c⟩
    exact ⟨⟨by omega, by omega⟩, c.symm.imp (by omega) (by omega)⟩

/-- The masked scores: −∞ where the query does not see the key. -/
theorem v71_0_is : (res_main_v71_0 V0 : S1x64x1x12x128x256.Idx → EReal) (ix6 0 b 0 h i j)
    = if Near (decide (0 < (b : ℕ))) i j then ((A.score b h i j : ℝ) : EReal) else ⊥ := by
  unfold res_main_v71_0 res_main_v38 res_main_v33
  clean_types
  pointwise
  rw [v71_1_is]
  have e := dot_sum (f := fun d => A.q (128 * b + i) (64 * h + d)) (g := fun d => seen A.k b h j d)
    (fun x => v12_is H b i h x) (fun x => v20_is H b j h x)
  rw [e, H.s, eighth_f32, dist_real (IntOp.subi (IntOp.addi (128#32) (BitVec.ofNat 32 i)) (BitVec.ofNat 32 j)) i j (dist_toInt i j i.2 j.2)]
  by_cases c : Near (decide (0 < (b : ℕ))) i j
  · simp only [c, decide_true, if_true]
    show (((_ : ℝ) : EReal) * ((1 / 8 : ℝ) : EReal) + -((A.s h : ℝ) : EReal) * ((_ : ℝ) : EReal)) = _
    rw [← EReal.coe_neg, ← EReal.coe_mul, ← EReal.coe_mul, ← EReal.coe_add]
    rfl
  · simp only [c, decide_false, if_false]
    show Ideal.ofBits .f32 0xFF800000#32 = ⊥
    simp [Ideal.ofBits, Ideal.ieee]

/-- The row maximum. -/
theorem v72_is : (res_main_v72 V0 : S1x64x1x12x128.Idx → EReal) (ix5 0 b 0 h i) = ((A.top b h i : ℝ) : EReal) := by
  unfold res_main_v72
  refine (max_last _ _ _ 0 b 0 h i).trans (le_antisymm (Finset.sup_le fun k _ => ?_) ?_)
  · rw [v71_0_is H]
    split
    · rename_i c
      exact EReal.coe_le_coe_iff.2 (A.le_top k.2 c)
    · exact bot_le
  · obtain ⟨t, ht, hn, e⟩ := A.top_mem (b := b) (h := h) i.2
    refine le_trans ?_ (Finset.le_sup (Finset.mem_univ (⟨t, ht⟩ : Fin 256)))
    rw [v71_0_is H, if_pos hn, e]

/-- Where the row maximum is attained, as 0 or 1. -/
theorem v76_is : (res_main_v76 V0 : S1x64x1x12x128x256.Idx → EReal) (ix6 0 b 0 h i j)
    = (((if Near (decide (0 < (b : ℕ))) i j ∧ A.score b h i j = A.top b h i then 1 else 0 : ℝ)) : EReal) := by
  unfold res_main_v76
  clean_types
  pointwise
  rw [v71_0_is H, v72_is H]
  by_cases c : Near (decide (0 < (b : ℕ))) i j
  · by_cases c' : A.score b h i j = A.top b h i
    · simp only [c, c', and_self, if_true, decide_true]
      show (((1#1).toNat : ℝ) : EReal) = _
      norm_num
    · simp only [c, c', and_false, if_true, if_false, EReal.coe_eq_coe_iff, decide_false]
      show (((0#1).toNat : ℝ) : EReal) = _
      norm_num
  · have : (⊥ : EReal) ≠ ((A.top b h i : ℝ) : EReal) := EReal.bot_ne_coe _
    simp only [c, false_and, if_false, this, decide_false]
    show (((0#1).toNat : ℝ) : EReal) = _
    norm_num

/-- The softmax's numerators. -/
theorem v81_is : (res_main_v81 V0 : S1x64x1x12x128x256.Idx → EReal) (ix6 0 b 0 h i j)
    = ((A.num b h i j : ℝ) : EReal) := by
  unfold res_main_v81 res_main_v78
  clean_types
  pointwise
  rw [v71_0_is H, v72_is H]
  unfold Data.num
  split
  · rw [← EReal.coe_sub]; rfl
  · rw [EReal.bot_sub]; rfl

/-- The softmax's denominator. -/
theorem v88_is : (res_main_v88 V0 : S1x64x128x1x12x1.Idx → EReal) (ix6 0 b i 0 h 0)
    = ((A.den b h i : ℝ) : EReal) := by
  unfold res_main_v88 res_main_v85
  clean_types
  pointwise
  refine (sum_last _ _ _ 0 b 0 h i).trans ?_
  rw [zero_add, Data.den, ← sum_coe]
  exact Finset.sum_congr rfl fun x _ => v81_is H b i x h

/-- The output before the division. -/
theorem v84_is : (res_main_v84 V0 : S1x64x128x1x12x64.Idx → EReal) (ix6 0 b i 0 h d)
    = ((A.out b h i d : ℝ) : EReal) := by
  unfold res_main_v84
  clean_types
  pointwise
  rw [Data.out, ← sum_coe]
  exact Finset.sum_congr rfl fun x _ => by rw [v26_is H, v81_is H, ← EReal.coe_mul]

/-- The cotangent's rows. -/
theorem v98_is : (res_main_v98 V0 : S1x64x128x1x12x64.Idx → EReal) (ix6 0 b i 0 h d)
    = ((A.cot b h i d : ℝ) : EReal) := by
  unfold res_main_v98
  clean_types
  pointwise
  refine (H.o ⟨b * 128 + i, by omega⟩ ⟨h * 64 + d, by omega⟩).trans ?_
  show ((A.o (b * 128 + i) (h * 64 + d) : ℝ) : EReal) = _
  rw [Nat.mul_comm (b : ℕ), Nat.mul_comm (h : ℕ)]
  rfl

/-- The cotangent over the denominator. -/
theorem v110_is : (res_main_v110 V0 : S1x64x1x12x64x128.Idx → EReal) (ix6 0 b 0 h d i)
    = ((A.cot b h i d / A.den b h i : ℝ) : EReal) := by
  unfold res_main_v110
  clean_types
  pointwise
  rw [v98_is H, v88_is H, div_coe _ _ (A.den_pos i.2).ne']

/-- What a block's queries add to the gradient of their values. -/
theorem v113_is : (res_main_v113 V0 : S1x64x256x1x12x64.Idx → EReal) (ix6 0 b j 0 h d)
    = ((∑ i ∈ Finset.range 128, A.cot b h i d / A.den b h i * A.num b h i j : ℝ) : EReal) := by
  unfold res_main_v113
  clean_types
  pointwise
  rw [← sum_coe]
  exact Finset.sum_congr rfl fun x _ => by rw [v110_is H, v81_is H, ← EReal.coe_mul]

end

end Cert.Attn
-- ==== Proof.Lines.lean ====
/- The forward pass as plain functions of the arguments: what the host lines of the kernel and of the reference share. -/
module

public import proofs.«01_k».proof.Proof.Forward

@[expose] public section

set_option maxRecDepth 16384

noncomputable section

namespace Cert.Attn

open Cert.ReferenceIdeal Cert.ReferenceIdeal.Gen Cert.ReferenceIdeal.Value Idealize.ShloMosaic
  Idealize.ShloMosaic.TcCoe Idealize.ShloMosaic.StableHlo

/-- The blocks of q. -/
def lineQ (x0 : FVec Ideal S8192x2560 .bf16) : FVec Ideal S1x64x128x1x12x64 .f32 :=
  shapeCast S1x64x128x1x12x64 (pad S1x8192x12x64 ![0, 0, 0, 0] ![0, 0, 0, 0] ![0, 0, 0, 0] (shapeCast S1x8192x12x64 (extf
    .f32 (extractStridedSlice S8192x768 ![0, 0] x0 slices_S8192x2560_S8192x768_0_0) bitsLt_bf16_f32)
    shapeCasts_S8192x768_S1x8192x12x64) (sitofp .f32 (constantI S_ 32 0#32)) pads_S1x8192x12x64_S1x8192x12x64_000_000_000_000
    h_S_) shapeCasts_S1x8192x12x64_S1x64x128x1x12x64

/-- The reference computes these blocks of q. -/
theorem lineQ_eq (V0 : Valuation τ sig (Elt Ideal)) : @Eq (S1x64x128x1x12x64.Idx → EReal) (res_main_v12 V0) (lineQ (V0 (Proc.devRef .tc main_arg0))) := rfl

/-- The blocks of k. -/
def lineK (x0 : FVec Ideal S8192x2560 .bf16) : FVec Ideal S1x64x128x1x12x64 .f32 :=
  shapeCast S1x64x128x1x12x64 (pad S1x8192x12x64 ![0, 0, 0, 0] ![0, 0, 0, 0] ![0, 0, 0, 0] (shapeCast S1x8192x12x64 (extf
    .f32 (extractStridedSlice S8192x768 ![0, 768] x0 slices_S8192x2560_S8192x768_0_768) bitsLt_bf16_f32)
    shapeCasts_S8192x768_S1x8192x12x64) (sitofp .f32 (constantI S_ 32 0#32)) pads_S1x8192x12x64_S1x8192x12x64_000_000_000_000
    h_S_) shapeCasts_S1x8192x12x64_S1x64x128x1x12x64

/-- The reference computes these blocks of k. -/
theorem lineK_eq (V0 : Valuation τ sig (Elt Ideal)) : @Eq (S1x64x128x1x12x64.Idx → EReal) (res_main_v13 V0) (lineK (V0 (Proc.devRef .tc main_arg0))) := rfl

/-- The blocks of v. -/
def lineV (x0 : FVec Ideal S8192x2560 .bf16) : FVec Ideal S1x64x128x1x12x64 .f32 :=
  shapeCast S1x64x128x1x12x64 (pad S1x8192x12x64 ![0, 0, 0, 0] ![0, 0, 0, 0] ![0, 0, 0, 0] (shapeCast S1x8192x12x64 (extf
    .f32 (extractStridedSlice S8192x768 ![0, 1536] x0 slices_S8192x2560_S8192x768_0_1536) bitsLt_bf16_f32)
    shapeCasts_S8192x768_S1x8192x12x64) (sitofp .f32 (constantI S_ 32 0#32)) pads_S1x8192x12x64_S1x8192x12x64_000_000_000_000
    h_S_) shapeCasts_S1x8192x12x64_S1x64x128x1x12x64

/-- The reference computes these blocks of v. -/
theorem lineV_eq (V0 : Valuation τ sig (Elt Ideal)) : @Eq (S1x64x128x1x12x64.Idx → EReal) (res_main_v14 V0) (lineV (V0 (Proc.devRef .tc main_arg0))) := rfl

/-- The keys a block sees. -/
def lineKK (x0 : FVec Ideal S8192x2560 .bf16) : FVec Ideal S1x64x256x1x12x64 .f32 :=
  concatenate S1x64x256x1x12x64 2 [⟨S1x64x128x1x12x64, (concatenate S1x64x128x1x12x64 1 [⟨S1x1x128x1x12x64, (broadcastInDim
    S1x1x128x1x12x64 ![] bcast_S_S1x1x128x1x12x64 (constant S_ .f32 0x00000000#32))⟩, ⟨S1x63x128x1x12x64,
    (extractStridedSlice S1x63x128x1x12x64 ![0, 0, 0, 0, 0, 0] (lineK x0)
    slices_S1x64x128x1x12x64_S1x63x128x1x12x64_0_0_0_0_0_0)⟩]
    concatenates_S1x1x128x1x12x64_S1x63x128x1x12x64_S1x64x128x1x12x64_d1)⟩, ⟨S1x64x128x1x12x64, (lineK x0)⟩]
    concatenates_S1x64x128x1x12x64_S1x64x128x1x12x64_S1x64x256x1x12x64_d2

/-- The reference computes these windows of k. -/
theorem lineKK_eq (V0 : Valuation τ sig (Elt Ideal)) : @Eq (S1x64x256x1x12x64.Idx → EReal) (res_main_v20 V0) (lineKK (V0 (Proc.devRef .tc main_arg0))) := rfl

/-- The values a block sees. -/
def lineVV (x0 : FVec Ideal S8192x2560 .bf16) : FVec Ideal S1x64x256x1x12x64 .f32 :=
  concatenate S1x64x256x1x12x64 2 [⟨S1x64x128x1x12x64, (concatenate S1x64x128x1x12x64 1 [⟨S1x1x128x1x12x64, (broadcastInDim
    S1x1x128x1x12x64 ![] bcast_S_S1x1x128x1x12x64 (constant S_ .f32 0x00000000#32))⟩, ⟨S1x63x128x1x12x64,
    (extractStridedSlice S1x63x128x1x12x64 ![0, 0, 0, 0, 0, 0] (lineV x0)
    slices_S1x64x128x1x12x64_S1x63x128x1x12x64_0_0_0_0_0_0)⟩]
    concatenates_S1x1x128x1x12x64_S1x63x128x1x12x64_S1x64x128x1x12x64_d1)⟩, ⟨S1x64x128x1x12x64, (lineV x0)⟩]
    concatenates_S1x64x128x1x12x64_S1x64x128x1x12x64_S1x64x256x1x12x64_d2

/-- The reference computes these windows of v. -/
theorem lineVV_eq (V0 : Valuation τ sig (Elt Ideal)) : @Eq (S1x64x256x1x12x64.Idx → EReal) (res_main_v26 V0) (lineVV (V0 (Proc.devRef .tc main_arg0))) := rfl

/-- The pairs of a query and a key in its window. -/
def lineB : IVec S1x64x1x1x128x256 1 :=
  broadcastInDim S1x64x1x1x128x256 ![1, 4, 5] bcast_S64x128x256_S1x64x1x1x128x256_1_4_5 (andi (broadcastInDim S64x128x256
    ![0, 1, 2] bcast_S1x128x256_S64x128x256_0_1_2 (broadcastInDim S1x128x256 ![1, 2] bcast_S128x256_S1x128x256_1_2 (andi
    (cmpi .sge (subi (broadcastInDim S128x256 ![0, 1] bcast_S128x1_S128x256_0_1 (addi (broadcastInDim S128x1 ![]
    bcast_S_S128x1 (constantI S_ 32 128#32)) (broadcastInDim S128x1 ![0] bcast_S128_S128x1_0 (iotaInDim S128 32 0))))
    (broadcastInDim S128x256 ![0, 1] bcast_S1x256_S128x256_0_1 (broadcastInDim S1x256 ![1] bcast_S256_S1x256_1 (iotaInDim
    S256 32 0)))) (broadcastInDim S128x256 ![] bcast_S_S128x256 (constantI S_ 32 0#32))) (cmpi .sle (subi (broadcastInDim
    S128x256 ![0, 1] bcast_S128x1_S128x256_0_1 (addi (broadcastInDim S128x1 ![] bcast_S_S128x1 (constantI S_ 32 128#32))
    (broadcastInDim S128x1 ![0] bcast_S128_S128x1_0 (iotaInDim S128 32 0)))) (broadcastInDim S128x256 ![0, 1]
    bcast_S1x256_S128x256_0_1 (broadcastInDim S1x256 ![1] bcast_S256_S1x256_1 (iotaInDim S256 32 0)))) (broadcastInDim
    S128x256 ![] bcast_S_S128x256 (constantI S_ 32 128#32)))))) (broadcastInDim S64x128x256 ![0, 1, 2]
    bcast_S64x1x256_S64x128x256_0_1_2 (ori (broadcastInDim S64x1x256 ![0, 1, 2] bcast_S64x1x1_S64x1x256_0_1_2 (cmpi .sgt
    (broadcastInDim S64x1x1 ![0] bcast_S64_S64x1x1_0 (iotaInDim S64 32 0)) (broadcastInDim S64x1x1 ![] bcast_S_S64x1x1
    (constantI S_ 32 0#32)))) (broadcastInDim S64x1x256 ![0, 1, 2] bcast_S1x1x256_S64x1x256_0_1_2 (broadcastInDim S1x1x256
    ![1, 2] bcast_S1x256_S1x1x256_1_2 (cmpi .sge (broadcastInDim S1x256 ![1] bcast_S256_S1x256_1 (iotaInDim S256 32 0))
    (broadcastInDim S1x256 ![] bcast_S_S1x256 (constantI S_ 32 128#32))))))))

/-- The scores with the slopes' bias. -/
def lineT (x0 : FVec Ideal S8192x2560 .bf16) (x1 : FVec Ideal S12 .f32) : FVec Ideal S1x64x1x12x128x256 .f32 :=
  addf (mulf (Host.dotGeneral dot_S1x64x128x1x12x64_S1x64x256x1x12x64_S1x64x1x12x128x256_5_5_2_2_0134_0134 none (lineQ x0)
    (lineKK x0)) (broadcastInDim S1x64x1x12x128x256 ![] bcast_S_S1x64x1x12x128x256 (constant S_ .f32 0x3E000000#32)))
    (broadcastInDim S1x64x1x12x128x256 ![0, 1, 2, 3, 4, 5] bcast_S1x1x1x12x128x256_S1x64x1x12x128x256_0_1_2_3_4_5
    (broadcastInDim S1x1x1x12x128x256 ![3, 4, 5] bcast_S12x128x256_S1x1x1x12x128x256_3_4_5 (mulf (broadcastInDim S12x128x256
    ![0, 1, 2] bcast_S12x1x1_S12x128x256_0_1_2 (Host.negf (broadcastInDim S12x1x1 ![0] bcast_S12_S12x1x1_0 x1)))
    (broadcastInDim S12x128x256 ![0, 1, 2] bcast_S1x128x256_S12x128x256_0_1_2 (broadcastInDim S1x128x256 ![1, 2]
    bcast_S128x256_S1x128x256_1_2 (sitofp .f32 (muli (subi (broadcastInDim S128x256 ![0, 1] bcast_S128x1_S128x256_0_1 (addi
    (broadcastInDim S128x1 ![] bcast_S_S128x1 (constantI S_ 32 128#32)) (broadcastInDim S128x1 ![0] bcast_S128_S128x1_0
    (iotaInDim S128 32 0)))) (broadcastInDim S128x256 ![0, 1] bcast_S1x256_S128x256_0_1 (broadcastInDim S1x256 ![1]
    bcast_S256_S1x256_1 (iotaInDim S256 32 0)))) (broadcastInDim S128x256 ![] bcast_S_S128x256 (constantI S_ 32 1#32)))))))))

/-- The masked scores. -/
def lineS (x0 : FVec Ideal S8192x2560 .bf16) (x1 : FVec Ideal S12 .f32) : FVec Ideal S1x64x1x12x128x256 .f32 :=
  select (broadcastInDim S1x64x1x12x128x256 ![0, 1, 2, 3, 4, 5] bcast_S1x64x1x1x128x256_S1x64x1x12x128x256_0_1_2_3_4_5 lineB)
    (lineT x0 x1) (broadcastInDim S1x64x1x12x128x256 ![] bcast_S_S1x64x1x12x128x256 (id (constant S_ .f32 0xFF800000#32)))

/-- The reference computes these masked scores. -/
theorem lineS_eq (V0 : Valuation τ sig (Elt Ideal)) : @Eq (S1x64x1x12x128x256.Idx → EReal) (res_main_v71_0 V0) (lineS (V0 (Proc.devRef .tc main_arg0)) (V0 (Proc.devRef .tc main_arg1))) := rfl

/-- The rows' maxima. -/
def lineM (x0 : FVec Ideal S8192x2560 .bf16) (x1 : FVec Ideal S12 .f32) : FVec Ideal S1x64x1x12x128 .f32 :=
  Host.reduce FloatOps.maximumf (lineS x0 x1) (constant S_ .f32 0xFF800000#32) reducesTo_S1x64x1x12x128x256_S1x64x1x12x128_d5
    h_S_

/-- The reference computes these maxima. -/
theorem lineM_eq (V0 : Valuation τ sig (Elt Ideal)) : @Eq (S1x64x1x12x128.Idx → EReal) (res_main_v72 V0) (lineM (V0 (Proc.devRef .tc main_arg0)) (V0 (Proc.devRef .tc main_arg1))) := rfl

/-- The exponentials. -/
def lineP (x0 : FVec Ideal S8192x2560 .bf16) (x1 : FVec Ideal S12 .f32) : FVec Ideal S1x64x1x12x128x256 .f32 :=
  Host.exp (subf (lineS x0 x1) (broadcastInDim S1x64x1x12x128x256 ![0, 1, 2, 3, 4, 5]
    bcast_S1x64x1x12x128x1_S1x64x1x12x128x256_0_1_2_3_4_5 (broadcastInDim S1x64x1x12x128x1 ![0, 1, 2, 3, 4]
    bcast_S1x64x1x12x128_S1x64x1x12x128x1_0_1_2_3_4 (lineM x0 x1))))

/-- The reference computes these exponentials. -/
theorem lineP_eq (V0 : Valuation τ sig (Elt Ideal)) : @Eq (S1x64x1x12x128x256.Idx → EReal) (res_main_v81 V0) (lineP (V0 (Proc.devRef .tc main_arg0)) (V0 (Proc.devRef .tc main_arg1))) := rfl

/-- Their sums weighted by the values. -/
def lineN (x0 : FVec Ideal S8192x2560 .bf16) (x1 : FVec Ideal S12 .f32) : FVec Ideal S1x64x128x1x12x64 .f32 :=
  transpose S1x64x128x1x12x64 [0, 1, 5, 2, 3, 4] (Host.dotGeneral
    dot_S1x64x256x1x12x64_S1x64x1x12x128x256_S1x64x1x12x64x128_2_5_5_4_0134_0123 none (lineVV x0) (lineP x0 x1))
    transposes_S1x64x1x12x64x128_S1x64x128x1x12x64_0_1_5_2_3_4

/-- The reference computes these weighted sums. -/
theorem lineN_eq (V0 : Valuation τ sig (Elt Ideal)) : @Eq (S1x64x128x1x12x64.Idx → EReal) (res_main_v84 V0) (lineN (V0 (Proc.devRef .tc main_arg0)) (V0 (Proc.devRef .tc main_arg1))) := rfl

/-- Their sums. -/
def lineZ (x0 : FVec Ideal S8192x2560 .bf16) (x1 : FVec Ideal S12 .f32) : FVec Ideal S1x64x128x1x12 .f32 :=
  transpose S1x64x128x1x12 [0, 1, 4, 2, 3] (Host.reduceAdd (lineP x0 x1) (constant S_ .f32 0x00000000#32)
    reducesTo_S1x64x1x12x128x256_S1x64x1x12x128_d5 h_S_) transposes_S1x64x1x12x128_S1x64x128x1x12_0_1_4_2_3

/-- The reference computes these sums. -/
theorem lineZ_eq (V0 : Valuation τ sig (Elt Ideal)) : @Eq (S1x64x128x1x12.Idx → EReal) (res_main_v85 V0) (lineZ (V0 (Proc.devRef .tc main_arg0)) (V0 (Proc.devRef .tc main_arg1))) := rfl

/-- The contents of the reference's buffers. -/
abbrev RefVal : Type := Valuation τ sig (Elt Ideal)

/-- The reference's first argument. -/
def ref0 (V0 : Valuation τ sig (Elt Ideal)) : FVec Ideal S8192x2560 .bf16 := V0 (Proc.devRef .tc main_arg0)

/-- The reference's second argument. -/
def ref1 (V0 : Valuation τ sig (Elt Ideal)) : FVec Ideal S12 .f32 := V0 (Proc.devRef .tc main_arg1)

/-- The reference's third argument. -/
def ref2 (V0 : Valuation τ sig (Elt Ideal)) : FVec Ideal S8192x768 .f32 := V0 (Proc.devRef .tc main_arg2)

section

variable {V0 : Valuation τ sig (Elt Ideal)} {A : Data} (H : Given V0 A) (b : Fin 64) (i : Fin 128) (h : Fin 12) (d : Fin 64)
include H

/-- The rows' maxima are the data's. -/
theorem lineM_is : (lineM (ref0 V0) (ref1 V0) : S1x64x1x12x128.Idx → EReal) (ix5 0 b 0 h i) = ((A.top b h i : ℝ) : EReal) :=
  (congrFun (lineM_eq V0) _).symm.trans (v72_is H b i h)

/-- The sums of the exponentials. -/
theorem lineZ_is : (lineZ (ref0 V0) (ref1 V0) : S1x64x128x1x12.Idx → EReal) (ix5 0 b i 0 h) = ((A.den b h i : ℝ) : EReal) := by
  refine (congrFun (lineZ_eq V0) _).symm.trans ?_
  unfold res_main_v85
  clean_types
  pointwise
  refine (sum_last _ _ _ 0 b 0 h i).trans ?_
  rw [zero_add, Data.den, ← sum_coe]
  exact Finset.sum_congr rfl fun x _ => v81_is H b i x h

/-- The weighted sums. -/
theorem lineN_is : (lineN (ref0 V0) (ref1 V0) : S1x64x128x1x12x64.Idx → EReal) (ix6 0 b i 0 h d)
    = ((A.out b h i d : ℝ) : EReal) :=
  (congrFun (lineN_eq V0) _).symm.trans (v84_is H b i h d)

end

end Cert.Attn
-- ==== Proof.Host.lean ====
/- The arrays the kernel's host lines hand to its pipeline: the rows' log-sums, the rows' Σ ct·o and the slopes. -/
module

public import proofs.«01_k».proof.Proof.Arrays
public import proofs.«01_k».proof.Proof.Lines
public import Idealize.ShloMosaic.Lib.Claim

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ) (c : Dev nD)

/-- The kernel's first argument. -/
def arg0 : FVec Ideal S8192x2560 .bf16 := m (c, Proc.devRef .tc main_arg0)

/-- The kernel's second argument. -/
def arg1 : FVec Ideal S12 .f32 := m (c, Proc.devRef .tc main_arg1)

/-- The kernel's third argument. -/
def arg2 : FVec Ideal S8192x768 .f32 := m (c, Proc.devRef .tc main_arg2)

/-! ## The host lines by stages -/

/-- What the buffers hold before the arrays are padded. -/
def W1 : Valuation τ sig (Elt Ideal) := StableHlo.after hostOps0 fun b => m (c, b)

/-- What they hold when the padded arrays are there. -/
def W6 : Valuation τ sig (Elt Ideal) :=
  StableHlo.after hostOps0_5 (StableHlo.after hostOps0_4 (StableHlo.after hostOps0_3 (StableHlo.after hostOps0_2
    (StableHlo.after hostOps0_1 (W1 m c)))))

/-- What they hold after the scores. -/
def W7 : Valuation τ sig (Elt Ideal) := StableHlo.after hostOps0_6 (W6 m c)

/-- What they hold after the mask. -/
def W8 : Valuation τ sig (Elt Ideal) := StableHlo.after hostOps0_7 (W7 m c)

/-- The pipeline starts at the last stage: the rows' log-sums. -/
theorem V_90 : V m c main_v90 = StableHlo.after hostOps0_8 (W8 m c) (Proc.devRef .tc main_v90) := by
  unfold V W8 W7 W6 W1
  simp only [List.flatten_cons, List.flatten_nil, List.append_nil, StableHlo.after_append]

/-- The rows' Σ ct·o. -/
theorem V_95 : V m c main_v95 = StableHlo.after hostOps0_8 (W8 m c) (Proc.devRef .tc main_v95) := by
  unfold V W8 W7 W6 W1
  simp only [List.flatten_cons, List.flatten_nil, List.append_nil, StableHlo.after_append]

/-- The slopes. -/
theorem V_98 : V m c main_v98 = StableHlo.after hostOps0_8 (W8 m c) (Proc.devRef .tc main_v98) := by
  unfold V W8 W7 W6 W1
  simp only [List.flatten_cons, List.flatten_nil, List.append_nil, StableHlo.after_append]

/-- The rows' log-sums from the rows' maxima and sums. -/
def lineL (M : FVec Ideal S1x64x1x12x128 .f32) (Z : FVec Ideal S1x64x128x1x12 .f32) : FVec Ideal S8192x768 .f32 :=
  shapeCast S8192x768 (broadcastInDim S1x8192x12x64 ![0, 1, 2] Facts₀.bcast_S1x8192x12_S1x8192x12x64_0_1_2
      (addf (shapeCast S1x8192x12 (transpose S1x64x128x1x12 [0, 1, 4, 2, 3] (shapeCast S1x64x1x12x128
          (broadcastInDim S1x64x1x12x128x1 ![0, 1, 2, 3, 4] Facts₀.bcast_S1x64x1x12x128_S1x64x1x12x128x1_0_1_2_3_4 M)
          Facts₀.shapeCasts_S1x64x1x12x128x1_S1x64x1x12x128) Facts₀.transposes_S1x64x1x12x128_S1x64x128x1x12_0_1_4_2_3)
          Facts₀.shapeCasts_S1x64x128x1x12_S1x8192x12)
        (Host.log (shapeCast S1x8192x12 Z Facts₀.shapeCasts_S1x64x128x1x12_S1x8192x12))))
    Facts₀.shapeCasts_S1x8192x12x64_S8192x768

/-- The rows' Σ ct·o from ct, the weighted sums and the sums. -/
def lineD (x2 : FVec Ideal S8192x768 .f32) (N : FVec Ideal S1x64x128x1x12x64 .f32) (Z : FVec Ideal S1x64x128x1x12 .f32) :
    FVec Ideal S8192x768 .f32 :=
  shapeCast S8192x768 (broadcastInDim S1x8192x12x64 ![0, 1, 2] Facts₀.bcast_S1x8192x12_S1x8192x12x64_0_1_2
      (Host.reduceAdd (mulf (shapeCast S1x8192x12x64 x2 Facts₀.shapeCasts_S8192x768_S1x8192x12x64)
        (shapeCast S1x8192x12x64 (Host.divf N (broadcastInDim S1x64x128x1x12x64 ![0, 1, 2, 3, 4, 5] Facts₀.bcast_S1x64x128x1x12x1_S1x64x128x1x12x64_0_1_2_3_4_5
          (broadcastInDim S1x64x128x1x12x1 ![0, 1, 2, 3, 4] Facts₀.bcast_S1x64x128x1x12_S1x64x128x1x12x1_0_1_2_3_4 Z)))
          Facts₀.shapeCasts_S1x64x128x1x12x64_S1x8192x12x64))
        (constant S_ .f32 0x00000000#32) Facts₀.reducesTo_S1x8192x12x64_S1x8192x12_d3 Facts₀.h_S_))
    Facts₀.shapeCasts_S1x8192x12x64_S8192x768

/-- The slopes, each pair of heads a row of lanes. -/
def lineR (x1 : FVec Ideal S12 .f32) : FVec Ideal S6x8x128 .f32 :=
  shapeCast S6x8x128 (broadcastInDim S6x8x2x64 ![0, 2] Facts₀.bcast_S6x2_S6x8x2x64_0_2
    (shapeCast S6x2 x1 Facts₀.shapeCasts_S12_S6x2)) Facts₀.shapeCasts_S6x8x2x64_S6x8x128

variable {W : Valuation τ sig (Elt Ideal)} {x0 : FVec Ideal S8192x2560 .bf16} {x1 : FVec Ideal S12 .f32} {x2 : FVec Ideal S8192x768 .f32}

/-- The maxima of an array of scores. -/
def mx (s : FVec Ideal S1x64x1x12x128x256 .f32) : FVec Ideal S1x64x1x12x128 .f32 :=
  Host.reduce FloatOps.maximumf s (constant S_ .f32 0xFF800000#32) Facts₀.reducesTo_S1x64x1x12x128x256_S1x64x1x12x128_d5 Facts₀.h_S_

/-- The exponentials. -/
def ex (s : FVec Ideal S1x64x1x12x128x256 .f32) : FVec Ideal S1x64x1x12x128x256 .f32 :=
  Host.exp (subf s (broadcastInDim S1x64x1x12x128x256 ![0, 1, 2, 3, 4, 5] Facts₀.bcast_S1x64x1x12x128x1_S1x64x1x12x128x256_0_1_2_3_4_5 (broadcastInDim S1x64x1x12x128x1 ![0, 1, 2, 3, 4] Facts₀.bcast_S1x64x1x12x128_S1x64x1x12x128x1_0_1_2_3_4 (mx s))))

/-- Their sums. -/
def sm (s : FVec Ideal S1x64x1x12x128x256 .f32) : FVec Ideal S1x64x128x1x12 .f32 :=
  transpose S1x64x128x1x12 [0, 1, 4, 2, 3] (Host.reduceAdd (ex s) (constant S_ .f32 0x00000000#32) Facts₀.reducesTo_S1x64x1x12x128x256_S1x64x1x12x128_d5 Facts₀.h_S_) Facts₀.transposes_S1x64x1x12x128_S1x64x128x1x12_0_1_4_2_3

/-- Their sums weighted by the values. -/
def ws (v : FVec Ideal S1x64x256x1x12x64 .f32) (s : FVec Ideal S1x64x1x12x128x256 .f32) : FVec Ideal S1x64x128x1x12x64 .f32 :=
  transpose S1x64x128x1x12x64 [0, 1, 5, 2, 3, 4] (Host.dotGeneral dot_S1x64x256x1x12x64_S1x64x1x12x128x256_S1x64x1x12x64x128_2_5_5_4_0134_0123 none v (ex s)) Facts₀.transposes_S1x64x1x12x64x128_S1x64x128x1x12x64_0_1_5_2_3_4

/-- The maxima are those of the reference's lines. -/
theorem mx_eq : mx (lineS x0 x1) = lineM x0 x1 := rfl

/-- So are the exponentials. -/
theorem ex_eq : ex (lineS x0 x1) = lineP x0 x1 := rfl

/-- So are their sums. -/
theorem sm_eq : sm (lineS x0 x1) = lineZ x0 x1 := rfl

/-- So are the weighted sums. -/
theorem ws_eq : ws (lineVV x0) (lineS x0 x1) = lineN x0 x1 := rfl

/-- The last stage makes the rows' log-sums from the scores. -/
theorem last_90 (W : Valuation τ sig (Elt Ideal)) :
    @Eq (S8192x768.Idx → EReal) (StableHlo.after hostOps0_8 W (Proc.devRef .tc main_v90)) (lineL (mx (W (Proc.devRef .tc main_v69))) (sm (W (Proc.devRef .tc main_v69)))) := by
  entry_read
  rfl

/-- It makes the rows' Σ ct·o from ct, the scores and the values. -/
theorem last_95 (W : Valuation τ sig (Elt Ideal)) :
    @Eq (S8192x768.Idx → EReal) (StableHlo.after hostOps0_8 W (Proc.devRef .tc main_v95)) (lineD (W (Proc.devRef .tc main_arg2)) (ws (W (Proc.devRef .tc main_v24)) (W (Proc.devRef .tc main_v69))) (sm (W (Proc.devRef .tc main_v69)))) := by
  entry_read
  rfl

/-- It makes the rows of slopes. -/
theorem last_98 (h : @Eq (S12.Idx → EReal) (W (Proc.devRef .tc main_arg1)) x1) :
    @Eq (S6x8x128.Idx → EReal) (StableHlo.after hostOps0_8 W (Proc.devRef .tc main_v98)) (lineR x1) := by
  rw [← h]
  entry_read
  rfl

/-! ## The stages before -/

/-- The windows of the values. -/
theorem at_24 (W : Valuation τ sig (Elt Ideal)) (h : @Eq (S1x64x128x1x12x64.Idx → EReal) (shapeCast S1x64x128x1x12x64 (W (Proc.devRef .tc main_v11)) Facts₀.shapeCasts_S1x8192x12x64_S1x64x128x1x12x64) (lineV x0)) :
   @Eq (S1x64x256x1x12x64.Idx → EReal) (StableHlo.after hostOps0_6 W (Proc.devRef .tc main_v24)) (lineVV x0) := by
  unfold lineVV
  rw [← h]
  entry_read
  rfl

/-- The scores before the mask. -/
theorem at_67 (W : Valuation τ sig (Elt Ideal)) (hq : @Eq (S1x64x128x1x12x64.Idx → EReal) (shapeCast S1x64x128x1x12x64 (W (Proc.devRef .tc main_v9)) Facts₀.shapeCasts_S1x8192x12x64_S1x64x128x1x12x64) (lineQ x0))
   (hk : @Eq (S1x64x128x1x12x64.Idx → EReal) (shapeCast S1x64x128x1x12x64 (W (Proc.devRef .tc main_v10)) Facts₀.shapeCasts_S1x8192x12x64_S1x64x128x1x12x64) (lineK x0))
   (h1 : @Eq (S12.Idx → EReal) (W (Proc.devRef .tc main_arg1)) x1) :
   @Eq (S1x64x1x12x128x256.Idx → EReal) (StableHlo.after hostOps0_6 W (Proc.devRef .tc main_v67)) (lineT x0 x1) := by
  unfold lineT lineKK
  rw [← hq, ← hk, ← h1]
  entry_read
  rfl

/-- The mask. -/
theorem at_68 (W : Valuation τ sig (Elt Ideal)) :
   @Eq (S1x64x1x1x128x256.Idx → BitVec 1) (StableHlo.after hostOps0_6 W (Proc.devRef .tc main_v68)) lineB := by
  unfold lineB
  entry_read
  rfl

/-- The −∞ that fills it. -/
theorem at_c10 (W : Valuation τ sig (Elt Ideal)) :
   @Eq (S_.Idx → EReal) (StableHlo.after hostOps0_6 W (Proc.devRef .tc main_cst_10)) (constant (F := Ideal) S_ .f32 0xFF800000#32) := by
  entry_read
  rfl

/-- The masked scores. -/
theorem at_69 (W : Valuation τ sig (Elt Ideal)) (h68 : @Eq (S1x64x1x1x128x256.Idx → BitVec 1) (W (Proc.devRef .tc main_v68)) lineB)
    (h67 : @Eq (S1x64x1x12x128x256.Idx → EReal) (W (Proc.devRef .tc main_v67)) (lineT x0 x1))
    (hc : @Eq (S_.Idx → EReal) (W (Proc.devRef .tc main_cst_10)) (constant (F := Ideal) S_ .f32 0xFF800000#32)) :
   @Eq (S1x64x1x12x128x256.Idx → EReal) (StableHlo.after hostOps0_7 W (Proc.devRef .tc main_v69)) (lineS x0 x1) := by
  unfold lineS
  rw [← h68, ← h67, ← hc]
  entry_read
  rfl

/-- The mask leaves the values alone. -/
theorem keep_24 (W : Valuation τ sig (Elt Ideal)) : @Eq (S1x64x256x1x12x64.Idx → EReal)
    (StableHlo.after hostOps0_7 W (Proc.devRef .tc main_v24)) (W (Proc.devRef .tc main_v24)) := by
  entry_read
  rfl

/-- It leaves the slopes alone. -/
theorem keep_1 (W : Valuation τ sig (Elt Ideal)) : @Eq (S12.Idx → EReal)
    (StableHlo.after hostOps0_7 (StableHlo.after hostOps0_6 W) (Proc.devRef .tc main_arg1)) (W (Proc.devRef .tc main_arg1)) := by
  entry_read
  rfl

/-- It leaves the cotangent alone. -/
theorem keep_2 (W : Valuation τ sig (Elt Ideal)) : @Eq (S8192x768.Idx → EReal)
    (StableHlo.after hostOps0_7 (StableHlo.after hostOps0_6 W) (Proc.devRef .tc main_arg2)) (W (Proc.devRef .tc main_arg2)) := by
  entry_read
  rfl

/-- The blocks of q, cut from the padded array. -/
theorem W6_q : @Eq (S1x64x128x1x12x64.Idx → EReal) (shapeCast S1x64x128x1x12x64 (W6 m c (Proc.devRef .tc main_v9))
    Facts₀.shapeCasts_S1x8192x12x64_S1x64x128x1x12x64) (lineQ (arg0 m c)) := by
  unfold W6 W1
  entry_read
  rfl

/-- The blocks of k. -/
theorem W6_k : @Eq (S1x64x128x1x12x64.Idx → EReal) (shapeCast S1x64x128x1x12x64 (W6 m c (Proc.devRef .tc main_v10))
    Facts₀.shapeCasts_S1x8192x12x64_S1x64x128x1x12x64) (lineK (arg0 m c)) := by
  unfold W6 W1
  entry_read
  rfl

/-- The blocks of v. -/
theorem W6_v : @Eq (S1x64x128x1x12x64.Idx → EReal) (shapeCast S1x64x128x1x12x64 (W6 m c (Proc.devRef .tc main_v11))
    Facts₀.shapeCasts_S1x8192x12x64_S1x64x128x1x12x64) (lineV (arg0 m c)) := by
  unfold W6 W1
  entry_read
  rfl

/-- The slopes are still there. -/
theorem W6_1 : @Eq (S12.Idx → EReal) (W6 m c (Proc.devRef .tc main_arg1)) (arg1 m c) := by
  unfold W6 W1
  entry_read
  rfl

/-- The cotangent is still there. -/
theorem W6_2 : @Eq (S8192x768.Idx → EReal) (W6 m c (Proc.devRef .tc main_arg2)) (arg2 m c) := by
  unfold W6 W1
  entry_read
  rfl

/-- The last stage finds the values. -/
theorem W8_v : @Eq (S1x64x256x1x12x64.Idx → EReal) (W8 m c (Proc.devRef .tc main_v24)) (lineVV (arg0 m c)) :=
  (keep_24 _).trans (at_24 _ (W6_v m c))

/-- It finds the masked scores. -/
theorem W8_s : @Eq (S1x64x1x12x128x256.Idx → EReal) (W8 m c (Proc.devRef .tc main_v69)) (lineS (arg0 m c) (arg1 m c)) :=
  at_69 _ (at_68 _) (at_67 _ (W6_q m c) (W6_k m c) (W6_1 m c)) (at_c10 _)

/-- It finds the slopes. -/
theorem W8_1 : @Eq (S12.Idx → EReal) (W8 m c (Proc.devRef .tc main_arg1)) (arg1 m c) :=
  (keep_1 _).trans (W6_1 m c)

/-- It finds the cotangent. -/
theorem W8_2 : @Eq (S8192x768.Idx → EReal) (W8 m c (Proc.devRef .tc main_arg2)) (arg2 m c) :=
  (keep_2 _).trans (W6_2 m c)

/-! ## What the pipeline is given -/

/-- The rows' log-sums. -/
theorem given_90 : @Eq (S8192x768.Idx → EReal) (V m c main_v90)
    (lineL (lineM (arg0 m c) (arg1 m c)) (lineZ (arg0 m c) (arg1 m c))) :=
  (V_90 m c).trans ((last_90 _).trans ((congrArg (fun s => lineL (mx s) (sm s)) (W8_s m c)).trans
    (congrArg₂ lineL mx_eq sm_eq)))

/-- The rows' Σ ct·o. -/
theorem given_95 : @Eq (S8192x768.Idx → EReal) (V m c main_v95)
    (lineD (arg2 m c) (lineN (arg0 m c) (arg1 m c)) (lineZ (arg0 m c) (arg1 m c))) := by
  refine (V_95 m c).trans ((last_95 _).trans ?_)
  refine (congrArg₂ (fun x s => lineD x (ws _ s) (sm s)) (W8_2 m c) (W8_s m c)).trans ?_
  exact (congrArg (fun v => lineD (arg2 m c) (ws v _) (sm _)) (W8_v m c)).trans (congrArg₂ (lineD (arg2 m c)) ws_eq sm_eq)

/-- The slopes. -/
theorem given_98 : @Eq (S6x8x128.Idx → EReal) (V m c main_v98) (lineR (arg1 m c)) :=
  (V_98 m c).trans (last_98 (W8_1 m c))

/-! ## What it is given, entry by entry -/

/-- The rows' log-sums at an entry. -/
theorem lineL_at (M : FVec Ideal S1x64x1x12x128 .f32) (Z : FVec Ideal S1x64x128x1x12 .f32) (r : Fin 8192) (l : Fin 768) :
    (lineL M Z : S8192x768.Idx → EReal) (ix2 r l) =
      M (ix5 0 ⟨r / 128, by omega⟩ 0 ⟨l / 64, by omega⟩ ⟨r % 128, by omega⟩) +
        Ideal.log (Z (ix5 0 ⟨r / 128, by omega⟩ ⟨r % 128, by omega⟩ 0 ⟨l / 64, by omega⟩)) := by
  unfold lineL
  clean_types
  pointwise

/-- The rows' Σ ct·o at an entry. -/
theorem lineD_at (x : FVec Ideal S8192x768 .f32) (N : FVec Ideal S1x64x128x1x12x64 .f32) (Z : FVec Ideal S1x64x128x1x12 .f32)
    (r : Fin 8192) (l : Fin 768) : (lineD x N Z : S8192x768.Idx → EReal) (ix2 r l) =
      ∑ d : Fin 64, x (ix2 r ⟨l / 64 * 64 + d, by omega⟩) *
        Ideal.div (N (ix6 0 ⟨r / 128, by omega⟩ ⟨r % 128, by omega⟩ 0 ⟨l / 64, by omega⟩ d))
          (Z (ix5 0 ⟨r / 128, by omega⟩ ⟨r % 128, by omega⟩ 0 ⟨l / 64, by omega⟩)) := by
  unfold lineD
  clean_types
  pointwise

/-- The slopes at an entry. -/
theorem lineR_at (x : FVec Ideal S12 .f32) (e : Fin 6) (h : Fin 2) :
    (lineR x : S6x8x128.Idx → EReal) (ix3 e 0 ⟨64 * h, by omega⟩) = x (ix1 ⟨e * 2 + h, by omega⟩) := by
  unfold lineR
  clean_types
  pointwise

end Cert.Attn
-- ==== Proof.Reference.lean ====
/- The reference's gradients, read at an index: on real data they are the gradients of `Spec`. -/
module

public import proofs.«01_k».proof.Proof.Forward

@[expose] public section

set_option maxRecDepth 16384

noncomputable section

namespace Cert.Attn

open Cert.ReferenceIdeal Cert.ReferenceIdeal.Gen Cert.ReferenceIdeal.Value Idealize.ShloMosaic
  Idealize.ShloMosaic.TcCoe Idealize.ShloMosaic.StableHlo

section

variable {V0 : Valuation τ sig (Elt Ideal)} {A : Data} (H : Given V0 A)
  (b : Fin 64) (i : Fin 128) (j : Fin 256) (h : Fin 12) (d : Fin 64)
include H

/-- The cotangents of the scores. -/
theorem v116_is : (res_main_v116 V0 : S1x64x1x12x128x256.Idx → EReal) (ix6 0 b 0 h i j)
    = ((A.ds b h i j : ℝ) : EReal) := by
  have hd := (A.den_pos (b := b) (h := h) i.2).ne'
  unfold res_main_v116
  clean_types
  pointwise
  rw [sum_035]
  pointwise
  rw [sum_last, zero_add]
  pointwise
  have e1 := dot_sum (f := fun d => A.cot b h i d / A.den b h i) (g := fun d => seen A.v b h j d)
    (fun x => v110_is H b i h x) (fun x => v26_is H b j h x)
  have h1 : Ideal.div 1 ((A.den b h i * A.den b h i : ℝ) : EReal) = ((1 / (A.den b h i * A.den b h i) : ℝ) : EReal) :=
    div_coe 1 _ (mul_ne_zero hd hd)
  have e2 := dot_sum (f := fun d => A.cot b h i d * (1 / (A.den b h i * A.den b h i))) (g := fun d => A.out b h i d)
    (fun x => (congrArg (· * ((1 / (A.den b h i * A.den b h i) : ℝ) : EReal)) (v98_is H b i h x)).trans
      (EReal.coe_mul _ _).symm) (fun x => v84_is H b i h x)
  beta_reduce at e2
  rw [e1, v88_is H, ← EReal.coe_mul, h1, e2, v81_is H, ← EReal.coe_neg, ← EReal.coe_add, ← EReal.coe_mul]
  rfl

/-- The scaled cotangents of the scores. The gradient through the maximum is zero. -/
theorem v128_is : (res_main_v128 V0 : S1x64x1x12x128x256.Idx → EReal) (ix6 0 b 0 h i j)
    = ((A.ds b h i j * (1 / 8) : ℝ) : EReal) := by
  have en : (Ideal.hostReduceAdd reducesTo_S1x64x1x12x128x256_S1x64x1x12x128_d5 (res_main_v76 V0) 0 (ix5 0 b 0 h i) : EReal)
      = ((∑ j ∈ Finset.range 256, (if Near (decide (0 < (b : ℕ))) i j ∧ A.score b h i j = A.top b h i then 1 else 0 : ℝ) : ℝ) : EReal) := by
    refine (sum_last _ _ _ 0 b 0 h i).trans ?_
    rw [zero_add, ← sum_coe]
    exact Finset.sum_congr rfl fun x _ => v76_is H b i x h
  have hn : (∑ j ∈ Finset.range 256, (if Near (decide (0 < (b : ℕ))) i j ∧ A.score b h i j = A.top b h i then 1 else 0 : ℝ)) ≠ 0 := by
    obtain ⟨t, ht, hn, e⟩ := A.top_mem (b := b) (h := h) i.2
    refine (Finset.sum_pos' (fun j _ => by split <;> norm_num) ⟨t, Finset.mem_range.2 ht, ?_⟩).ne'
    rw [if_pos ⟨hn, e⟩]; norm_num
  unfold res_main_v128
  clean_types
  pointwise
  rw [en, sum_025, v71_1_is, v116_is H, v76_is H]
  pointwise
  rw [sum_last, zero_add]
  pointwise
  have es := neg_sum (f := fun j => A.ds b h i j) (fun x => v116_is H b i x h)
  rw [A.sum_ds i.2, neg_zero] at es
  rw [es, div_coe _ _ hn, zero_div, eighth_f32]
  by_cases c : Near (decide (0 < (b : ℕ))) i j
  · rw [if_pos c, ← EReal.coe_mul, zero_mul, ← EReal.coe_add, add_zero, ← EReal.coe_mul]
  · rw [if_neg c, Data.ds, Data.num, if_neg c, mul_zero, zero_mul]
    rfl

/-- What a block's queries add to the gradient of their keys. -/
theorem v130_is : (res_main_v130 V0 : S1x64x256x1x12x64.Idx → EReal) (ix6 0 b j 0 h d)
    = ((∑ i ∈ Finset.range 128, A.ds b h i j * (1 / 8) * A.q (128 * b + i) (64 * h + d) : ℝ) : EReal) := by
  unfold res_main_v130
  clean_types
  pointwise
  rw [← sum_coe]
  exact Finset.sum_congr rfl fun x _ => by rw [v128_is H, v12_is H, ← EReal.coe_mul]

/-- The same for the first half of the next block's keys. -/
theorem v130_next (n : ℕ) (hn : (b : ℕ) = n + 1) :
    (res_main_v130 V0 : S1x64x256x1x12x64.Idx → EReal) (ix6 0 b j 0 h d)
    = ((∑ i ∈ Finset.range 128, A.ds (n + 1) h i j * (1 / 8) * A.q (128 * (n + 1) + i) (64 * h + d) : ℝ) : EReal) := by
  rw [← hn]
  exact v130_is H b j h d

/-- The same for the first half of the next block's values. -/
theorem v113_next (n : ℕ) (hn : (b : ℕ) = n + 1) :
    (res_main_v113 V0 : S1x64x256x1x12x64.Idx → EReal) (ix6 0 b j 0 h d)
    = ((∑ i ∈ Finset.range 128, A.cot (n + 1) h i d / A.den (n + 1) h i * A.num (n + 1) h i j : ℝ) : EReal) := by
  rw [← hn]
  exact v113_is H b j h d

end

/-! ## The reference's results -/

/-- The gradient of the queries. -/
def resQ (V0 : Valuation τ sig (Elt Ideal)) : FVec Ideal S8192x768 .bf16 :=
  truncf .bf16 (shapeCast _ (extractStridedSlice S1x8192x12x64 ![0, 0, 0, 0] (pad S1x8192x12x64 ![0, 0, 0, 0] ![0, 0, 0, 0] ![0, 0, 0, 0] (shapeCast _ (transpose S1x64x128x1x12x64 [0, 1, 4, 2, 3, 5] (Host.dotGeneral (φ₁ := .f32) (φ₂ := .f32) dot_S1x64x1x12x128x256_S1x64x256x1x12x64_S1x64x1x12x128x64_5_2_4_5_0123_0134 none (res_main_v128 V0) (res_main_v20 V0)) transposes_S1x64x1x12x128x64_S1x64x128x1x12x64_0_1_4_2_3_5) shapeCasts_S1x64x128x1x12x64_S1x8192x12x64) (constant S_ .f32 0x00000000#32) pads_S1x8192x12x64_S1x8192x12x64_000_000_000_000 h_S_) slices_S1x8192x12x64_S1x8192x12x64_0_0_0_0) shapeCasts_S1x8192x12x64_S8192x768) bitsLt_bf16_f32

/-- The gradient of the keys. -/
def resK (V0 : Valuation τ sig (Elt Ideal)) : FVec Ideal S8192x768 .bf16 :=
  truncf .bf16 (shapeCast _ (extractStridedSlice S1x8192x12x64 ![0, 0, 0, 0] (pad S1x8192x12x64 ![0, 0, 0, 0] ![0, 0, 0, 0] ![0, 0, 0, 0] (shapeCast _ (addf (extractStridedSlice S1x64x128x1x12x64 ![0, 0, 128, 0, 0, 0] (res_main_v130 V0) slices_S1x64x256x1x12x64_S1x64x128x1x12x64_0_0_128_0_0_0) (pad S1x64x128x1x12x64 ![0, 0, 0, 0, 0, 0] ![0, 1, 0, 0, 0, 0] ![0, 0, 0, 0, 0, 0] (extractStridedSlice S1x63x128x1x12x64 ![0, 1, 0, 0, 0, 0] (res_main_v139 V0) slices_S1x64x128x1x12x64_S1x63x128x1x12x64_0_1_0_0_0_0) (constant S_ .f32 0x00000000#32) pads_S1x63x128x1x12x64_S1x64x128x1x12x64_000_010_000_000_000_000 h_S_)) shapeCasts_S1x64x128x1x12x64_S1x8192x12x64) (constant S_ .f32 0x00000000#32) pads_S1x8192x12x64_S1x8192x12x64_000_000_000_000 h_S_) slices_S1x8192x12x64_S1x8192x12x64_0_0_0_0) shapeCasts_S1x8192x12x64_S8192x768) bitsLt_bf16_f32

/-- The gradient of the values. -/
def resV (V0 : Valuation τ sig (Elt Ideal)) : FVec Ideal S8192x768 .bf16 :=
  truncf .bf16 (shapeCast _ (extractStridedSlice S1x8192x12x64 ![0, 0, 0, 0] (pad S1x8192x12x64 ![0, 0, 0, 0] ![0, 0, 0, 0] ![0, 0, 0, 0] (shapeCast _ (addf (extractStridedSlice S1x64x128x1x12x64 ![0, 0, 128, 0, 0, 0] (res_main_v113 V0) slices_S1x64x256x1x12x64_S1x64x128x1x12x64_0_0_128_0_0_0) (pad S1x64x128x1x12x64 ![0, 0, 0, 0, 0, 0] ![0, 1, 0, 0, 0, 0] ![0, 0, 0, 0, 0, 0] (extractStridedSlice S1x63x128x1x12x64 ![0, 1, 0, 0, 0, 0] (res_main_v133 V0) slices_S1x64x128x1x12x64_S1x63x128x1x12x64_0_1_0_0_0_0) (constant S_ .f32 0x00000000#32) pads_S1x63x128x1x12x64_S1x64x128x1x12x64_000_010_000_000_000_000 h_S_)) shapeCasts_S1x64x128x1x12x64_S1x8192x12x64) (constant S_ .f32 0x00000000#32) pads_S1x8192x12x64_S1x8192x12x64_000_000_000_000 h_S_) slices_S1x8192x12x64_S1x8192x12x64_0_0_0_0) shapeCasts_S1x8192x12x64_S8192x768) bitsLt_bf16_f32

variable {V0 : Valuation τ sig (Elt Ideal)} {A : Data} (H : Given V0 A) (F : A.Fits)
include H F

/-- The reference's first result is the data's gradient of q. -/
theorem resQ_is (r : Fin 8192) (l : Fin 768) : (resQ V0 : S8192x768.Idx → EReal) (ix2 r l) = ((A.dq r l : ℝ) : EReal) := by
  have e := A.dq_eq F (b := (r : ℕ) / 128) (h := (l : ℕ) / 64) (i := (r : ℕ) % 128) (d := (l : ℕ) % 64) (by omega) (by omega)
  unfold resQ
  pointwise
  rw [dif_pos (show (l : ℕ) / 64 < 12 ∧ (l : ℕ) % 64 < 64 from ⟨by omega, by omega⟩)]
  have e' : A.dq r l = A.dq (128 * ((r : ℕ) / 128) + (r : ℕ) % 128) (64 * ((l : ℕ) / 64) + (l : ℕ) % 64) := by
    rw [Nat.div_add_mod, Nat.div_add_mod]
  refine Eq.trans ?_ (congrArg (fun x : ℝ => (x : EReal)) (e.trans e'.symm))
  exact dot_sum (f := fun j => A.ds ((r : ℕ) / 128) ((l : ℕ) / 64) ((r : ℕ) % 128) j * (1 / 8)) (g := fun j => seen A.k ((r : ℕ) / 128) ((l : ℕ) / 64) j ((l : ℕ) % 64))
    (fun x => v128_is H ⟨(r : ℕ) / 128, by omega⟩ ⟨(r : ℕ) % 128, by omega⟩ x ⟨(l : ℕ) / 64, by omega⟩)
    (fun x => v20_is H ⟨(r : ℕ) / 128, by omega⟩ x ⟨(l : ℕ) / 64, by omega⟩ ⟨(l : ℕ) % 64, by omega⟩)

/-- Its second is the gradient of k. -/
theorem resK_is (r : Fin 8192) (l : Fin 768) : (resK V0 : S8192x768.Idx → EReal) (ix2 r l) = ((A.dk r l : ℝ) : EReal) := by
  have e := A.dk_at F (b := (r : ℕ) / 128) (h := (l : ℕ) / 64) (i := (r : ℕ) % 128) (d := (l : ℕ) % 64) (by omega) (by omega)
  unfold resK res_main_v139
  clean_types
  pointwise
  rw [dif_pos (show (l : ℕ) / 64 < 12 ∧ (l : ℕ) % 64 < 64 from ⟨by omega, by omega⟩)]
  have e' : A.dk r l = A.dk (128 * ((r : ℕ) / 128) + (r : ℕ) % 128) (64 * ((l : ℕ) / 64) + (l : ℕ) % 64) := by
    rw [Nat.div_add_mod, Nat.div_add_mod]
  refine Eq.trans ?_ (congrArg (fun x : ℝ => (x : EReal)) (e.trans e'.symm))
  have e1 : _ = ((∑ t ∈ Finset.range 128, A.ds ((r : ℕ) / 128) ((l : ℕ) / 64) t (128 + (r : ℕ) % 128) * (1 / 8) * A.q (128 * ((r : ℕ) / 128) + t) (64 * ((l : ℕ) / 64) + ((l : ℕ) % 64)) : ℝ) : EReal) :=
    v130_is H ⟨(r : ℕ) / 128, by omega⟩ ⟨128 + (r : ℕ) % 128, by omega⟩ ⟨(l : ℕ) / 64, by omega⟩ ⟨(l : ℕ) % 64, by omega⟩
  by_cases c : (r : ℕ) / 128 < 63
  · have h64 : 1 + (r : ℕ) / 128 < 64 := by omega
    have e2 := v130_next H ⟨1 + (r : ℕ) / 128, h64⟩ ⟨(r : ℕ) % 128, by omega⟩
      ⟨(l : ℕ) / 64, by omega⟩ ⟨(l : ℕ) % 64, by omega⟩ ((r : ℕ) / 128) (Nat.add_comm 1 ((r : ℕ) / 128))
    have hc : (r : ℕ) / 128 < 63 ∧ (r : ℕ) % 128 < 128 ∧ (l : ℕ) / 64 < 12 ∧ (l : ℕ) % 64 < 64 :=
      ⟨c, by omega, by omega, by omega⟩
    simp only [hc, and_self, ↓reduceDIte, ↓reduceIte]
    exact (congrArg₂ (fun x y : EReal => x + y) e1 e2).trans (EReal.coe_add _ _).symm
  · simp only [c, false_and, ↓reduceDIte, ↓reduceIte]
    exact (congrArg (fun x : EReal => x + 0) e1).trans (EReal.coe_add _ 0).symm

/-- Its third is the gradient of v. -/
theorem resV_is (r : Fin 8192) (l : Fin 768) : (resV V0 : S8192x768.Idx → EReal) (ix2 r l) = ((A.dv r l : ℝ) : EReal) := by
  have e := A.dv_at F (b := (r : ℕ) / 128) (h := (l : ℕ) / 64) (i := (r : ℕ) % 128) (d := (l : ℕ) % 64) (by omega) (by omega)
  unfold resV res_main_v133
  clean_types
  pointwise
  rw [dif_pos (show (l : ℕ) / 64 < 12 ∧ (l : ℕ) % 64 < 64 from ⟨by omega, by omega⟩)]
  have e' : A.dv r l = A.dv (128 * ((r : ℕ) / 128) + (r : ℕ) % 128) (64 * ((l : ℕ) / 64) + (l : ℕ) % 64) := by
    rw [Nat.div_add_mod, Nat.div_add_mod]
  refine Eq.trans ?_ (congrArg (fun x : ℝ => (x : EReal)) (e.trans e'.symm))
  have e1 : _ = ((∑ t ∈ Finset.range 128, A.cot ((r : ℕ) / 128) ((l : ℕ) / 64) t ((l : ℕ) % 64) / A.den ((r : ℕ) / 128) ((l : ℕ) / 64) t * A.num ((r : ℕ) / 128) ((l : ℕ) / 64) t (128 + (r : ℕ) % 128) : ℝ) : EReal) :=
    v113_is H ⟨(r : ℕ) / 128, by omega⟩ ⟨128 + (r : ℕ) % 128, by omega⟩ ⟨(l : ℕ) / 64, by omega⟩ ⟨(l : ℕ) % 64, by omega⟩
  by_cases c : (r : ℕ) / 128 < 63
  · have h64 : 1 + (r : ℕ) / 128 < 64 := by omega
    have e2 := v113_next H ⟨1 + (r : ℕ) / 128, h64⟩ ⟨(r : ℕ) % 128, by omega⟩
      ⟨(l : ℕ) / 64, by omega⟩ ⟨(l : ℕ) % 64, by omega⟩ ((r : ℕ) / 128) (Nat.add_comm 1 ((r : ℕ) / 128))
    have hc : (r : ℕ) / 128 < 63 ∧ (r : ℕ) % 128 < 128 ∧ (l : ℕ) / 64 < 12 ∧ (l : ℕ) % 64 < 64 :=
      ⟨c, by omega, by omega, by omega⟩
    simp only [hc, and_self, ↓reduceDIte, ↓reduceIte]
    exact (congrArg₂ (fun x y : EReal => x + y) e1 e2).trans (EReal.coe_add _ _).symm
  · simp only [c, false_and, ↓reduceDIte, ↓reduceIte]
    exact (congrArg (fun x : EReal => x + 0) e1).trans (EReal.coe_add _ 0).symm

end Cert.Attn
-- ==== Proof.Entry.lean ====
/- The data the arguments hold: on finite arguments the pipeline starts from them, and the reference works on them. -/
module

public import proofs.«01_k».proof.Proof.Host
public import proofs.«01_k».proof.Proof.Reference

@[expose] public section

set_option maxRecDepth 16384

noncomputable section

namespace Cert.Attn

open Cert.KernelIdeal Cert.KernelIdeal.Gen Idealize.ShloMosaic Idealize.ShloMosaic.TcCoe

/-! ## Real arrays -/

/-- The real number at row `r` and column `l` of an array, zero outside. -/
def val {a b : ℕ} (x : (⟨2, ![a, b]⟩ : Shape).Idx → EReal) (r l : ℕ) : ℝ :=
  if h : r < a ∧ l < b then (x (ix2 ⟨r, h.1⟩ ⟨l, h.2⟩)).toReal else 0

/-- Inside the array it is the entry. -/
theorem val_eq {a b : ℕ} (x : (⟨2, ![a, b]⟩ : Shape).Idx → EReal) (r : Fin a) (l : Fin b) :
    val x r l = (x (ix2 r l)).toReal := by
  unfold val
  exact dif_pos ⟨r.2, l.2⟩

/-- The real number at place `h` of a row, zero outside. -/
def val1 {a : ℕ} (x : (⟨1, ![a]⟩ : Shape).Idx → EReal) (h : ℕ) : ℝ :=
  if H : h < a then (x (ix1 ⟨h, H⟩)).toReal else 0

/-- Inside the row it is the entry. -/
theorem val1_eq {a : ℕ} (x : (⟨1, ![a]⟩ : Shape).Idx → EReal) (h : Fin a) : val1 x h = (x (ix1 h)).toReal := by
  unfold val1
  exact dif_pos h.2

/-- The arrays of q, k, v, of the cotangent and of the slopes. -/
def base (x0 : FVec Ideal S8192x2560 .bf16) (x1 : FVec Ideal S12 .f32) (x2 : FVec Ideal S8192x768 .f32) : Data where
  q := val x0
  k r l := val x0 r (768 + l)
  v r l := val x0 r (1536 + l)
  o := val x2
  L _ _ := 0
  D _ _ := 0
  s := val1 x1

/-- The data with the forward pass's log-sums and Σ ct·o filled in. -/
def fill (B : Data) : Data :=
  { B with
    L := fun r l => B.top (r / 128) (l / 64) (r % 128) + Real.log (B.den (r / 128) (l / 64) (r % 128))
    D := fun r l => ∑ d ∈ Finset.range 64, B.o r (l / 64 * 64 + d) *
      (B.out (r / 128) (l / 64) (r % 128) d / B.den (r / 128) (l / 64) (r % 128)) }

/-- Filled in, the log-sums and Σ ct·o are those of the data. -/
theorem fill_fits (B : Data) : (fill B).Fits where
  L b e h i hh hi := by
    have h1 : (128 * b + i) / 128 = b := by omega
    have h2 : (128 * b + i) % 128 = i := by omega
    have h3 : (128 * e + 64 * h) / 64 = 2 * e + h := by omega
    show B.top ((128 * b + i) / 128) ((128 * e + 64 * h) / 64) ((128 * b + i) % 128) +
      Real.log (B.den ((128 * b + i) / 128) ((128 * e + 64 * h) / 64) ((128 * b + i) % 128)) = _
    rw [h1, h2, h3]
    rfl
  D b e h i hh hi := by
    have h1 : (128 * b + i) / 128 = b := by omega
    have h2 : (128 * b + i) % 128 = i := by omega
    have h3 : (128 * e + 64 * h) / 64 = 2 * e + h := by omega
    show ∑ d ∈ Finset.range 64, B.o (128 * b + i) ((128 * e + 64 * h) / 64 * 64 + d) *
      (B.out ((128 * b + i) / 128) ((128 * e + 64 * h) / 64) ((128 * b + i) % 128) d /
        B.den ((128 * b + i) / 128) ((128 * e + 64 * h) / 64) ((128 * b + i) % 128)) = _
    rw [h1, h2, h3]
    refine Finset.sum_congr rfl fun d _ => ?_
    rw [Nat.mul_comm (2 * e + h) 64]
    rfl

/-! ## Finite arguments -/

/-- Every entry of q, k, v, of the slopes and of the cotangent is a real number. -/
structure Finite (x0 : FVec Ideal S8192x2560 .bf16) (x1 : FVec Ideal S12 .f32) (x2 : FVec Ideal S8192x768 .f32) : Prop where
  a0 : ∀ (r : Fin 8192) (l : Fin 2560), l.val < 2304 → ((x0 (ix2 r l) : EReal).toReal : EReal) = x0 (ix2 r l)
  a1 : ∀ h : Fin 12, ((x1 (ix1 h) : EReal).toReal : EReal) = x1 (ix1 h)
  a2 : ∀ (r : Fin 8192) (l : Fin 768), ((x2 (ix2 r l) : EReal).toReal : EReal) = x2 (ix2 r l)

section

variable {x0 : FVec Ideal S8192x2560 .bf16} {x1 : FVec Ideal S12 .f32} {x2 : FVec Ideal S8192x768 .f32} (X : Finite x0 x1 x2)
include X

/-- An entry of q is a real number. -/
theorem Finite.q (r : Fin 8192) (l : Fin 2560) (hl : l.val < 768) : (x0 (ix2 r l) : EReal) = ((val x0 r l : ℝ) : EReal) := by
  rw [val_eq, X.a0 r l (by omega)]

/-- So is one of k. -/
theorem Finite.k (r : Fin 8192) (l : Fin 2560) (h1 : 768 ≤ l.val) (h2 : l.val < 1536) :
    (x0 (ix2 r l) : EReal) = ((val x0 r (768 + (l - 768)) : ℝ) : EReal) := by
  rw [Nat.add_sub_cancel' h1, val_eq, X.a0 r l (by omega)]

/-- So is one of v. -/
theorem Finite.v (r : Fin 8192) (l : Fin 2560) (h1 : 1536 ≤ l.val) (h2 : l.val < 2304) :
    (x0 (ix2 r l) : EReal) = ((val x0 r (1536 + (l - 1536)) : ℝ) : EReal) := by
  rw [Nat.add_sub_cancel' h1, val_eq, X.a0 r l (by omega)]

/-- So is one of the cotangent. -/
theorem Finite.o (r : Fin 8192) (l : Fin 768) : (x2 (ix2 r l) : EReal) = ((val x2 r l : ℝ) : EReal) := by
  rw [val_eq, X.a2 r l]

/-- So is a slope. -/
theorem Finite.s (h : Fin 12) : (x1 (ix1 h) : EReal) = ((val1 x1 h : ℝ) : EReal) := by
  rw [val1_eq, X.a1 h]

end

/-- The reference is given the data of its finite arguments. -/
theorem given_of {V0 : RefVal} (X : Finite (ref0 V0) (ref1 V0) (ref2 V0)) : Given V0 (fill (base (ref0 V0) (ref1 V0) (ref2 V0))) where
  q := X.q
  k := X.k
  v := X.v
  o := X.o
  s := X.s

/-- The logarithm of a positive real number. -/
theorem log_coe {x : ℝ} (h : 0 < x) : Ideal.log (x : EReal) = ((Real.log x : ℝ) : EReal) :=
  if_neg (not_le.2 h)

section

variable (m : (ℓ : Loc nD τ sig) → Buf (Elt Ideal) ℓ) (c : Dev nD) {V0 : RefVal}
  (h0 : arg0 m c = ref0 V0) (h1 : arg1 m c = ref1 V0) (h2 : arg2 m c = ref2 V0) (X : Finite (ref0 V0) (ref1 V0) (ref2 V0))
include h0 h1 h2 X

/-- The log-sums the pipeline is given. -/
theorem entry_L : Is (a := 8192) (b := 768) (V m c main_v90) (fill (base (ref0 V0) (ref1 V0) (ref2 V0))).L := fun r l => by
  refine (congrFun (given_90 m c) (ix2 r l)).trans ?_
  rw [h0, h1, lineL_at]
  refine (congrArg₂ (fun x y : EReal => x + Ideal.log y) (lineM_is (given_of X) ⟨r / 128, by omega⟩ ⟨r % 128, by omega⟩ ⟨l / 64, by omega⟩)
    (lineZ_is (given_of X) ⟨r / 128, by omega⟩ ⟨r % 128, by omega⟩ ⟨l / 64, by omega⟩)).trans ?_
  show _ + Ideal.log _ = _
  rw [log_coe (Data.den_pos _ (Nat.mod_lt _ (by norm_num)))]
  exact (EReal.coe_add _ _).symm

/-- The Σ ct·o it is given. -/
theorem entry_D : Is (a := 8192) (b := 768) (V m c main_v95) (fill (base (ref0 V0) (ref1 V0) (ref2 V0))).D := fun r l => by
  refine (congrFun (given_95 m c) (ix2 r l)).trans ?_
  rw [h0, h1, h2, lineD_at]
  refine (dot_sum (f := fun d => val (ref2 V0) r (l / 64 * 64 + d)) (g := fun d =>
    (fill (base (ref0 V0) (ref1 V0) (ref2 V0))).out (r / 128) (l / 64) (r % 128) d /
      (fill (base (ref0 V0) (ref1 V0) (ref2 V0))).den (r / 128) (l / 64) (r % 128)) (fun d => ?_) fun d => ?_).trans rfl
  · exact X.o r ⟨l / 64 * 64 + d, by omega⟩
  · refine (congrArg₂ Ideal.div (lineN_is (given_of X) ⟨r / 128, by omega⟩ ⟨r % 128, by omega⟩ ⟨l / 64, by omega⟩ d)
      (lineZ_is (given_of X) ⟨r / 128, by omega⟩ ⟨r % 128, by omega⟩ ⟨l / 64, by omega⟩)).trans ?_
    exact div_coe _ _ (Data.den_pos _ (Nat.mod_lt _ (by norm_num))).ne'

/-- The slopes it is given. -/
theorem entry_s (e : Fin 6) (h : Fin 2) : (V m c main_v98 : S6x8x128.Idx → EReal) (ix3 e 0 ⟨64 * h, by omega⟩)
    = (((fill (base (ref0 V0) (ref1 V0) (ref2 V0))).s (2 * e + h) : ℝ) : EReal) := by
  refine (congrFun (given_98 m c) (ix3 e 0 ⟨64 * h, by omega⟩)).trans ?_
  rw [h1, lineR_at]
  refine (X.s ⟨e * 2 + h, by omega⟩).trans ?_
  show ((val1 (ref1 V0) (e * 2 + h) : ℝ) : EReal) = ((val1 (ref1 V0) (2 * e + h) : ℝ) : EReal)
  rw [Nat.mul_comm (e : ℕ)]

/-- The pipeline starts from the data of its finite arguments. -/
theorem entry_of : Entry m c (fill (base (ref0 V0) (ref1 V0) (ref2 V0))) where
  q r l hl := (congrFun (V_main_arg0 m c) _).trans ((congrFun h0 (ix2 r l)).trans (X.q r l hl))
  k r l hl hr := (congrFun (V_main_arg0 m c) _).trans ((congrFun h0 (ix2 r l)).trans (X.k r l hl hr))
  v r l hl hr := (congrFun (V_main_arg0 m c) _).trans ((congrFun h0 (ix2 r l)).trans (X.v r l hl hr))
  o r l := (congrFun (V_main_arg2 m c) _).trans ((congrFun h2 (ix2 r l)).trans (X.o r l))
  L := entry_L m c h0 h1 h2 X
  D := entry_D m c h0 h1 h2 X
  s := entry_s m c h0 h1 h2 X

end

end Cert.Attn
-- ==== Proof.Pre.lean ====
/- The precondition: its shape relations, and what it says of the arguments. -/
module

public import proofs.«01_k».proof.Pre_finite_arguments
public import proofs.«01_k».proof.Proof.Entry

@[expose] public section

set_option maxRecDepth 16384

noncomputable section

namespace Cert.Attn

open Idealize.ShloMosaic Idealize.ShloMosaic.TcCoe

/-- The precondition's shape relations hold. -/
theorem preFacts : Cert.Pre_finite_arguments.Facts where
  slices_S8192x2560_S8192x2304_0_0 := by decide
  bitsLt_bf16_f32 := by decide
  bcast_S_S8192x2304 := by decide
  bcast_S_S12 := by decide
  bcast_S_S8192x768 := by decide

section

open Cert.Pre_finite_arguments

/-- A number whose absolute value is below infinity is real. -/
theorem real_of (x : EReal) (h : BitVec.ofBool (decide (max x (-x) < Ideal.ofBits .f32 0x7F800000#32)) = 1#1) :
    (x.toReal : EReal) = x := by
  have ht : Ideal.ofBits .f32 0x7F800000#32 = ⊤ := by simp [Ideal.ofBits, Ideal.ieee]
  rw [ht] at h
  have hb : decide (max x (-x) < ⊤) = true := by
    cases hd : decide (max x (-x) < ⊤) with
    | true => rfl
    | false => rw [hd] at h; exact absurd h (by decide)
  obtain ⟨h1, h2⟩ := max_lt_iff.1 (of_decide_eq_true hb)
  refine EReal.coe_toReal h1.ne fun e => ?_
  rw [e, EReal.neg_bot] at h2
  exact lt_irrefl _ h2

variable [Facts] {x0 : FVec Ideal S8192x2560 .bf16} {x1 : FVec Ideal S12 .f32} {x2 : FVec Ideal S8192x768 .f32}

/-- The first condition at an entry. -/
theorem fn0 (r : Fin 8192) (l : Fin 2304) : (fn x0 x1 x2).1 (ix2 r l) =
    BitVec.ofBool (decide (max (x0 (ix2 r ⟨l, by omega⟩) : EReal) (-x0 (ix2 r ⟨l, by omega⟩)) < Ideal.ofBits .f32 0x7F800000#32)) := by
  unfold fn
  clean_types
  pointwise
  rfl

/-- The second. -/
theorem fn1 (h : Fin 12) : (fn x0 x1 x2).2.1 (ix1 h) =
    BitVec.ofBool (decide (max (x1 (ix1 h) : EReal) (-x1 (ix1 h)) < Ideal.ofBits .f32 0x7F800000#32)) := by
  unfold fn
  clean_types
  pointwise
  rfl

/-- The third. -/
theorem fn2 (r : Fin 8192) (l : Fin 768) : (fn x0 x1 x2).2.2 (ix2 r l) =
    BitVec.ofBool (decide (max (x2 (ix2 r l) : EReal) (-x2 (ix2 r l)) < Ideal.ofBits .f32 0x7F800000#32)) := by
  unfold fn
  clean_types
  pointwise
  rfl

/-- Under the precondition every entry the gradients read is real. -/
theorem finite_of (h0 : (fn x0 x1 x2).1 = fun _ => 1#1) (h1 : (fn x0 x1 x2).2.1 = fun _ => 1#1)
    (h2 : (fn x0 x1 x2).2.2 = fun _ => 1#1) : Finite x0 x1 x2 where
  a0 r l hl := real_of _ ((fn0 (x1 := x1) (x2 := x2) r ⟨l, hl⟩).symm.trans (congrFun h0 _))
  a1 h := real_of _ ((fn1 (x0 := x0) (x2 := x2) h).symm.trans (congrFun h1 _))
  a2 r l := real_of _ ((fn2 (x0 := x0) (x1 := x1) r l).symm.trans (congrFun h2 _))

end

end Cert.Attn
-- ==== Proof.Claims.lean ====
/- The five claims. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Results
public import proofs.«01_k».proof.Proof.Pre

@[expose] public section

set_option maxRecDepth 16384

noncomputable section

namespace Cert.Attn

open Idealize.ShloMosaic Idealize.ShloMosaic.TcCoe Idealize.SL.Sem

/-- The kernel runs and keeps its arguments. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- Also under the precondition. -/
theorem frame_pi_pre : Cert.quiescent_KernelIdeal_pre_finite_arguments (hPre_finite_arguments := preFacts) := fun m ρ _ =>
  Cert.KernelIdeal.Gen.frame m ρ

/-- The reference runs and keeps its arguments. -/
theorem frame_ri : Cert.quiescent_ReferenceIdeal := fun m ρ _ =>
  (θ_run Cert.ReferenceIdeal.defs _ _).mono (fun r h => And.intro (fun c => (h c).2.2.2)
      (Idealize.ShloMosaic.sem_eq_zero_of_no_sems (by decide) r.2))
    (Cert.ReferenceIdeal.Value.run (F := Ideal) m ρ)

/-- Also under the precondition. -/
theorem frame_ri_pre : Cert.quiescent_ReferenceIdeal_pre_finite_arguments (hPre_finite_arguments := preFacts) := fun m ρ _ =>
  frame_ri m ρ trivial

/-- The named constant, over the extended reals, is −∞. -/
theorem preserves : Cert.preserves_Kernel_KernelIdeal :=
  IdealRules.named_const.statement Cert.KernelIdeal.κ "mask" .f32 0xF149F2CA#32 ⊥ rfl

section

open Cert.KernelIdeal Cert.KernelIdeal.Gen

variable (m : (ℓ : Loc nD τ sig) → Buf (Elt Ideal) ℓ) (c : Dev nD) {V0 : RefVal}
  (h0 : arg0 m c = ref0 V0) (h1 : arg1 m c = ref1 V0) (h2 : arg2 m c = ref2 V0) (X : Finite (ref0 V0) (ref1 V0) (ref2 V0))
include h0 h1 h2 X

/-- The gradient of q is one array. -/
theorem same_q : @Eq (S8192x768.Idx → EReal) (resQ V0) ((dats m 0 c).arrAt 13 cfg0.N) := by
  refine Eq.trans ?_ (arr13 (entry_of m c h0 h1 h2 X)).symm
  refine funext fun y => ?_
  rw [eq_ix2 y]
  exact resQ_is (given_of X) (fill_fits _) (y 0) (y 1)

/-- The gradient of k is one array. -/
theorem same_k : @Eq (S8192x768.Idx → EReal) (resK V0) ((dats m 0 c).arrAt 14 cfg0.N) := by
  refine Eq.trans ?_ (arr14 (entry_of m c h0 h1 h2 X)).symm
  refine funext fun y => ?_
  rw [eq_ix2 y]
  exact resK_is (given_of X) (fill_fits _) (y 0) (y 1)

/-- The gradient of v is one array. -/
theorem same_v : @Eq (S8192x768.Idx → EReal) (resV V0) ((dats m 0 c).arrAt 15 cfg0.N) := by
  refine Eq.trans ?_ (arr15 (entry_of m c h0 h1 h2 X)).symm
  refine funext fun y => ?_
  rw [eq_ix2 y]
  exact resV_is (given_of X) (fill_fits _) (y 0) (y 1)

end

/-- Over the extended reals the kernel's gradients are the derivative's of the reference. -/
theorem algebraic : Cert.algebraic_KernelIdeal_ReferenceIdeal_pre_finite_arguments (hPre_finite_arguments := preFacts) := by
  intro m g m' g' hpre hagree
  refine ⟨_, _, _, Cert.KernelIdeal.Value.run_blocks (F := Ideal) m g, ?_⟩
  have h0 : ∀ c, arg0 m c = ref0 (StableHlo.launchContents m' c) := fun c => (hagree c).1.symm
  have h1 : ∀ c, arg1 m c = ref1 (StableHlo.launchContents m' c) := fun c => (hagree c).2.1.symm
  have h2 : ∀ c, arg2 m c = ref2 (StableHlo.launchContents m' c) := fun c => (hagree c).2.2.symm
  have X : ∀ c, Finite (ref0 (StableHlo.launchContents m' c)) (ref1 (StableHlo.launchContents m' c))
      (ref2 (StableHlo.launchContents m' c)) := fun c => by
    rw [← h0, ← h1, ← h2]
    exact @finite_of preFacts _ _ _ (hpre c).1 (hpre c).2.1 (hpre c).2.2
  refine (θ_run Cert.ReferenceIdeal.defs _ _).mono (fun _ h c => ⟨(h c).1.trans (same_q m c (h0 c) (h1 c) (h2 c) (X c)),
      (h c).2.1.trans (same_k m c (h0 c) (h1 c) (h2 c) (X c)), (h c).2.2.1.trans (same_v m c (h0 c) (h1 c) (h2 c) (X c)),
      (h c).2.2.2⟩)
    (Cert.ReferenceIdeal.Value.run (F := Ideal) m' g')

end Cert.Attn
-- ==== Proof.FfnDownX.lean ====
/- The gradient of the input of the feed-forward's second layer: the tiled product is the whole one. -/
module

public import proofs.«01_k».proof.Defs
public import proofs.«01_k».proof.Proof.Gen.FfnDownX.Frame
public import proofs.«01_k».proof.Proof.Gen.FfnDownXIdeal.Value
public import proofs.«01_k».proof.Proof.Gen.FfnDownXRefIdeal.Run
public import Idealize.ShloMosaic.Lib.Pipeline.ValueKit.Point

@[expose] public section
set_option maxRecDepth 16384
noncomputable section
namespace Cert.Products.FfnDownX
open Idealize.ShloMosaic Idealize.ShloMosaic.TcCoe Idealize.SL.Sem

/-- The call runs and keeps its arguments. -/
theorem frame_p : Cert.quiescent_FfnDownX := fun m ρ _ => Cert.FfnDownX.Gen.frame m ρ

/-- So does the call over the extended reals. -/
theorem frame_pi : Cert.quiescent_FfnDownXIdeal := fun m ρ _ => Cert.FfnDownXIdeal.Gen.frame m ρ

/-- The reference runs and keeps its arguments. -/
theorem frame_ri : Cert.quiescent_FfnDownXRefIdeal := fun m ρ _ =>
  (θ_run Cert.FfnDownXRefIdeal.defs _ _).mono (fun r h => And.intro (fun c => (h c).2)
      (Idealize.ShloMosaic.sem_eq_zero_of_no_sems (by decide) r.2))
    (Cert.FfnDownXRefIdeal.Value.run (F := Ideal) m ρ)

section
open Cert.FfnDownXIdeal Cert.FfnDownXIdeal.Gen
/-- Which blocks a grid point takes. -/
theorem idx : ∀ t : Fin grid0.N, win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val] := by decide +kernel
end

/-- The square of the positive part has derivative zero where the argument is not positive, so the choice there
    changes nothing. -/
theorem select_relu (a b u : EReal) : (if 0 < u then a * (b * max u 0) else 0) = a * (b * max u 0) := by
  by_cases h : 0 < u
  · rw [if_pos h]
  · rw [if_neg h, max_eq_right (not_lt.1 h), mul_zero, mul_zero]

/-- Over the extended reals the call's array is the reference's. -/
theorem algebraic : Cert.algebraic_FfnDownXIdeal_FfnDownXRefIdeal := by
  intro m g m' g' hpre hagree
  refine ⟨_, Cert.FfnDownXIdeal.Value.run_blocks (F := Ideal) m g, ?_⟩
  refine (θ_run Cert.FfnDownXRefIdeal.defs _ _).mono (fun _ h c => ⟨(h c).1.trans ?_, (h c).2⟩)
    (Cert.FfnDownXRefIdeal.Value.run (F := Ideal) m' g')
  rw [(hagree c).1, (hagree c).2.1, (hagree c).2.2]
  symm
  open Cert.FfnDownXIdeal Cert.FfnDownXIdeal.Gen in
  refine (dats m 0 c).arrAt_eq_of_covers 3 _ (by decide +kernel) fun t hf y => ?_
  blk_simp
  rw [Cert.FfnDownXIdeal.Gen.after0_3]; frame_out
  pointwise [Cert.FfnDownXIdeal.Gen.k0_pay1]
  refine Eq.trans ?_ (select_relu _ _ _).symm
  obtain ⟨e0, e1, e2, e3⟩ := idx t
  blk_point [Cert.FfnDownXIdeal.Gen.iblk, Cert.FfnDownXIdeal.Gen.V, e0, e1, e2, e3]

end Cert.Products.FfnDownX

end
-- ==== Proof.FfnUpX.lean ====
/- The gradient of the input of the feed-forward's first layer: the tiled product is the whole one. -/
module

public import proofs.«01_k».proof.Defs
public import proofs.«01_k».proof.Proof.Gen.FfnUpX.Frame
public import proofs.«01_k».proof.Proof.Gen.FfnUpXIdeal.Value
public import proofs.«01_k».proof.Proof.Gen.FfnUpXRefIdeal.Run
public import Idealize.ShloMosaic.Lib.Pipeline.ValueKit.Point

@[expose] public section
set_option maxRecDepth 16384
noncomputable section
namespace Cert.Products.FfnUpX
open Idealize.ShloMosaic Idealize.ShloMosaic.TcCoe Idealize.SL.Sem

/-- The call runs and keeps its arguments. -/
theorem frame_p : Cert.quiescent_FfnUpX := fun m ρ _ => Cert.FfnUpX.Gen.frame m ρ

/-- So does the call over the extended reals. -/
theorem frame_pi : Cert.quiescent_FfnUpXIdeal := fun m ρ _ => Cert.FfnUpXIdeal.Gen.frame m ρ

/-- The reference runs and keeps its arguments. -/
theorem frame_ri : Cert.quiescent_FfnUpXRefIdeal := fun m ρ _ =>
  (θ_run Cert.FfnUpXRefIdeal.defs _ _).mono (fun r h => And.intro (fun c => (h c).2)
      (Idealize.ShloMosaic.sem_eq_zero_of_no_sems (by decide) r.2))
    (Cert.FfnUpXRefIdeal.Value.run (F := Ideal) m ρ)

section
open Cert.FfnUpXIdeal Cert.FfnUpXIdeal.Gen
/-- Which blocks a grid point takes. -/
theorem idx : ∀ t : Fin grid0.N, win0_0.index t = ![(grid0.coords t 0).val, 0]
    ∧ win0_1.index t = ![(grid0.coords t 1).val, 0]
    ∧ win0_2.index t = ![(grid0.coords t 0).val, (grid0.coords t 1).val] := by decide +kernel
end

/-- Over the extended reals the call's array is the reference's. -/
theorem algebraic : Cert.algebraic_FfnUpXIdeal_FfnUpXRefIdeal := by
  intro m g m' g' hpre hagree
  refine ⟨_, Cert.FfnUpXIdeal.Value.run_blocks (F := Ideal) m g, ?_⟩
  refine (θ_run Cert.FfnUpXRefIdeal.defs _ _).mono (fun _ h c => ⟨(h c).1.trans ?_, (h c).2⟩)
    (Cert.FfnUpXRefIdeal.Value.run (F := Ideal) m' g')
  rw [(hagree c).1, (hagree c).2]
  symm
  open Cert.FfnUpXIdeal Cert.FfnUpXIdeal.Gen in
  refine (dats m 0 c).arrAt_eq_of_covers 2 _ (by decide +kernel) fun t hf y => ?_
  blk_simp
  rw [Cert.FfnUpXIdeal.Gen.after0_2]; frame_out
  pointwise [Cert.FfnUpXIdeal.Gen.k0_pay1]
  obtain ⟨e0, e1, e2⟩ := idx t
  blk_point [Cert.FfnUpXIdeal.Gen.iblk, Cert.FfnUpXIdeal.Gen.V, e0, e1, e2]

end Cert.Products.FfnUpX

end
-- ==== Proof.OutX.lean ====
/- The gradient of the input of the output projection: the tiled product is the whole one. -/
module

public import proofs.«01_k».proof.Defs
public import proofs.«01_k».proof.Proof.Gen.OutX.Frame
public import proofs.«01_k».proof.Proof.Gen.OutXIdeal.Value
public import proofs.«01_k».proof.Proof.Gen.OutXRefIdeal.Run
public import Idealize.ShloMosaic.Lib.Pipeline.ValueKit.Point

@[expose] public section
set_option maxRecDepth 16384
noncomputable section
namespace Cert.Products.OutX
open Idealize.ShloMosaic Idealize.ShloMosaic.TcCoe Idealize.SL.Sem

/-- The call runs and keeps its arguments. -/
theorem frame_p : Cert.quiescent_OutX := fun m ρ _ => Cert.OutX.Gen.frame m ρ

/-- So does the call over the extended reals. -/
theorem frame_pi : Cert.quiescent_OutXIdeal := fun m ρ _ => Cert.OutXIdeal.Gen.frame m ρ

/-- The reference runs and keeps its arguments. -/
theorem frame_ri : Cert.quiescent_OutXRefIdeal := fun m ρ _ =>
  (θ_run Cert.OutXRefIdeal.defs _ _).mono (fun r h => And.intro (fun c => (h c).2)
      (Idealize.ShloMosaic.sem_eq_zero_of_no_sems (by decide) r.2))
    (Cert.OutXRefIdeal.Value.run (F := Ideal) m ρ)

section
open Cert.OutXIdeal Cert.OutXIdeal.Gen
/-- Which blocks a grid point takes. -/
theorem idx : ∀ t : Fin grid0.N, win0_0.index t = ![(grid0.coords t 0).val, 0]
    ∧ win0_1.index t = ![(grid0.coords t 1).val, 0]
    ∧ win0_2.index t = ![(grid0.coords t 0).val, (grid0.coords t 1).val] := by decide +kernel
end

/-- Over the extended reals the call's array is the reference's. -/
theorem algebraic : Cert.algebraic_OutXIdeal_OutXRefIdeal := by
  intro m g m' g' hpre hagree
  refine ⟨_, Cert.OutXIdeal.Value.run_blocks (F := Ideal) m g, ?_⟩
  refine (θ_run Cert.OutXRefIdeal.defs _ _).mono (fun _ h c => ⟨(h c).1.trans ?_, (h c).2⟩)
    (Cert.OutXRefIdeal.Value.run (F := Ideal) m' g')
  rw [(hagree c).1, (hagree c).2]
  symm
  open Cert.OutXIdeal Cert.OutXIdeal.Gen in
  refine (dats m 0 c).arrAt_eq_of_covers 2 _ (by decide +kernel) fun t hf y => ?_
  blk_simp
  rw [Cert.OutXIdeal.Gen.after0_2]; frame_out
  pointwise [Cert.OutXIdeal.Gen.k0_pay1]
  obtain ⟨e0, e1, e2⟩ := idx t
  blk_point [Cert.OutXIdeal.Gen.iblk, Cert.OutXIdeal.Gen.V, e0, e1, e2]

end Cert.Products.OutX

end
-- ==== Proof.AttX.lean ====
/- The gradient of the input of the attention's projection: the tiled product is the whole one. -/
module

public import proofs.«01_k».proof.Defs
public import proofs.«01_k».proof.Proof.Gen.AttX.Frame
public import proofs.«01_k».proof.Proof.Gen.AttXIdeal.Value
public import proofs.«01_k».proof.Proof.Gen.AttXRefIdeal.Run
public import Idealize.ShloMosaic.Lib.Pipeline.ValueKit.Point

@[expose] public section
set_option maxRecDepth 16384
noncomputable section
namespace Cert.Products.AttX
open Idealize.ShloMosaic Idealize.ShloMosaic.TcCoe Idealize.SL.Sem

/-- The call runs and keeps its arguments. -/
theorem frame_p : Cert.quiescent_AttX := fun m ρ _ => Cert.AttX.Gen.frame m ρ

/-- So does the call over the extended reals. -/
theorem frame_pi : Cert.quiescent_AttXIdeal := fun m ρ _ => Cert.AttXIdeal.Gen.frame m ρ

/-- The reference runs and keeps its arguments. -/
theorem frame_ri : Cert.quiescent_AttXRefIdeal := fun m ρ _ =>
  (θ_run Cert.AttXRefIdeal.defs _ _).mono (fun r h => And.intro (fun c => (h c).2)
      (Idealize.ShloMosaic.sem_eq_zero_of_no_sems (by decide) r.2))
    (Cert.AttXRefIdeal.Value.run (F := Ideal) m ρ)

section
open Cert.AttXIdeal Cert.AttXIdeal.Gen
/-- Which blocks a grid point takes. -/
theorem idx : ∀ t : Fin grid0.N, win0_0.index t = ![(grid0.coords t 0).val, 0]
    ∧ win0_1.index t = ![(grid0.coords t 1).val, 0]
    ∧ win0_2.index t = ![(grid0.coords t 0).val, (grid0.coords t 1).val] := by decide +kernel
end

/-- Over the extended reals the call's array is the reference's. -/
theorem algebraic : Cert.algebraic_AttXIdeal_AttXRefIdeal := by
  intro m g m' g' hpre hagree
  refine ⟨_, Cert.AttXIdeal.Value.run_blocks (F := Ideal) m g, ?_⟩
  refine (θ_run Cert.AttXRefIdeal.defs _ _).mono (fun _ h c => ⟨(h c).1.trans ?_, (h c).2⟩)
    (Cert.AttXRefIdeal.Value.run (F := Ideal) m' g')
  rw [(hagree c).1, (hagree c).2]
  symm
  open Cert.AttXIdeal Cert.AttXIdeal.Gen in
  refine (dats m 0 c).arrAt_eq_of_covers 2 _ (by decide +kernel) fun t hf y => ?_
  blk_simp
  rw [Cert.AttXIdeal.Gen.after0_2]; frame_out
  pointwise [Cert.AttXIdeal.Gen.k0_pay1]
  obtain ⟨e0, e1, e2⟩ := idx t
  blk_point [Cert.AttXIdeal.Gen.iblk, Cert.AttXIdeal.Gen.V, e0, e1, e2]

end Cert.Products.AttX

end
-- ==== Proof.SsmX.lean ====
/- The gradient of the input of the state-space layer's projection: the tiled product is the whole one. -/
module

public import proofs.«01_k».proof.Defs
public import proofs.«01_k».proof.Proof.Gen.SsmX.Frame
public import proofs.«01_k».proof.Proof.Gen.SsmXIdeal.Value
public import proofs.«01_k».proof.Proof.Gen.SsmXRefIdeal.Run
public import Idealize.ShloMosaic.Lib.Pipeline.ValueKit.Point

@[expose] public section
set_option maxRecDepth 16384
noncomputable section
namespace Cert.Products.SsmX
open Idealize.ShloMosaic Idealize.ShloMosaic.TcCoe Idealize.SL.Sem

/-- The call runs and keeps its arguments. -/
theorem frame_p : Cert.quiescent_SsmX := fun m ρ _ => Cert.SsmX.Gen.frame m ρ

/-- So does the call over the extended reals. -/
theorem frame_pi : Cert.quiescent_SsmXIdeal := fun m ρ _ => Cert.SsmXIdeal.Gen.frame m ρ

/-- The reference runs and keeps its arguments. -/
theorem frame_ri : Cert.quiescent_SsmXRefIdeal := fun m ρ _ =>
  (θ_run Cert.SsmXRefIdeal.defs _ _).mono (fun r h => And.intro (fun c => (h c).2)
      (Idealize.ShloMosaic.sem_eq_zero_of_no_sems (by decide) r.2))
    (Cert.SsmXRefIdeal.Value.run (F := Ideal) m ρ)

section
open Cert.SsmXIdeal Cert.SsmXIdeal.Gen
/-- Which blocks a grid point takes. -/
theorem idx : ∀ t : Fin grid0.N, win0_0.index t = ![(grid0.coords t 0).val, 0]
    ∧ win0_1.index t = ![(grid0.coords t 1).val, 0]
    ∧ win0_2.index t = ![(grid0.coords t 0).val, (grid0.coords t 1).val] := by decide +kernel
end

/-- Over the extended reals the call's array is the reference's. -/
theorem algebraic : Cert.algebraic_SsmXIdeal_SsmXRefIdeal := by
  intro m g m' g' hpre hagree
  refine ⟨_, Cert.SsmXIdeal.Value.run_blocks (F := Ideal) m g, ?_⟩
  refine (θ_run Cert.SsmXRefIdeal.defs _ _).mono (fun _ h c => ⟨(h c).1.trans ?_, (h c).2⟩)
    (Cert.SsmXRefIdeal.Value.run (F := Ideal) m' g')
  rw [(hagree c).1, (hagree c).2]
  symm
  open Cert.SsmXIdeal Cert.SsmXIdeal.Gen in
  refine (dats m 0 c).arrAt_eq_of_covers 2 _ (by decide +kernel) fun t hf y => ?_
  blk_simp
  rw [Cert.SsmXIdeal.Gen.after0_2]; frame_out
  pointwise [Cert.SsmXIdeal.Gen.k0_pay1]
  obtain ⟨e0, e1, e2⟩ := idx t
  blk_point [Cert.SsmXIdeal.Gen.iblk, Cert.SsmXIdeal.Gen.V, e0, e1, e2]

end Cert.Products.SsmX

end
-- ==== Proof.InX.lean ====
/- The gradient of the input of the input projection: the tiled product is the whole one. -/
module

public import proofs.«01_k».proof.Defs
public import proofs.«01_k».proof.Proof.Gen.InX.Frame
public import proofs.«01_k».proof.Proof.Gen.InXIdeal.Value
public import proofs.«01_k».proof.Proof.Gen.InXRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.InX
open Idealize.ShloMosaic Idealize.ShloMosaic.TcCoe Idealize.SL.Sem

/-- The call runs and keeps its arguments. -/
theorem frame_p : Cert.quiescent_InX := fun m ρ _ => Cert.InX.Gen.frame m ρ

/-- So does the call over the extended reals. -/
theorem frame_pi : Cert.quiescent_InXIdeal := fun m ρ _ => Cert.InXIdeal.Gen.frame m ρ

/-- The reference runs and keeps its arguments. -/
theorem frame_ri : Cert.quiescent_InXRefIdeal := fun m ρ _ =>
  (θ_run Cert.InXRefIdeal.defs _ _).mono (fun r h => And.intro (fun c => (h c).2)
      (Idealize.ShloMosaic.sem_eq_zero_of_no_sems (by decide) r.2))
    (Cert.InXRefIdeal.Value.run (F := Ideal) m ρ)

section
open Cert.InXIdeal Cert.InXIdeal.Gen
/-- Which blocks a grid point takes. -/
theorem idx : ∀ t : Fin grid0.N, win0_0.index t = ![(grid0.coords t 0).val, (grid0.coords t 2).val]
    ∧ win0_1.index t = ![(grid0.coords t 1).val, (grid0.coords t 2).val]
    ∧ win0_2.index t = ![(grid0.coords t 0).val, (grid0.coords t 1).val] := by decide +kernel

/-- The 3 points of a run have one block of the result, and walk the blocks of the rows summed over. -/
theorem run_coords : ∀ (t : Fin grid0.N) (s : Fin 3), t.val % 3 = 2 → ∀ h : 3 * (t.val / 3) + s.val < grid0.N,
    (grid0.coords ⟨3 * (t.val / 3) + s.val, h⟩ 0).val = (grid0.coords t 0).val
    ∧ (grid0.coords ⟨3 * (t.val / 3) + s.val, h⟩ 1).val = (grid0.coords t 1).val
    ∧ (grid0.coords ⟨3 * (t.val / 3) + s.val, h⟩ 2).val = s.val := by decide +kernel

variable (m : (ℓ : Loc nD τ sig) → Buf (Elt Ideal) ℓ)

/-- What a point adds to the running sum. -/
def term (c : Dev nD) (t : Fin cfg0.N) (j : S1024x1024.Idx) : EReal := k0_pay1 (F := Ideal) (iblk m c 0 t) (iblk m c 1 t) j

/-- The first point of a run stores its own product. -/
theorem acc_first (c : Dev nD) (t : Fin cfg0.N) (h : t.val % 3 = 0) (j : S1024x1024.Idx) :
    ((outsAt0 m c t.val t.isLt).2 j : EReal) = 0 + term m c t j := by
  rw [outsAt0_A m c t h (by omega) (by omega)]; frame_out
  pointwise [k0_pay2, term]

/-- The later points add theirs. -/
theorem acc_next (c : Dev nD) (t : Fin cfg0.N) (h : ¬t.val % 3 = 0) (j : S1024x1024.Idx) :
    ((outsAt0 m c t.val t.isLt).2 j : EReal)
      = (outsAt0 m c (t.val - 1) (Nat.lt_of_le_of_lt (Nat.sub_le _ _) t.isLt)).2 j + term m c t j := by
  by_cases h2 : t.val % 3 = 2
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 3 = 2) (j : S1024x1024.Idx) :
    ((outsAt0 m c t.val t.isLt).1 j : EReal)
      = ∑ s : Fin 3, term m c ⟨3 * (t.val / 3) + s.val, Pipeline.run_point_lt_of_flush t h2 s⟩ j := by
  have e : ((outsAt0 m c t.val t.isLt).1 j : EReal) = (outsAt0 m c t.val t.isLt).2 j := by
    rw [outsAt0_C m c t (by omega) (by omega) h2]; frame_out
  refine e.trans ?_
  rw [Pipeline.eq_sum_fin_of_reset_step_apply_of_flush (M := EReal) (fun n h => (outsAt0 m c n h).2) 3 (fun _ => 0) (term m c)
    (fun t h j => acc_first m c t h j) (fun t h j => acc_next m c t h j) t h2 j, zero_add]
end

/-- Over the extended reals the call's array is the reference's. -/
theorem algebraic : Cert.algebraic_InXIdeal_InXRefIdeal := by
  intro m g m' g' hpre hagree
  refine ⟨_, Cert.InXIdeal.Value.run_blocks (F := Ideal) m g, ?_⟩
  refine (θ_run Cert.InXRefIdeal.defs _ _).mono (fun _ h c => ⟨(h c).1.trans ?_, (h c).2⟩)
    (Cert.InXRefIdeal.Value.run (F := Ideal) m' g')
  rw [(hagree c).1, (hagree c).2]
  symm
  open Cert.InXIdeal Cert.InXIdeal.Gen in
  refine (dats m 0 c).arrAt_eq_of_covers 2 _ (by decide +kernel) fun t hf y => ?_
  have hm := (Cert.InXIdeal.Gen.flush0_2 t).mp hf
  blk_simp
  rw [Cert.InXIdeal.Gen.after0_2]
  refine (out_last m c t hm y).trans ?_
  pointwise [term, Cert.InXIdeal.Gen.k0_pay1]
  obtain ⟨e0, e1, e2⟩ := idx t
  refine Fin.sum_mul_add_congr fun s k hl => ?_
  obtain ⟨f0, f1, f2⟩ := idx ⟨3 * (t.val / 3) + s.val, Pipeline.run_point_lt_of_flush t hm s⟩
  obtain ⟨c0, c1, c2⟩ := run_coords t s hm (Pipeline.run_point_lt_of_flush t hm s)
  rw [c0, c2] at f0; rw [c1, c2] at f1
  blk_point [Cert.InXIdeal.Gen.iblk, Cert.InXIdeal.Gen.V, f0, f1, e2]

end Cert.Products.InX

end
-- ==== Proof.FfnDownW.lean ====
/- The gradient of the weight of the feed-forward's second layer: the tiled product is the whole one. -/
module

public import proofs.«01_k».proof.Defs
public import proofs.«01_k».proof.Proof.Gen.FfnDownW.Frame
public import proofs.«01_k».proof.Proof.Gen.FfnDownWIdeal.Value
public import proofs.«01_k».proof.Proof.Gen.FfnDownWRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.FfnDownW
open Idealize.ShloMosaic Idealize.ShloMosaic.TcCoe Idealize.SL.Sem

/-- The call runs and keeps its arguments. -/
theorem frame_p : Cert.quiescent_FfnDownW := fun m ρ _ => Cert.FfnDownW.Gen.frame m ρ

/-- So does the call over the extended reals. -/
theorem frame_pi : Cert.quiescent_FfnDownWIdeal := fun m ρ _ => Cert.FfnDownWIdeal.Gen.frame m ρ

/-- The reference runs and keeps its arguments. -/
theorem frame_ri : Cert.quiescent_FfnDownWRefIdeal := fun m ρ _ =>
  (θ_run Cert.FfnDownWRefIdeal.defs _ _).mono (fun r h => And.intro (fun c => (h c).2)
      (Idealize.ShloMosaic.sem_eq_zero_of_no_sems (by decide) r.2))
    (Cert.FfnDownWRefIdeal.Value.run (F := Ideal) m ρ)

section
open Cert.FfnDownWIdeal Cert.FfnDownWIdeal.Gen
/-- Which blocks a grid point takes. -/
theorem idx : ∀ t : Fin grid0.N, win0_0.index t = ![(grid0.coords t 2).val, (grid0.coords t 0).val]
    ∧ win0_1.index t = ![(grid0.coords t 2).val, (grid0.coords t 1).val]
    ∧ win0_2.index t = ![(grid0.coords t 0).val, (grid0.coords t 1).val] := by decide +kernel

/-- The 4 points of a run have one block of the result, and walk the blocks of the rows summed over. -/
theorem run_coords : ∀ (t : Fin grid0.N) (s : Fin 4), t.val % 4 = 3 → ∀ h : 4 * (t.val / 4) + s.val < grid0.N,
    (grid0.coords ⟨4 * (t.val / 4) + s.val, h⟩ 0).val = (grid0.coords t 0).val
    ∧ (grid0.coords ⟨4 * (t.val / 4) + s.val, h⟩ 1).val = (grid0.coords t 1).val
    ∧ (grid0.coords ⟨4 * (t.val / 4) + s.val, h⟩ 2).val = s.val := by decide +kernel

variable (m : (ℓ : Loc nD τ sig) → Buf (Elt Ideal) ℓ)

/-- What a point adds to the running sum. -/
def term (c : Dev nD) (t : Fin cfg0.N) (j : S1024x1024.Idx) : EReal := k0_pay1 (F := Ideal) (iblk m c 0 t) (iblk m c 1 t) j

/-- The first point of a run stores its own product. -/
theorem acc_first (c : Dev nD) (t : Fin cfg0.N) (h : t.val % 4 = 0) (j : S1024x1024.Idx) :
    ((outsAt0 m c t.val t.isLt).2 j : EReal) = 0 + term m c t j := by
  rw [outsAt0_A m c t h (by omega) (by omega)]; frame_out
  pointwise [k0_pay2, term]

/-- The later points add theirs. -/
theorem acc_next (c : Dev nD) (t : Fin cfg0.N) (h : ¬t.val % 4 = 0) (j : S1024x1024.Idx) :
    ((outsAt0 m c t.val t.isLt).2 j : EReal)
      = (outsAt0 m c (t.val - 1) (Nat.lt_of_le_of_lt (Nat.sub_le _ _) t.isLt)).2 j + term m c t j := by
  by_cases h2 : t.val % 4 = 3
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 4 = 3) (j : S1024x1024.Idx) :
    ((outsAt0 m c t.val t.isLt).1 j : EReal)
      = ∑ s : Fin 4, term m c ⟨4 * (t.val / 4) + s.val, Pipeline.run_point_lt_of_flush t h2 s⟩ j := by
  have e : ((outsAt0 m c t.val t.isLt).1 j : EReal) = (outsAt0 m c t.val t.isLt).2 j := by
    rw [outsAt0_C m c t (by omega) (by omega) h2]; frame_out
    pointwise [k0_pay4]
  refine e.trans ?_
  rw [Pipeline.eq_sum_fin_of_reset_step_apply_of_flush (M := EReal) (fun n h => (outsAt0 m c n h).2) 4 (fun _ => 0) (term m c)
    (fun t h j => acc_first m c t h j) (fun t h j => acc_next m c t h j) t h2 j, zero_add]
end

/-- Over the extended reals the call's array is the reference's. -/
theorem algebraic : Cert.algebraic_FfnDownWIdeal_FfnDownWRefIdeal := by
  intro m g m' g' hpre hagree
  refine ⟨_, Cert.FfnDownWIdeal.Value.run_blocks (F := Ideal) m g, ?_⟩
  refine (θ_run Cert.FfnDownWRefIdeal.defs _ _).mono (fun _ h c => ⟨(h c).1.trans ?_, (h c).2⟩)
    (Cert.FfnDownWRefIdeal.Value.run (F := Ideal) m' g')
  rw [(hagree c).1, (hagree c).2]
  symm
  open Cert.FfnDownWIdeal Cert.FfnDownWIdeal.Gen in
  refine (dats m 0 c).arrAt_eq_of_covers 2 _ (by decide +kernel) fun t hf y => ?_
  have hm := (Cert.FfnDownWIdeal.Gen.flush0_2 t).mp hf
  blk_simp
  rw [Cert.FfnDownWIdeal.Gen.after0_2]
  refine (out_last m c t hm y).trans ?_
  pointwise [term, Cert.FfnDownWIdeal.Gen.k0_pay1]
  obtain ⟨e0, e1, e2⟩ := idx t
  refine Fin.sum_mul_add_congr fun s k hl => ?_
  obtain ⟨f0, f1, f2⟩ := idx ⟨4 * (t.val / 4) + s.val, Pipeline.run_point_lt_of_flush t hm s⟩
  obtain ⟨c0, c1, c2⟩ := run_coords t s hm (Pipeline.run_point_lt_of_flush t hm s)
  rw [c0, c2] at f0; rw [c1, c2] at f1
  refine (mul_comm _ _).trans ?_
  blk_point [Cert.FfnDownWIdeal.Gen.iblk, Cert.FfnDownWIdeal.Gen.V, f0, f1, e2]

end Cert.Products.FfnDownW

end
-- ==== Proof.FfnUpW.lean ====
/- The gradient of the weight of the feed-forward's first layer: the tiled product is the whole one. -/
module

public import proofs.«01_k».proof.Defs
public import proofs.«01_k».proof.Proof.Gen.FfnUpW.Frame
public import proofs.«01_k».proof.Proof.Gen.FfnUpWIdeal.Value
public import proofs.«01_k».proof.Proof.Gen.FfnUpWRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.FfnUpW
open Idealize.ShloMosaic Idealize.ShloMosaic.TcCoe Idealize.SL.Sem

/-- The call runs and keeps its arguments. -/
theorem frame_p : Cert.quiescent_FfnUpW := fun m ρ _ => Cert.FfnUpW.Gen.frame m ρ

/-- So does the call over the extended reals. -/
theorem frame_pi : Cert.quiescent_FfnUpWIdeal := fun m ρ _ => Cert.FfnUpWIdeal.Gen.frame m ρ

/-- The reference runs and keeps its arguments. -/
theorem frame_ri : Cert.quiescent_FfnUpWRefIdeal := fun m ρ _ =>
  (θ_run Cert.FfnUpWRefIdeal.defs _ _).mono (fun r h => And.intro (fun c => (h c).2)
      (Idealize.ShloMosaic.sem_eq_zero_of_no_sems (by decide) r.2))
    (Cert.FfnUpWRefIdeal.Value.run (F := Ideal) m ρ)

section
open Cert.FfnUpWIdeal Cert.FfnUpWIdeal.Gen
/-- Which blocks a grid point takes. -/
theorem idx : ∀ t : Fin grid0.N, win0_0.index t = ![(grid0.coords t 2).val, (grid0.coords t 0).val]
    ∧ win0_1.index t = ![(grid0.coords t 2).val, (grid0.coords t 1).val]
    ∧ win0_2.index t = ![(grid0.coords t 1).val, (grid0.coords t 0).val, 0] := by decide +kernel

/-- The 4 points of a run have one block of the result, and walk the blocks of the rows summed over. -/
theorem run_coords : ∀ (t : Fin grid0.N) (s : Fin 4), t.val % 4 = 3 → ∀ h : 4 * (t.val / 4) + s.val < grid0.N,
    (grid0.coords ⟨4 * (t.val / 4) + s.val, h⟩ 0).val = (grid0.coords t 0).val
    ∧ (grid0.coords ⟨4 * (t.val / 4) + s.val, h⟩ 1).val = (grid0.coords t 1).val
    ∧ (grid0.coords ⟨4 * (t.val / 4) + s.val, h⟩ 2).val = s.val := by decide +kernel

variable (m : (ℓ : Loc nD τ sig) → Buf (Elt Ideal) ℓ)

/-- What a point adds to the running sum. -/
def term (c : Dev nD) (t : Fin cfg0.N) (j : S1024x512.Idx) : EReal := k0_pay1 (F := Ideal) (iblk m c 0 t) (iblk m c 1 t) j

/-- The first point of a run stores its own product. -/
theorem acc_first (c : Dev nD) (t : Fin cfg0.N) (h : t.val % 4 = 0) (j : S1024x512.Idx) :
    ((outsAt0 m c t.val t.isLt).2 j : EReal) = 0 + term m c t j := by
  rw [outsAt0_A m c t h (by omega) (by omega)]; frame_out
  pointwise [k0_pay2, term]

/-- The later points add theirs. -/
theorem acc_next (c : Dev nD) (t : Fin cfg0.N) (h : ¬t.val % 4 = 0) (j : S1024x512.Idx) :
    ((outsAt0 m c t.val t.isLt).2 j : EReal)
      = (outsAt0 m c (t.val - 1) (Nat.lt_of_le_of_lt (Nat.sub_le _ _) t.isLt)).2 j + term m c t j := by
  by_cases h2 : t.val % 4 = 3
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 4 = 3) (j : S1x1024x512.Idx) :
    ((outsAt0 m c t.val t.isLt).1 j : EReal)
      = ∑ s : Fin 4, term m c ⟨4 * (t.val / 4) + s.val, Pipeline.run_point_lt_of_flush t h2 s⟩ (ix2 (j 1) (j 2)) := by
  have e : ((outsAt0 m c t.val t.isLt).1 j : EReal) = (outsAt0 m c t.val t.isLt).2 (ix2 (j 1) (j 2)) := by
    rw [outsAt0_C m c t (by omega) (by omega) h2]; frame_out
    pointwise [k0_pay4]
  refine e.trans ?_
  rw [Pipeline.eq_sum_fin_of_reset_step_apply_of_flush (M := EReal) (fun n h => (outsAt0 m c n h).2) 4 (fun _ => 0) (term m c)
    (fun t h j => acc_first m c t h j) (fun t h j => acc_next m c t h j) t h2 (ix2 (j 1) (j 2)), zero_add]
end

/-- Over the extended reals the call's array is the reference's. -/
theorem algebraic : Cert.algebraic_FfnUpWIdeal_FfnUpWRefIdeal := by
  intro m g m' g' hpre hagree
  refine ⟨_, Cert.FfnUpWIdeal.Value.run_blocks (F := Ideal) m g, ?_⟩
  refine (θ_run Cert.FfnUpWRefIdeal.defs _ _).mono (fun _ h c => ⟨(h c).1.trans ?_, (h c).2⟩)
    (Cert.FfnUpWRefIdeal.Value.run (F := Ideal) m' g')
  rw [(hagree c).1, (hagree c).2]
  symm
  open Cert.FfnUpWIdeal Cert.FfnUpWIdeal.Gen in
  refine (dats m 0 c).arrAt_eq_of_covers 2 _ (by decide +kernel) fun t hf y => ?_
  have hm := (Cert.FfnUpWIdeal.Gen.flush0_2 t).mp hf
  blk_simp
  rw [Cert.FfnUpWIdeal.Gen.after0_2]
  refine (out_last m c t hm y).trans ?_
  pointwise [term, Cert.FfnUpWIdeal.Gen.k0_pay1]
  obtain ⟨e0, e1, e2⟩ := idx t
  refine Fin.sum_mul_add_congr fun s k hl => ?_
  obtain ⟨f0, f1, f2⟩ := idx ⟨4 * (t.val / 4) + s.val, Pipeline.run_point_lt_of_flush t hm s⟩
  obtain ⟨c0, c1, c2⟩ := run_coords t s hm (Pipeline.run_point_lt_of_flush t hm s)
  rw [c0, c2] at f0; rw [c1, c2] at f1
  refine (mul_comm _ _).trans ?_
  blk_point [Cert.FfnUpWIdeal.Gen.iblk, Cert.FfnUpWIdeal.Gen.V, f0, f1, e2]

end Cert.Products.FfnUpW

end
-- ==== Proof.OutW.lean ====
/- The gradient of the output projection's weight: the tiled product is the whole one. -/
module

public import proofs.«01_k».proof.Defs
public import proofs.«01_k».proof.Proof.Gen.OutW.Frame
public import proofs.«01_k».proof.Proof.Gen.OutWIdeal.Value
public import proofs.«01_k».proof.Proof.Gen.OutWRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.OutW
open Idealize.ShloMosaic Idealize.ShloMosaic.TcCoe Idealize.SL.Sem

/-- The call runs and keeps its arguments. -/
theorem frame_p : Cert.quiescent_OutW := fun m ρ _ => Cert.OutW.Gen.frame m ρ

/-- So does the call over the extended reals. -/
theorem frame_pi : Cert.quiescent_OutWIdeal := fun m ρ _ => Cert.OutWIdeal.Gen.frame m ρ

/-- The reference runs and keeps its arguments. -/
theorem frame_ri : Cert.quiescent_OutWRefIdeal := fun m ρ _ =>
  (θ_run Cert.OutWRefIdeal.defs _ _).mono (fun r h => And.intro (fun c => (h c).2)
      (Idealize.ShloMosaic.sem_eq_zero_of_no_sems (by decide) r.2))
    (Cert.OutWRefIdeal.Value.run (F := Ideal) m ρ)

section
open Cert.OutWIdeal Cert.OutWIdeal.Gen
/-- Which blocks a grid point takes. -/
theorem idx : ∀ t : Fin grid0.N, win0_0.index t = ![(grid0.coords t 2).val, (grid0.coords t 0).val]
    ∧ win0_1.index t = ![(grid0.coords t 2).val, (grid0.coords t 1).val]
    ∧ win0_2.index t = ![(grid0.coords t 0).val, (grid0.coords t 1).val] := by decide +kernel

/-- The grid has 4 points. -/
theorem lt_points (t : Fin cfg0.N) : t.val < 4 := Nat.lt_of_lt_of_eq t.isLt N_0

/-- The 4 points of a run have one block of the result, and walk the blocks of the rows summed over. -/
theorem run_coords : ∀ (t : Fin grid0.N) (s : Fin 4), t.val % 4 = 3 → ∀ h : 4 * (t.val / 4) + s.val < grid0.N,
    (grid0.coords ⟨4 * (t.val / 4) + s.val, h⟩ 0).val = (grid0.coords t 0).val
    ∧ (grid0.coords ⟨4 * (t.val / 4) + s.val, h⟩ 1).val = (grid0.coords t 1).val
    ∧ (grid0.coords ⟨4 * (t.val / 4) + s.val, h⟩ 2).val = s.val := by decide +kernel

variable (m : (ℓ : Loc nD τ sig) → Buf (Elt Ideal) ℓ)

/-- What a point adds to the running sum. -/
def term (c : Dev nD) (t : Fin cfg0.N) (j : S1024x1024.Idx) : EReal := k0_pay1 (F := Ideal) (iblk m c 0 t) (iblk m c 1 t) j

/-- The first point of a run stores its own product. -/
theorem acc_first (c : Dev nD) (t : Fin cfg0.N) (h : t.val % 4 = 0) (j : S1024x1024.Idx) :
    ((outsAt0 m c t.val t.isLt).2 j : EReal) = 0 + term m c t j := by
  have hN := lt_points t
  rw [outsAt0_A m c t h (by omega) (by omega)]; frame_out
  pointwise [k0_pay2, term]

/-- The later points add theirs. -/
theorem acc_next (c : Dev nD) (t : Fin cfg0.N) (h : ¬t.val % 4 = 0) (j : S1024x1024.Idx) :
    ((outsAt0 m c t.val t.isLt).2 j : EReal)
      = (outsAt0 m c (t.val - 1) (Nat.lt_of_le_of_lt (Nat.sub_le _ _) t.isLt)).2 j + term m c t j := by
  have hN := lt_points t
  by_cases h2 : t.val % 4 = 3
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 4 = 3) (j : S1024x1024.Idx) :
    ((outsAt0 m c t.val t.isLt).1 j : EReal)
      = ∑ s : Fin 4, term m c ⟨4 * (t.val / 4) + s.val, Pipeline.run_point_lt_of_flush t h2 s⟩ j := by
  have hN := lt_points t
  have e : ((outsAt0 m c t.val t.isLt).1 j : EReal) = (outsAt0 m c t.val t.isLt).2 j := by
    rw [outsAt0_C m c t (by omega) (by omega) h2]; frame_out
    pointwise [k0_pay4]
  refine e.trans ?_
  rw [Pipeline.eq_sum_fin_of_reset_step_apply_of_flush (M := EReal) (fun n h => (outsAt0 m c n h).2) 4 (fun _ => 0) (term m c)
    (fun t h j => acc_first m c t h j) (fun t h j => acc_next m c t h j) t h2 j, zero_add]
end

/-- Over the extended reals the call's array is the reference's. -/
theorem algebraic : Cert.algebraic_OutWIdeal_OutWRefIdeal := by
  intro m g m' g' hpre hagree
  refine ⟨_, Cert.OutWIdeal.Value.run_blocks (F := Ideal) m g, ?_⟩
  refine (θ_run Cert.OutWRefIdeal.defs _ _).mono (fun _ h c => ⟨(h c).1.trans ?_, (h c).2⟩)
    (Cert.OutWRefIdeal.Value.run (F := Ideal) m' g')
  rw [(hagree c).1, (hagree c).2]
  symm
  open Cert.OutWIdeal Cert.OutWIdeal.Gen in
  refine (dats m 0 c).arrAt_eq_of_covers 2 _ (by decide +kernel) fun t hf y => ?_
  have hm := (Cert.OutWIdeal.Gen.flush0_2 t).mp hf
  blk_simp
  rw [Cert.OutWIdeal.Gen.after0_2]
  refine (out_last m c t hm y).trans ?_
  pointwise [term, Cert.OutWIdeal.Gen.k0_pay1]
  obtain ⟨e0, e1, e2⟩ := idx t
  refine Fin.sum_mul_add_congr fun s k hl => ?_
  obtain ⟨f0, f1, f2⟩ := idx ⟨4 * (t.val / 4) + s.val, Pipeline.run_point_lt_of_flush t hm s⟩
  obtain ⟨c0, c1, c2⟩ := run_coords t s hm (Pipeline.run_point_lt_of_flush t hm s)
  rw [c0, c2] at f0; rw [c1, c2] at f1
  refine (mul_comm _ _).trans ?_
  blk_point [Cert.OutWIdeal.Gen.iblk, Cert.OutWIdeal.Gen.V, f0, f1, e2]

end Cert.Products.OutW

end
-- ==== Proof.AttW.lean ====
/- The gradient of the weight of the attention's projection: the tiled product is the whole one. -/
module

public import proofs.«01_k».proof.Defs
public import proofs.«01_k».proof.Proof.Gen.AttW.Frame
public import proofs.«01_k».proof.Proof.Gen.AttWIdeal.Value
public import proofs.«01_k».proof.Proof.Gen.AttWRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.AttW
open Idealize.ShloMosaic Idealize.ShloMosaic.TcCoe Idealize.SL.Sem

/-- The call runs and keeps its arguments. -/
theorem frame_p : Cert.quiescent_AttW := fun m ρ _ => Cert.AttW.Gen.frame m ρ

/-- So does the call over the extended reals. -/
theorem frame_pi : Cert.quiescent_AttWIdeal := fun m ρ _ => Cert.AttWIdeal.Gen.frame m ρ

/-- The reference runs and keeps its arguments. -/
theorem frame_ri : Cert.quiescent_AttWRefIdeal := fun m ρ _ =>
  (θ_run Cert.AttWRefIdeal.defs _ _).mono (fun r h => And.intro (fun c => (h c).2)
      (Idealize.ShloMosaic.sem_eq_zero_of_no_sems (by decide) r.2))
    (Cert.AttWRefIdeal.Value.run (F := Ideal) m ρ)

section
open Cert.AttWIdeal Cert.AttWIdeal.Gen
/-- Which blocks a grid point takes. -/
theorem idx : ∀ t : Fin grid0.N, win0_0.index t = ![(grid0.coords t 2).val, (grid0.coords t 0).val]
    ∧ win0_1.index t = ![(grid0.coords t 2).val, (grid0.coords t 1).val]
    ∧ win0_2.index t = ![(grid0.coords t 0).val, (grid0.coords t 1).val] := by decide +kernel

/-- The grid has 4 points. -/
theorem lt_points (t : Fin cfg0.N) : t.val < 4 := Nat.lt_of_lt_of_eq t.isLt N_0

/-- The 4 points of a run have one block of the result, and walk the blocks of the rows summed over. -/
theorem run_coords : ∀ (t : Fin grid0.N) (s : Fin 4), t.val % 4 = 3 → ∀ h : 4 * (t.val / 4) + s.val < grid0.N,
    (grid0.coords ⟨4 * (t.val / 4) + s.val, h⟩ 0).val = (grid0.coords t 0).val
    ∧ (grid0.coords ⟨4 * (t.val / 4) + s.val, h⟩ 1).val = (grid0.coords t 1).val
    ∧ (grid0.coords ⟨4 * (t.val / 4) + s.val, h⟩ 2).val = s.val := by decide +kernel

variable (m : (ℓ : Loc nD τ sig) → Buf (Elt Ideal) ℓ)

/-- What a point adds to the running sum. -/
def term (c : Dev nD) (t : Fin cfg0.N) (j : S768x1024.Idx) : EReal := k0_pay1 (F := Ideal) (iblk m c 0 t) (iblk m c 1 t) j

/-- The first point of a run stores its own product. -/
theorem acc_first (c : Dev nD) (t : Fin cfg0.N) (h : t.val % 4 = 0) (j : S768x1024.Idx) :
    ((outsAt0 m c t.val t.isLt).2 j : EReal) = 0 + term m c t j := by
  have hN := lt_points t
  rw [outsAt0_A m c t h (by omega) (by omega)]; frame_out
  pointwise [k0_pay2, term]

/-- The later points add theirs. -/
theorem acc_next (c : Dev nD) (t : Fin cfg0.N) (h : ¬t.val % 4 = 0) (j : S768x1024.Idx) :
    ((outsAt0 m c t.val t.isLt).2 j : EReal)
      = (outsAt0 m c (t.val - 1) (Nat.lt_of_le_of_lt (Nat.sub_le _ _) t.isLt)).2 j + term m c t j := by
  have hN := lt_points t
  by_cases h2 : t.val % 4 = 3
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 4 = 3) (j : S768x1024.Idx) :
    ((outsAt0 m c t.val t.isLt).1 j : EReal)
      = ∑ s : Fin 4, term m c ⟨4 * (t.val / 4) + s.val, Pipeline.run_point_lt_of_flush t h2 s⟩ j := by
  have hN := lt_points t
  have e : ((outsAt0 m c t.val t.isLt).1 j : EReal) = (outsAt0 m c t.val t.isLt).2 j := by
    rw [outsAt0_C m c t (by omega) (by omega) h2]; frame_out
    pointwise [k0_pay4]
  refine e.trans ?_
  rw [Pipeline.eq_sum_fin_of_reset_step_apply_of_flush (M := EReal) (fun n h => (outsAt0 m c n h).2) 4 (fun _ => 0) (term m c)
    (fun t h j => acc_first m c t h j) (fun t h j => acc_next m c t h j) t h2 j, zero_add]
end

/-- Over the extended reals the call's array is the reference's. -/
theorem algebraic : Cert.algebraic_AttWIdeal_AttWRefIdeal := by
  intro m g m' g' hpre hagree
  refine ⟨_, Cert.AttWIdeal.Value.run_blocks (F := Ideal) m g, ?_⟩
  refine (θ_run Cert.AttWRefIdeal.defs _ _).mono (fun _ h c => ⟨(h c).1.trans ?_, (h c).2⟩)
    (Cert.AttWRefIdeal.Value.run (F := Ideal) m' g')
  rw [(hagree c).1, (hagree c).2]
  symm
  open Cert.AttWIdeal Cert.AttWIdeal.Gen in
  refine (dats m 0 c).arrAt_eq_of_covers 2 _ (by decide +kernel) fun t hf y => ?_
  have hm := (Cert.AttWIdeal.Gen.flush0_2 t).mp hf
  blk_simp
  rw [Cert.AttWIdeal.Gen.after0_2]
  refine (out_last m c t hm y).trans ?_
  pointwise [term, Cert.AttWIdeal.Gen.k0_pay1]
  obtain ⟨e0, e1, e2⟩ := idx t
  refine Fin.sum_mul_add_congr fun s k hl => ?_
  obtain ⟨f0, f1, f2⟩ := idx ⟨4 * (t.val / 4) + s.val, Pipeline.run_point_lt_of_flush t hm s⟩
  obtain ⟨c0, c1, c2⟩ := run_coords t s hm (Pipeline.run_point_lt_of_flush t hm s)
  rw [c0, c2] at f0; rw [c1, c2] at f1
  refine (mul_comm _ _).trans ?_
  blk_point [Cert.AttWIdeal.Gen.iblk, Cert.AttWIdeal.Gen.V, f0, f1, e2]

end Cert.Products.AttW

end
-- ==== Proof.SsmW.lean ====
/- The gradient of the weight of the state-space layer's projection: the tiled product is the whole one. -/
module

public import proofs.«01_k».proof.Defs
public import proofs.«01_k».proof.Proof.Gen.SsmW.Frame
public import proofs.«01_k».proof.Proof.Gen.SsmWIdeal.Value
public import proofs.«01_k».proof.Proof.Gen.SsmWRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.SsmW
open Idealize.ShloMosaic Idealize.ShloMosaic.TcCoe Idealize.SL.Sem

/-- The call runs and keeps its arguments. -/
theorem frame_p : Cert.quiescent_SsmW := fun m ρ _ => Cert.SsmW.Gen.frame m ρ

/-- So does the call over the extended reals. -/
theorem frame_pi : Cert.quiescent_SsmWIdeal := fun m ρ _ => Cert.SsmWIdeal.Gen.frame m ρ

/-- The reference runs and keeps its arguments. -/
theorem frame_ri : Cert.quiescent_SsmWRefIdeal := fun m ρ _ =>
  (θ_run Cert.SsmWRefIdeal.defs _ _).mono (fun r h => And.intro (fun c => (h c).2)
      (Idealize.ShloMosaic.sem_eq_zero_of_no_sems (by decide) r.2))
    (Cert.SsmWRefIdeal.Value.run (F := Ideal) m ρ)

section
open Cert.SsmWIdeal Cert.SsmWIdeal.Gen
/-- Which blocks a grid point takes. -/
theorem idx : ∀ t : Fin grid0.N, win0_0.index t = ![(grid0.coords t 2).val, (grid0.coords t 0).val]
    ∧ win0_1.index t = ![(grid0.coords t 2).val, (grid0.coords t 1).val]
    ∧ win0_2.index t = ![(grid0.coords t 0).val, (grid0.coords t 1).val] := by decide +kernel

/-- The 4 points of a run have one block of the result, and walk the blocks of the rows summed over. -/
theorem run_coords : ∀ (t : Fin grid0.N) (s : Fin 4), t.val % 4 = 3 → ∀ h : 4 * (t.val / 4) + s.val < grid0.N,
    (grid0.coords ⟨4 * (t.val / 4) + s.val, h⟩ 0).val = (grid0.coords t 0).val
    ∧ (grid0.coords ⟨4 * (t.val / 4) + s.val, h⟩ 1).val = (grid0.coords t 1).val
    ∧ (grid0.coords ⟨4 * (t.val / 4) + s.val, h⟩ 2).val = s.val := by decide +kernel

variable (m : (ℓ : Loc nD τ sig) → Buf (Elt Ideal) ℓ)

/-- What a point adds to the running sum. -/
def term (c : Dev nD) (t : Fin cfg0.N) (j : S1024x1024.Idx) : EReal := k0_pay1 (F := Ideal) (iblk m c 0 t) (iblk m c 1 t) j

/-- The first point of a run stores its own product. -/
theorem acc_first (c : Dev nD) (t : Fin cfg0.N) (h : t.val % 4 = 0) (j : S1024x1024.Idx) :
    ((outsAt0 m c t.val t.isLt).2 j : EReal) = 0 + term m c t j := by
  rw [outsAt0_A m c t h (by omega) (by omega)]; frame_out
  pointwise [k0_pay2, term]

/-- The later points add theirs. -/
theorem acc_next (c : Dev nD) (t : Fin cfg0.N) (h : ¬t.val % 4 = 0) (j : S1024x1024.Idx) :
    ((outsAt0 m c t.val t.isLt).2 j : EReal)
      = (outsAt0 m c (t.val - 1) (Nat.lt_of_le_of_lt (Nat.sub_le _ _) t.isLt)).2 j + term m c t j := by
  by_cases h2 : t.val % 4 = 3
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 4 = 3) (j : S1024x1024.Idx) :
    ((outsAt0 m c t.val t.isLt).1 j : EReal)
      = ∑ s : Fin 4, term m c ⟨4 * (t.val / 4) + s.val, Pipeline.run_point_lt_of_flush t h2 s⟩ j := by
  have e : ((outsAt0 m c t.val t.isLt).1 j : EReal) = (outsAt0 m c t.val t.isLt).2 j := by
    rw [outsAt0_C m c t (by omega) (by omega) h2]; frame_out
    pointwise [k0_pay4]
  refine e.trans ?_
  rw [Pipeline.eq_sum_fin_of_reset_step_apply_of_flush (M := EReal) (fun n h => (outsAt0 m c n h).2) 4 (fun _ => 0) (term m c)
    (fun t h j => acc_first m c t h j) (fun t h j => acc_next m c t h j) t h2 j, zero_add]
end

/-- Over the extended reals the call's array is the reference's. -/
theorem algebraic : Cert.algebraic_SsmWIdeal_SsmWRefIdeal := by
  intro m g m' g' hpre hagree
  refine ⟨_, Cert.SsmWIdeal.Value.run_blocks (F := Ideal) m g, ?_⟩
  refine (θ_run Cert.SsmWRefIdeal.defs _ _).mono (fun _ h c => ⟨(h c).1.trans ?_, (h c).2⟩)
    (Cert.SsmWRefIdeal.Value.run (F := Ideal) m' g')
  rw [(hagree c).1, (hagree c).2]
  symm
  open Cert.SsmWIdeal Cert.SsmWIdeal.Gen in
  refine (dats m 0 c).arrAt_eq_of_covers 2 _ (by decide +kernel) fun t hf y => ?_
  have hm := (Cert.SsmWIdeal.Gen.flush0_2 t).mp hf
  blk_simp
  rw [Cert.SsmWIdeal.Gen.after0_2]
  refine (out_last m c t hm y).trans ?_
  pointwise [term, Cert.SsmWIdeal.Gen.k0_pay1]
  obtain ⟨e0, e1, e2⟩ := idx t
  refine Fin.sum_mul_add_congr fun s k hl => ?_
  obtain ⟨f0, f1, f2⟩ := idx ⟨4 * (t.val / 4) + s.val, Pipeline.run_point_lt_of_flush t hm s⟩
  obtain ⟨c0, c1, c2⟩ := run_coords t s hm (Pipeline.run_point_lt_of_flush t hm s)
  rw [c0, c2] at f0; rw [c1, c2] at f1
  refine (mul_comm _ _).trans ?_
  blk_point [Cert.SsmWIdeal.Gen.iblk, Cert.SsmWIdeal.Gen.V, f0, f1, e2]

end Cert.Products.SsmW

end
-- ==== Proof.InW.lean ====
/- The gradient of the input projection's weight: the tiled product is the whole one. -/
module

public import proofs.«01_k».proof.Defs
public import proofs.«01_k».proof.Proof.Gen.InW.Frame
public import proofs.«01_k».proof.Proof.Gen.InWIdeal.Value
public import proofs.«01_k».proof.Proof.Gen.InWRefIdeal.Run
public import Idealize.ShloMosaic.Lib.Pipeline.ValueKit.Point
public import Idealize.ShloMosaic.Lib.Pipeline.ValueKit.Acc
public import Idealize.ShloMosaic.Lib.Pipeline.ReadBack

@[expose] public section
set_option maxRecDepth 16384
noncomputable section
namespace Cert.Products.InW
open Idealize.ShloMosaic Idealize.ShloMosaic.TcCoe Idealize.SL.Sem

/-- The call runs and keeps its arguments. -/
theorem frame_p : Cert.quiescent_InW := fun m ρ _ => Cert.InW.Gen.frame m ρ

/-- So does the call over the extended reals. -/
theorem frame_pi : Cert.quiescent_InWIdeal := fun m ρ _ => Cert.InWIdeal.Gen.frame m ρ

/-- The reference runs and keeps its arguments. -/
theorem frame_ri : Cert.quiescent_InWRefIdeal := fun m ρ _ =>
  (θ_run Cert.InWRefIdeal.defs _ _).mono (fun r h => And.intro (fun c => (h c).2)
      (Idealize.ShloMosaic.sem_eq_zero_of_no_sems (by decide) r.2))
    (Cert.InWRefIdeal.Value.run (F := Ideal) m ρ)

section
open Cert.InWIdeal Cert.InWIdeal.Gen
/-- Which blocks a grid point takes. -/
theorem idx : ∀ t : Fin grid0.N, win0_0.index t = ![(grid0.coords t 2).val, (grid0.coords t 0).val]
    ∧ win0_1.index t = ![(grid0.coords t 2).val, (grid0.coords t 1).val]
    ∧ win0_2.index t = ![(grid0.coords t 0).val, (grid0.coords t 1).val] := by decide +kernel

/-- The 4 points of a run have one block of the result, and walk the blocks of the rows summed over. -/
theorem run_coords : ∀ (t : Fin grid0.N) (s : Fin 4), t.val % 4 = 3 → ∀ h : 4 * (t.val / 4) + s.val < grid0.N,
    (grid0.coords ⟨4 * (t.val / 4) + s.val, h⟩ 0).val = (grid0.coords t 0).val
    ∧ (grid0.coords ⟨4 * (t.val / 4) + s.val, h⟩ 1).val = (grid0.coords t 1).val
    ∧ (grid0.coords ⟨4 * (t.val / 4) + s.val, h⟩ 2).val = s.val := by decide +kernel

variable (m : (ℓ : Loc nD τ sig) → Buf (Elt Ideal) ℓ)

/-- What a point adds to the running sum. -/
def term (c : Dev nD) (t : Fin cfg0.N) (j : S1024x1792.Idx) : EReal := k0_pay1 (F := Ideal) (iblk m c 0 t) (iblk m c 1 t) j

/-- The first point of a run stores its own product. -/
theorem acc_first (c : Dev nD) (t : Fin cfg0.N) (h : t.val % 4 = 0) (j : S1024x1792.Idx) :
    ((outsAt0 m c t.val t.isLt).2 j : EReal) = 0 + term m c t j := by
  rw [outsAt0_A m c t h (by omega) (by omega)]; frame_out
  pointwise [k0_pay2, term]

/-- The later points add theirs. -/
theorem acc_next (c : Dev nD) (t : Fin cfg0.N) (h : ¬t.val % 4 = 0) (j : S1024x1792.Idx) :
    ((outsAt0 m c t.val t.isLt).2 j : EReal)
      = (outsAt0 m c (t.val - 1) (Nat.lt_of_le_of_lt (Nat.sub_le _ _) t.isLt)).2 j + term m c t j := by
  by_cases h2 : t.val % 4 = 3
  · rw [outsAt0_C m c t h (by omega) h2]; frame_out
    simp only [read_unread_whole]
    pointwise [k0_pay3, term]
  · rw [outsAt0_B m c t h (by omega) h2]; frame_out
    simp only [read_unread_whole]
    pointwise [k0_pay3, term]

/-- The last point of a run stores the sum over the run. -/
theorem out_last (c : Dev nD) (t : Fin cfg0.N) (h2 : t.val % 4 = 3) (j : S1024x1792.Idx) :
    ((outsAt0 m c t.val t.isLt).1 j : EReal)
      = ∑ s : Fin 4, term m c ⟨4 * (t.val / 4) + s.val, Pipeline.run_point_lt_of_flush t h2 s⟩ j := by
  have e : ((outsAt0 m c t.val t.isLt).1 j : EReal) = (outsAt0 m c t.val t.isLt).2 j := by
    rw [outsAt0_C m c t (by omega) (by omega) h2]; frame_out
    pointwise [k0_pay4]
  refine e.trans ?_
  rw [Pipeline.eq_sum_fin_of_reset_step_apply_of_flush (M := EReal) (fun n h => (outsAt0 m c n h).2) 4 (fun _ => 0) (term m c)
    (fun t h j => acc_first m c t h j) (fun t h j => acc_next m c t h j) t h2 j, zero_add]
end

/-- Over the extended reals the call's array is the reference's. -/
theorem algebraic : Cert.algebraic_InWIdeal_InWRefIdeal := by
  intro m g m' g' hpre hagree
  refine ⟨_, Cert.InWIdeal.Value.run_blocks (F := Ideal) m g, ?_⟩
  refine (θ_run Cert.InWRefIdeal.defs _ _).mono (fun _ h c => ⟨(h c).1.trans ?_, (h c).2⟩)
    (Cert.InWRefIdeal.Value.run (F := Ideal) m' g')
  rw [(hagree c).1, (hagree c).2]
  symm
  open Cert.InWIdeal Cert.InWIdeal.Gen in
  refine (dats m 0 c).arrAt_eq_of_covers 2 _ (by decide +kernel) fun t hf y => ?_
  have hm := (Cert.InWIdeal.Gen.flush0_2 t).mp hf
  blk_simp
  rw [Cert.InWIdeal.Gen.after0_2]
  refine (out_last m c t hm y).trans ?_
  pointwise [term, Cert.InWIdeal.Gen.k0_pay1]
  obtain ⟨e0, e1, e2⟩ := idx t
  refine Fin.sum_mul_add_congr fun s k hl => ?_
  obtain ⟨f0, f1, f2⟩ := idx ⟨4 * (t.val / 4) + s.val, Pipeline.run_point_lt_of_flush t hm s⟩
  obtain ⟨c0, c1, c2⟩ := run_coords t s hm (Pipeline.run_point_lt_of_flush t hm s)
  rw [c0, c2] at f0; rw [c1, c2] at f1
  refine (mul_comm _ _).trans ?_
  blk_point [Cert.InWIdeal.Gen.iblk, Cert.InWIdeal.Gen.V, f0, f1, e2]

end Cert.Products.InW

end
-- ==== Proof.InZ.lean ====
/- The first part of the input projection: the tiled product is the whole one. -/
module

public import proofs.«01_k».proof.Defs
public import proofs.«01_k».proof.Proof.Gen.InZ.Frame
public import proofs.«01_k».proof.Proof.Gen.InZIdeal.Value
public import proofs.«01_k».proof.Proof.Gen.InZRefIdeal.Run
public import Idealize.ShloMosaic.Lib.Pipeline.ValueKit.Point

@[expose] public section
set_option maxRecDepth 16384
noncomputable section
namespace Cert.Products.InZ
open Idealize.ShloMosaic Idealize.ShloMosaic.TcCoe Idealize.SL.Sem

/-- The call runs and keeps its arguments. -/
theorem frame_p : Cert.quiescent_InZ := fun m ρ _ => Cert.InZ.Gen.frame m ρ

/-- So does the call over the extended reals. -/
theorem frame_pi : Cert.quiescent_InZIdeal := fun m ρ _ => Cert.InZIdeal.Gen.frame m ρ

/-- The reference runs and keeps its arguments. -/
theorem frame_ri : Cert.quiescent_InZRefIdeal := fun m ρ _ =>
  (θ_run Cert.InZRefIdeal.defs _ _).mono (fun r h => And.intro (fun c => (h c).2)
      (Idealize.ShloMosaic.sem_eq_zero_of_no_sems (by decide) r.2))
    (Cert.InZRefIdeal.Value.run (F := Ideal) m ρ)

section
open Cert.InZIdeal Cert.InZIdeal.Gen
/-- Which blocks a grid point takes. -/
theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel

variable (m : (ℓ : Loc nD τ sig) → Buf (Elt Ideal) ℓ)

/-- What a grid point finds of the weight: a block of its columns, none of which lies outside. -/
theorem weight (c : Dev nD) (t : Fin cfg0.N) (k : Fin 1024) (n : Fin 2048) (h : (grid0.coords t 1).val * 2048 + n.val < 10752) :
    (X0_1 m c t (ix2 k n) : EReal) = m ((c : Thread nD τ).loc main_arg1) (ix2 k ⟨(grid0.coords t 1).val * 2048 + n.val, h⟩) := by
  unfold X0_1 Pipeline.Window.fill
  rw [dif_pos (moved0_1 t _)]
  obtain ⟨e0, e1, e2⟩ := idx t
  blk_ext [iblk, V, e1]
end

/-- Over the extended reals the call's array is the reference's. -/
theorem algebraic : Cert.algebraic_InZIdeal_InZRefIdeal := by
  intro m g m' g' hpre hagree
  refine ⟨_, Cert.InZIdeal.Value.run_blocks (F := Ideal) m g, ?_⟩
  refine (θ_run Cert.InZRefIdeal.defs _ _).mono (fun _ h c => ⟨(h c).1.trans ?_, (h c).2⟩)
    (Cert.InZRefIdeal.Value.run (F := Ideal) m' g')
  rw [(hagree c).1, (hagree c).2]
  symm
  open Cert.InZIdeal Cert.InZIdeal.Gen in
  refine (dats m 0 c).arrAt_eq_of_covers 2 _ (by decide +kernel) fun t hf y => ?_
  blk_simp
  rw [Cert.InZIdeal.Gen.after0_2]; unfold Cert.InZIdeal.Gen.outsAt0; frame_out
  pointwise [Cert.InZIdeal.Gen.k0_pay1]
  obtain ⟨e0, e1, e2⟩ := idx t
  refine Fin.sum_fin_congr fun k => ?_
  have hc : (Cert.InZIdeal.grid0.coords t 1).val < 4 := (Cert.InZIdeal.grid0.coords t 1).isLt
  have hy : (y 1).val < 2048 := (y 1).isLt
  refine congrArg₂ (· * ·) ?_ ((weight m c t k (y 1) (by omega)).trans ?_)
  · blk_ext [Cert.InZIdeal.Gen.iblk, Cert.InZIdeal.Gen.V, e0, e2]
  · blk_ext [Cert.InZIdeal.Gen.iblk, Cert.InZIdeal.Gen.V, e1, e2]

end Cert.Products.InZ

end
-- ==== Proof.InQ.lean ====
/- The second part of the input projection: the tiled product is the whole one. -/
module

public import proofs.«01_k».proof.Defs
public import proofs.«01_k».proof.Proof.Gen.InQ.Frame
public import proofs.«01_k».proof.Proof.Gen.InQIdeal.Value
public import proofs.«01_k».proof.Proof.Gen.InQRefIdeal.Run
public import Idealize.ShloMosaic.Lib.Pipeline.ValueKit.Point

@[expose] public section
set_option maxRecDepth 16384
noncomputable section
namespace Cert.Products.InQ
open Idealize.ShloMosaic Idealize.ShloMosaic.TcCoe Idealize.SL.Sem

/-- The call runs and keeps its arguments. -/
theorem frame_p : Cert.quiescent_InQ := fun m ρ _ => Cert.InQ.Gen.frame m ρ

/-- So does the call over the extended reals. -/
theorem frame_pi : Cert.quiescent_InQIdeal := fun m ρ _ => Cert.InQIdeal.Gen.frame m ρ

/-- The reference runs and keeps its arguments. -/
theorem frame_ri : Cert.quiescent_InQRefIdeal := fun m ρ _ =>
  (θ_run Cert.InQRefIdeal.defs _ _).mono (fun r h => And.intro (fun c => (h c).2.2)
      (Idealize.ShloMosaic.sem_eq_zero_of_no_sems (by decide) r.2))
    (Cert.InQRefIdeal.Value.run (F := Ideal) m ρ)

section
open Cert.InQIdeal Cert.InQIdeal.Gen
/-- Which blocks a grid point takes. -/
theorem idx : ∀ t : Fin grid0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel
end

/-- Over the extended reals the call's arrays are the reference's. -/
theorem algebraic : Cert.algebraic_InQIdeal_InQRefIdeal := by
  intro m g m' g' hpre hagree
  refine ⟨_, _, Cert.InQIdeal.Value.run_blocks (F := Ideal) m g, ?_⟩
  refine (θ_run Cert.InQRefIdeal.defs _ _).mono (fun _ h c => ⟨(h c).1.trans ?_, (h c).2.1.trans ?_, (h c).2.2⟩)
    (Cert.InQRefIdeal.Value.run (F := Ideal) m' g')
  · rw [(hagree c).1, (hagree c).2]
    symm
    open Cert.InQIdeal Cert.InQIdeal.Gen in
    refine (dats m 0 c).arrAt_eq_of_covers 2 _ (by decide +kernel) fun t hf y => ?_
    blk_simp
    rw [Cert.InQIdeal.Gen.after0_2]; frame_out
    pointwise [Cert.InQIdeal.Gen.k0_pay1]
    obtain ⟨e0, e1, e2, e3⟩ := idx t
    blk_point [Cert.InQIdeal.Gen.iblk, Cert.InQIdeal.Gen.V, e0, e1, e2, e3]
  · rw [(hagree c).1, (hagree c).2]
    symm
    open Cert.InQIdeal Cert.InQIdeal.Gen in
    refine (dats m 0 c).arrAt_eq_of_covers 3 _ (by decide +kernel) fun t hf y => ?_
    blk_simp
    rw [Cert.InQIdeal.Gen.after0_3]; frame_out
    pointwise [Cert.InQIdeal.Gen.k0_pay1, Cert.InQIdeal.Gen.k0_pay2]
    obtain ⟨e0, e1, e2, e3⟩ := idx t
    blk_point [Cert.InQIdeal.Gen.iblk, Cert.InQIdeal.Gen.V, e0, e1, e2, e3]

end Cert.Products.InQ

end
-- ==== Proof.Att.lean ====
/- The attention's projection: the tiled product is the whole one. -/
module

public import proofs.«01_k».proof.Defs
public import proofs.«01_k».proof.Proof.Gen.Att.Frame
public import proofs.«01_k».proof.Proof.Gen.AttIdeal.Value
public import proofs.«01_k».proof.Proof.Gen.AttRefIdeal.Run
public import Idealize.ShloMosaic.Lib.Pipeline.ValueKit.Point

@[expose] public section
set_option maxRecDepth 16384
noncomputable section
namespace Cert.Products.Att
open Idealize.ShloMosaic Idealize.ShloMosaic.TcCoe Idealize.SL.Sem

/-- The call runs and keeps its arguments. -/
theorem frame_p : Cert.quiescent_Att := fun m ρ _ => Cert.Att.Gen.frame m ρ

/-- So does the call over the extended reals. -/
theorem frame_pi : Cert.quiescent_AttIdeal := fun m ρ _ => Cert.AttIdeal.Gen.frame m ρ

/-- The reference runs and keeps its arguments. -/
theorem frame_ri : Cert.quiescent_AttRefIdeal := fun m ρ _ =>
  (θ_run Cert.AttRefIdeal.defs _ _).mono (fun r h => And.intro (fun c => (h c).2)
      (Idealize.ShloMosaic.sem_eq_zero_of_no_sems (by decide) r.2))
    (Cert.AttRefIdeal.Value.run (F := Ideal) m ρ)

section
open Cert.AttIdeal Cert.AttIdeal.Gen
/-- Which blocks a grid point takes. -/
theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel
end

/-- Over the extended reals the call's array is the reference's. -/
theorem algebraic : Cert.algebraic_AttIdeal_AttRefIdeal := by
  intro m g m' g' hpre hagree
  refine ⟨_, Cert.AttIdeal.Value.run_blocks (F := Ideal) m g, ?_⟩
  refine (θ_run Cert.AttRefIdeal.defs _ _).mono (fun _ h c => ⟨(h c).1.trans ?_, (h c).2⟩)
    (Cert.AttRefIdeal.Value.run (F := Ideal) m' g')
  rw [(hagree c).1, (hagree c).2]
  symm
  open Cert.AttIdeal Cert.AttIdeal.Gen in
  refine (dats m 0 c).arrAt_eq_of_covers 2 _ (by decide +kernel) fun t hf y => ?_
  blk_simp
  rw [Cert.AttIdeal.Gen.after0_2]; frame_out
  pointwise [Cert.AttIdeal.Gen.k0_pay1]
  obtain ⟨e0, e1, e2⟩ := idx t
  blk_point [Cert.AttIdeal.Gen.iblk, Cert.AttIdeal.Gen.V, e0, e1, e2]

end Cert.Products.Att

end
-- ==== Proof.Ssm.lean ====
/- The state-space layer's projection: the tiled product is the whole one. -/
module

public import proofs.«01_k».proof.Defs
public import proofs.«01_k».proof.Proof.Gen.Ssm.Frame
public import proofs.«01_k».proof.Proof.Gen.SsmIdeal.Value
public import proofs.«01_k».proof.Proof.Gen.SsmRefIdeal.Run
public import Idealize.ShloMosaic.Lib.Pipeline.ValueKit.Point

@[expose] public section
set_option maxRecDepth 16384
noncomputable section
namespace Cert.Products.Ssm
open Idealize.ShloMosaic Idealize.ShloMosaic.TcCoe Idealize.SL.Sem

/-- The call runs and keeps its arguments. -/
theorem frame_p : Cert.quiescent_Ssm := fun m ρ _ => Cert.Ssm.Gen.frame m ρ

/-- So does the call over the extended reals. -/
theorem frame_pi : Cert.quiescent_SsmIdeal := fun m ρ _ => Cert.SsmIdeal.Gen.frame m ρ

/-- The reference runs and keeps its arguments. -/
theorem frame_ri : Cert.quiescent_SsmRefIdeal := fun m ρ _ =>
  (θ_run Cert.SsmRefIdeal.defs _ _).mono (fun r h => And.intro (fun c => (h c).2)
      (Idealize.ShloMosaic.sem_eq_zero_of_no_sems (by decide) r.2))
    (Cert.SsmRefIdeal.Value.run (F := Ideal) m ρ)

section
open Cert.SsmIdeal Cert.SsmIdeal.Gen
/-- Which blocks a grid point takes. -/
theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel
end

/-- Over the extended reals the call's array is the reference's. -/
theorem algebraic : Cert.algebraic_SsmIdeal_SsmRefIdeal := by
  intro m g m' g' hpre hagree
  refine ⟨_, Cert.SsmIdeal.Value.run_blocks (F := Ideal) m g, ?_⟩
  refine (θ_run Cert.SsmRefIdeal.defs _ _).mono (fun _ h c => ⟨(h c).1.trans ?_, (h c).2⟩)
    (Cert.SsmRefIdeal.Value.run (F := Ideal) m' g')
  rw [(hagree c).1, (hagree c).2]
  symm
  open Cert.SsmIdeal Cert.SsmIdeal.Gen in
  refine (dats m 0 c).arrAt_eq_of_covers 2 _ (by decide +kernel) fun t hf y => ?_
  blk_simp
  rw [Cert.SsmIdeal.Gen.after0_2]; frame_out
  pointwise [Cert.SsmIdeal.Gen.k0_pay1]
  obtain ⟨e0, e1, e2⟩ := idx t
  blk_point [Cert.SsmIdeal.Gen.iblk, Cert.SsmIdeal.Gen.V, e0, e1, e2]

end Cert.Products.Ssm

end
-- ==== Proof.Out.lean ====
/- The output projection: the tiled product is the whole one. -/
module

public import proofs.«01_k».proof.Defs
public import proofs.«01_k».proof.Proof.Gen.Out.Frame
public import proofs.«01_k».proof.Proof.Gen.OutIdeal.Value
public import proofs.«01_k».proof.Proof.Gen.OutRefIdeal.Run
public import Idealize.ShloMosaic.Lib.Pipeline.ValueKit.Point

@[expose] public section
set_option maxRecDepth 16384
noncomputable section
namespace Cert.Products.Out
open Idealize.ShloMosaic Idealize.ShloMosaic.TcCoe Idealize.SL.Sem

/-- The call runs and keeps its arguments. -/
theorem frame_p : Cert.quiescent_Out := fun m ρ _ => Cert.Out.Gen.frame m ρ

/-- So does the call over the extended reals. -/
theorem frame_pi : Cert.quiescent_OutIdeal := fun m ρ _ => Cert.OutIdeal.Gen.frame m ρ

/-- The reference runs and keeps its arguments. -/
theorem frame_ri : Cert.quiescent_OutRefIdeal := fun m ρ _ =>
  (θ_run Cert.OutRefIdeal.defs _ _).mono (fun r h => And.intro (fun c => (h c).2)
      (Idealize.ShloMosaic.sem_eq_zero_of_no_sems (by decide) r.2))
    (Cert.OutRefIdeal.Value.run (F := Ideal) m ρ)

section
open Cert.OutIdeal Cert.OutIdeal.Gen
/-- Which blocks a grid point takes. -/
theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel
end

/-- Over the extended reals the call's array is the reference's. -/
theorem algebraic : Cert.algebraic_OutIdeal_OutRefIdeal := by
  intro m g m' g' hpre hagree
  refine ⟨_, Cert.OutIdeal.Value.run_blocks (F := Ideal) m g, ?_⟩
  refine (θ_run Cert.OutRefIdeal.defs _ _).mono (fun _ h c => ⟨(h c).1.trans ?_, (h c).2⟩)
    (Cert.OutRefIdeal.Value.run (F := Ideal) m' g')
  rw [(hagree c).1, (hagree c).2]
  symm
  open Cert.OutIdeal Cert.OutIdeal.Gen in
  refine (dats m 0 c).arrAt_eq_of_covers 2 _ (by decide +kernel) fun t hf y => ?_
  blk_simp
  rw [Cert.OutIdeal.Gen.after0_2]; frame_out
  pointwise [Cert.OutIdeal.Gen.k0_pay1]
  obtain ⟨e0, e1, e2⟩ := idx t
  blk_point [Cert.OutIdeal.Gen.iblk, Cert.OutIdeal.Gen.V, e0, e1, e2]

end Cert.Products.Out

end
-- ==== Proof.FfnUp.lean ====
/- The feed-forward's first layer: the tiled product is the whole one. -/
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Pipeline.ValueKit.Point

@[expose] public section
set_option maxRecDepth 16384
noncomputable section
namespace Cert.Products.FfnUp
open Idealize.ShloMosaic Idealize.ShloMosaic.TcCoe Idealize.SL.Sem

/-- The call runs and keeps its arguments. -/
theorem frame_p : Cert.quiescent_FfnUp := fun m ρ _ => Cert.FfnUp.Gen.frame m ρ

/-- So does the call over the extended reals. -/
theorem frame_pi : Cert.quiescent_FfnUpIdeal := fun m ρ _ => Cert.FfnUpIdeal.Gen.frame m ρ

/-- The reference runs and keeps its arguments. -/
theorem frame_ri : Cert.quiescent_FfnUpRefIdeal := fun m ρ _ =>
  (θ_run Cert.FfnUpRefIdeal.defs _ _).mono (fun r h => And.intro (fun c => (h c).2.2)
      (Idealize.ShloMosaic.sem_eq_zero_of_no_sems (by decide) r.2))
    (Cert.FfnUpRefIdeal.Value.run (F := Ideal) m ρ)

section
open Cert.FfnUpIdeal Cert.FfnUpIdeal.Gen
/-- Which blocks a grid point takes. -/
theorem idx : ∀ t : Fin grid0.N, win0_0.index t = ![(grid0.coords t 0).val, 0]
    ∧ win0_1.index t = ![(grid0.coords t 1).val, 0, 0]
    ∧ win0_2.index t = ![(grid0.coords t 0).val, (grid0.coords t 1).val]
    ∧ win0_3.index t = ![(grid0.coords t 0).val, (grid0.coords t 1).val] := by decide +kernel
end

/-- Over the extended reals the call's arrays are the reference's. -/
theorem algebraic : Cert.algebraic_FfnUpIdeal_FfnUpRefIdeal := by
  intro m g m' g' hpre hagree
  refine ⟨_, _, Cert.FfnUpIdeal.Value.run_blocks (F := Ideal) m g, ?_⟩
  refine (θ_run Cert.FfnUpRefIdeal.defs _ _).mono (fun _ h c => ⟨(h c).1.trans ?_, (h c).2.1.trans ?_, (h c).2.2⟩)
    (Cert.FfnUpRefIdeal.Value.run (F := Ideal) m' g')
  · rw [(hagree c).1, (hagree c).2]
    symm
    open Cert.FfnUpIdeal Cert.FfnUpIdeal.Gen in
    refine (dats m 0 c).arrAt_eq_of_covers 2 _ (by decide +kernel) fun t hf y => ?_
    blk_simp
    rw [Cert.FfnUpIdeal.Gen.after0_2]; frame_out
    pointwise [Cert.FfnUpIdeal.Gen.k0_pay1, Cert.FfnUpIdeal.Gen.k0_pay2]
    obtain ⟨e0, e1, e2, e3⟩ := idx t
    blk_point [Cert.FfnUpIdeal.Gen.iblk, Cert.FfnUpIdeal.Gen.V, e0, e1, e2, e3]
  · rw [(hagree c).1, (hagree c).2]
    symm
    open Cert.FfnUpIdeal Cert.FfnUpIdeal.Gen in
    refine (dats m 0 c).arrAt_eq_of_covers 3 _ (by decide +kernel) fun t hf y => ?_
    blk_simp
    rw [Cert.FfnUpIdeal.Gen.after0_3]; frame_out
    pointwise [Cert.FfnUpIdeal.Gen.k0_pay1, Cert.FfnUpIdeal.Gen.k0_pay3]
    obtain ⟨e0, e1, e2, e3⟩ := idx t
    blk_point [Cert.FfnUpIdeal.Gen.iblk, Cert.FfnUpIdeal.Gen.V, e0, e1, e2, e3]

end Cert.Products.FfnUp

end
-- ==== Proof.FfnDown.lean ====
/- The feed-forward's second layer: the tiled product is the whole one. -/
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Pipeline.ValueKit.Point

@[expose] public section
set_option maxRecDepth 16384
noncomputable section
namespace Cert.Products.FfnDown
open Idealize.ShloMosaic Idealize.ShloMosaic.TcCoe Idealize.SL.Sem

/-- The call runs and keeps its arguments. -/
theorem frame_p : Cert.quiescent_FfnDown := fun m ρ _ => Cert.FfnDown.Gen.frame m ρ

/-- So does the call over the extended reals. -/
theorem frame_pi : Cert.quiescent_FfnDownIdeal := fun m ρ _ => Cert.FfnDownIdeal.Gen.frame m ρ

/-- The reference runs and keeps its arguments. -/
theorem frame_ri : Cert.quiescent_FfnDownRefIdeal := fun m ρ _ =>
  (θ_run Cert.FfnDownRefIdeal.defs _ _).mono (fun r h => And.intro (fun c => (h c).2)
      (Idealize.ShloMosaic.sem_eq_zero_of_no_sems (by decide) r.2))
    (Cert.FfnDownRefIdeal.Value.run (F := Ideal) m ρ)

section
open Cert.FfnDownIdeal Cert.FfnDownIdeal.Gen
/-- Which blocks a grid point takes. -/
theorem idx : ∀ t : Fin grid0.N, win0_0.index t = ![(grid0.coords t 0).val, 0]
    ∧ win0_1.index t = ![0, (grid0.coords t 1).val]
    ∧ win0_2.index t = ![(grid0.coords t 0).val, (grid0.coords t 1).val] := by decide +kernel
end

/-- Over the extended reals the call's array is the reference's. -/
theorem algebraic : Cert.algebraic_FfnDownIdeal_FfnDownRefIdeal := by
  intro m g m' g' hpre hagree
  refine ⟨_, Cert.FfnDownIdeal.Value.run_blocks (F := Ideal) m g, ?_⟩
  refine (θ_run Cert.FfnDownRefIdeal.defs _ _).mono (fun _ h c => ⟨(h c).1.trans ?_, (h c).2⟩)
    (Cert.FfnDownRefIdeal.Value.run (F := Ideal) m' g')
  rw [(hagree c).1, (hagree c).2]
  symm
  open Cert.FfnDownIdeal Cert.FfnDownIdeal.Gen in
  refine (dats m 0 c).arrAt_eq_of_covers 2 _ (by decide +kernel) fun t hf y => ?_
  blk_simp
  rw [Cert.FfnDownIdeal.Gen.after0_2]; frame_out
  pointwise [Cert.FfnDownIdeal.Gen.k0_pay1]
  obtain ⟨e0, e1, e2⟩ := idx t
  blk_point [Cert.FfnDownIdeal.Gen.iblk, Cert.FfnDownIdeal.Gen.V, e0, e1, e2]

end Cert.Products.FfnDown

end
-- ==== Proof.lean ====
module

public import proofs.«01_k».proof.Defs
public import proofs.«01_k».proof.Proof.Claims
public import proofs.«01_k».proof.Proof.FfnDownX
public import proofs.«01_k».proof.Proof.FfnUpX
public import proofs.«01_k».proof.Proof.OutX
public import proofs.«01_k».proof.Proof.AttX
public import proofs.«01_k».proof.Proof.SsmX
public import proofs.«01_k».proof.Proof.InX
public import proofs.«01_k».proof.Proof.FfnDownW
public import proofs.«01_k».proof.Proof.FfnUpW
public import proofs.«01_k».proof.Proof.OutW
public import proofs.«01_k».proof.Proof.AttW
public import proofs.«01_k».proof.Proof.SsmW
public import proofs.«01_k».proof.Proof.InW
public import proofs.«01_k».proof.Proof.InZ
public import proofs.«01_k».proof.Proof.InQ
public import proofs.«01_k».proof.Proof.Att
public import proofs.«01_k».proof.Proof.Ssm
public import proofs.«01_k».proof.Proof.Out
public import proofs.«01_k».proof.Proof.FfnUp
public import proofs.«01_k».proof.Proof.FfnDown

@[expose] public section

noncomputable section

namespace Cert.Proof

/-- All the claims. -/
theorem claim : Cert.Claim :=
  ⟨Cert.Kernel.Gen.facts, Cert.KernelIdeal.Gen.facts, Cert.ReferenceIdeal.Gen.facts,
    Cert.FfnDownX.Gen.facts, Cert.FfnDownXIdeal.Gen.facts, Cert.FfnDownXRefIdeal.Gen.facts,
    Cert.FfnUpX.Gen.facts, Cert.FfnUpXIdeal.Gen.facts, Cert.FfnUpXRefIdeal.Gen.facts,
    Cert.OutX.Gen.facts, Cert.OutXIdeal.Gen.facts, Cert.OutXRefIdeal.Gen.facts,
    Cert.AttX.Gen.facts, Cert.AttXIdeal.Gen.facts, Cert.AttXRefIdeal.Gen.facts,
    Cert.SsmX.Gen.facts, Cert.SsmXIdeal.Gen.facts, Cert.SsmXRefIdeal.Gen.facts,
    Cert.InX.Gen.facts, Cert.InXIdeal.Gen.facts, Cert.InXRefIdeal.Gen.facts,
    Cert.FfnDownW.Gen.facts, Cert.FfnDownWIdeal.Gen.facts, Cert.FfnDownWRefIdeal.Gen.facts,
    Cert.FfnUpW.Gen.facts, Cert.FfnUpWIdeal.Gen.facts, Cert.FfnUpWRefIdeal.Gen.facts,
    Cert.OutW.Gen.facts, Cert.OutWIdeal.Gen.facts, Cert.OutWRefIdeal.Gen.facts,
    Cert.AttW.Gen.facts, Cert.AttWIdeal.Gen.facts, Cert.AttWRefIdeal.Gen.facts,
    Cert.SsmW.Gen.facts, Cert.SsmWIdeal.Gen.facts, Cert.SsmWRefIdeal.Gen.facts,
    Cert.InW.Gen.facts, Cert.InWIdeal.Gen.facts, Cert.InWRefIdeal.Gen.facts,
    Cert.InZ.Gen.facts, Cert.InZIdeal.Gen.facts, Cert.InZRefIdeal.Gen.facts,
    Cert.InQ.Gen.facts, Cert.InQIdeal.Gen.facts, Cert.InQRefIdeal.Gen.facts,
    Cert.Att.Gen.facts, Cert.AttIdeal.Gen.facts, Cert.AttRefIdeal.Gen.facts,
    Cert.Ssm.Gen.facts, Cert.SsmIdeal.Gen.facts, Cert.SsmRefIdeal.Gen.facts,
    Cert.Out.Gen.facts, Cert.OutIdeal.Gen.facts, Cert.OutRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.Attn.preFacts,
    Cert.Attn.frame_p, Cert.Attn.frame_pi, Cert.Attn.frame_pi_pre, Cert.Attn.frame_ri, Cert.Attn.frame_ri_pre,
    Cert.Products.FfnDownX.frame_p, Cert.Products.FfnDownX.frame_pi, Cert.Products.FfnDownX.frame_ri,
    Cert.Products.FfnUpX.frame_p, Cert.Products.FfnUpX.frame_pi, Cert.Products.FfnUpX.frame_ri,
    Cert.Products.OutX.frame_p, Cert.Products.OutX.frame_pi, Cert.Products.OutX.frame_ri,
    Cert.Products.AttX.frame_p, Cert.Products.AttX.frame_pi, Cert.Products.AttX.frame_ri,
    Cert.Products.SsmX.frame_p, Cert.Products.SsmX.frame_pi, Cert.Products.SsmX.frame_ri,
    Cert.Products.InX.frame_p, Cert.Products.InX.frame_pi, Cert.Products.InX.frame_ri,
    Cert.Products.FfnDownW.frame_p, Cert.Products.FfnDownW.frame_pi, Cert.Products.FfnDownW.frame_ri,
    Cert.Products.FfnUpW.frame_p, Cert.Products.FfnUpW.frame_pi, Cert.Products.FfnUpW.frame_ri,
    Cert.Products.OutW.frame_p, Cert.Products.OutW.frame_pi, Cert.Products.OutW.frame_ri,
    Cert.Products.AttW.frame_p, Cert.Products.AttW.frame_pi, Cert.Products.AttW.frame_ri,
    Cert.Products.SsmW.frame_p, Cert.Products.SsmW.frame_pi, Cert.Products.SsmW.frame_ri,
    Cert.Products.InW.frame_p, Cert.Products.InW.frame_pi, Cert.Products.InW.frame_ri,
    Cert.Products.InZ.frame_p, Cert.Products.InZ.frame_pi, Cert.Products.InZ.frame_ri,
    Cert.Products.InQ.frame_p, Cert.Products.InQ.frame_pi, Cert.Products.InQ.frame_ri,
    Cert.Products.Att.frame_p, Cert.Products.Att.frame_pi, Cert.Products.Att.frame_ri,
    Cert.Products.Ssm.frame_p, Cert.Products.Ssm.frame_pi, Cert.Products.Ssm.frame_ri,
    Cert.Products.Out.frame_p, Cert.Products.Out.frame_pi, Cert.Products.Out.frame_ri,
    Cert.Products.FfnUp.frame_p, Cert.Products.FfnUp.frame_pi, Cert.Products.FfnUp.frame_ri,
    Cert.Products.FfnDown.frame_p, Cert.Products.FfnDown.frame_pi, Cert.Products.FfnDown.frame_ri,
    Cert.Attn.preserves, Cert.Attn.algebraic,
    trivial, Cert.Products.FfnDownX.algebraic,
    trivial, Cert.Products.FfnUpX.algebraic,
    trivial, Cert.Products.OutX.algebraic,
    trivial, Cert.Products.AttX.algebraic,
    trivial, Cert.Products.SsmX.algebraic,
    trivial, Cert.Products.InX.algebraic,
    trivial, Cert.Products.FfnDownW.algebraic,
    trivial, Cert.Products.FfnUpW.algebraic,
    trivial, Cert.Products.OutW.algebraic,
    trivial, Cert.Products.AttW.algebraic,
    trivial, Cert.Products.SsmW.algebraic,
    trivial, Cert.Products.InW.algebraic,
    trivial, Cert.Products.InZ.algebraic,
    trivial, Cert.Products.InQ.algebraic,
    trivial, Cert.Products.Att.algebraic,
    trivial, Cert.Products.Ssm.algebraic,
    trivial, Cert.Products.Out.algebraic,
    trivial, Cert.Products.FfnUp.algebraic,
    trivial, Cert.Products.FfnDown.algebraic⟩

end Cert.Proof

end
